-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S1 : Shape := ⟨1, ![1]⟩
abbrev S32x128x128 : Shape := ⟨3, ![32, 128, 128]⟩
abbrev S32x128x2048 : Shape := ⟨3, ![32, 128, 2048]⟩
abbrev S_ : Shape := ⟨0, ![]⟩
abbrev S32 : Shape := ⟨1, ![32]⟩
abbrev S1x32 : Shape := ⟨2, ![1, 32]⟩
abbrev S1x1x32 : Shape := ⟨3, ![1, 1, 32]⟩
abbrev S1x1x1 : Shape := ⟨3, ![1, 1, 1]⟩
abbrev S128x2048 : Shape := ⟨2, ![128, 2048]⟩
abbrev S1x128x2048 : Shape := ⟨3, ![1, 128, 2048]⟩
abbrev S128x128 : Shape := ⟨2, ![128, 128]⟩
abbrev S1x128x128 : Shape := ⟨3, ![1, 128, 128]⟩

abbrev nBuf : Space → Nat
  | .hbm => 5
  | .vmem => 9
  | .smem => 2
  | _ => 0

abbrev bufTy : (tb : Table) → Fin (tcTables nBuf tb) → BufTy
  | .hbm, ⟨0, _⟩ => ⟨S4096x128, .fp8e4m3⟩
  | .hbm, ⟨1, _⟩ => ⟨S128x8192, .fp8e4m3⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .fp8e4m3⟩
  | .local _ .vmem, ⟨1, _⟩ => ⟨S128x8192, .fp8e4m3⟩
  | .local _ .vmem, ⟨2, _⟩ => ⟨S128x8192, .f32⟩
  | .local _ .vmem, ⟨3, _⟩ => ⟨S4096x128, .fp8e4m3⟩
  | .local _ .vmem, ⟨4, _⟩ => ⟨S32x128x128, .fp8e4m3⟩
  | .local _ .vmem, ⟨5, _⟩ => ⟨S32x128x2048, .fp8e4m3⟩
  | .local _ .vmem, ⟨6, _⟩ => ⟨S32x128x2048, .fp8e4m3⟩
  | .local _ .vmem, ⟨7, _⟩ => ⟨S32x128x2048, .fp8e4m3⟩
  | .local _ .vmem, ⟨8, _⟩ => ⟨S32x128x2048, .fp8e4m3⟩
  | .local _ .smem, ⟨0, _⟩ => ⟨S1, .f32⟩
  | .local _ .smem, ⟨1, _⟩ => ⟨S1, .f32⟩
  | _, _ => ⟨S4096x128, .fp8e4m3⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 139 → Bool
  | ⟨i, _⟩ => dmaSemScopedAt i

abbrev sig : RefSig :=
  (ofTc nBuf bufTy 1 139 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c0_i32_61 : BitVec 32 := 0#32
  let c32_i32_62 : BitVec 32 := 32#32
  let v188 : BitVec 32 := Scalar.addi c0_i32_61 c32_i32_62
  let c1_i32_63 : BitVec 32 := 1#32
  ⟨c0_i32_61, v188, c1_i32_63⟩
def k0_dev1 (k0_t1 : Fin k0_t1_loop.trips) : Nat :=
  let c0_i32_392 : BitVec 32 := 0#32
  let c0_i32_61 : BitVec 32 := 0#32
  let c1_i32_63 : BitVec 32 := 1#32
  let arg21 : BitVec 32 := Scf.iv c0_i32_61 c1_i32_63 k0_t1
  let c1_i32_391 : BitVec 32 := 1#32
  let v681 : BitVec 32 := Scalar.muli arg21 c1_i32_391
  let v682 : BitVec 32 := Scalar.addi c0_i32_392 v681
  v682.toNat
def k0_off1 (v147 : BitVec 32) : Fin 3 → Nat :=
  let v196 : Index := Scalar.indexCast v147
  let c0_71 : Index := 0#32
  let c0_72 : Index := 0#32
  ![v196.toNat, 0, 0]

def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v218 : BitVec 32 := Scalar.muli v2 c128_i32
  let v219 : Index := Scalar.indexCast v218
  let c0_82 : Index := 0#32
  ![v219.toNat, 0]
def k0_off3 (v147 : BitVec 32) : Fin 3 → Nat :=
  let v221 : Index := Scalar.indexCast v147
  let c0_83 : Index := 0#32
  let c0_84 : Index := 0#32
  ![v221.toNat, 0, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_85 : BitVec 32 := 0#32
  let v225 : BitVec 1 := Scalar.cmpi .ne v2 c0_i32_85
  let v226 : BitVec 32 := Scalar.extui v225
  let c0_i32_86 : BitVec 32 := 0#32
  let v227 : BitVec 1 := Scalar.cmpi .ne v226 c0_i32_86
  v227

def k0_off4 (v147 : BitVec 32) : Fin 3 → Nat :=
  let c0_i32_393 : BitVec 32 := 0#32
  let c0_i32_394 : BitVec 32 := 0#32
  ![v147.toNat, 0, 0]
def k0_dev2 : Nat :=
  let c0_i32_392 : BitVec 32 := 0#32
  let c0_i32_390 : BitVec 32 := 0#32
  let c1_i32_391 : BitVec 32 := 1#32
  let v681 : BitVec 32 := Scalar.muli c0_i32_390 c1_i32_391
  let v682 : BitVec 32 := Scalar.addi c0_i32_392 v681
  v682.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_87 : BitVec 32 := 1#32
  let v228 : BitVec 1 := Scalar.cmpi .ne v2 c1_i32_87
  let v229 : BitVec 32 := Scalar.extui v228
  let c0_i32_88 : BitVec 32 := 0#32
  let v230 : BitVec 1 := Scalar.cmpi .ne v229 c0_i32_88
  v230

def k0_off5 (v147 : BitVec 32) : Fin 3 → Nat :=
  let c0_i32_393 : BitVec 32 := 0#32
  let c0_i32_394 : BitVec 32 := 0#32
  ![v147.toNat, 0, 0]
def k0_dev3 : Nat :=
  let c0_i32_392 : BitVec 32 := 0#32
  let c1_i32_390 : BitVec 32 := 1#32
  let c1_i32_391 : BitVec 32 := 1#32
  let v681 : BitVec 32 := Scalar.muli c1_i32_390 c1_i32_391
  let v682 : BitVec 32 := Scalar.addi c0_i32_392 v681
  v682.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_89 : BitVec 32 := 2#32
  let v231 : BitVec 1 := Scalar.cmpi .ne v2 c2_i32_89
  let v232 : BitVec 32 := Scalar.extui v231
  let c0_i32_90 : BitVec 32 := 0#32
  let v233 : BitVec 1 := Scalar.cmpi .ne v232 c0_i32_90
  v233

def k0_off6 (v147 : BitVec 32) : Fin 3 → Nat :=
  let c0_i32_393 : BitVec 32 := 0#32
  let c0_i32_394 : BitVec 32 := 0#32
  ![v147.toNat, 0, 0]
def k0_dev4 : Nat :=
  let c0_i32_392 : BitVec 32 := 0#32
  let c2_i32_390 : BitVec 32 := 2#32
  let c1_i32_391 : BitVec 32 := 1#32
  let v681 : BitVec 32 := Scalar.muli c2_i32_390 c1_i32_391
  let v682 : BitVec 32 := Scalar.addi c0_i32_392 v681
  v682.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_91 : BitVec 32 := 3#32
  let v234 : BitVec 1 := Scalar.cmpi .ne v2 c3_i32_91
  let v235 : BitVec 32 := Scalar.extui v234
  let c0_i32_92 : BitVec 32 := 0#32
  let v236 : BitVec 1 := Scalar.cmpi .ne v235 c0_i32_92
  v236

def k0_off7 (v147 : BitVec 32) : Fin 3 → Nat :=
  let c0_i32_393 : BitVec 32 := 0#32
  let c0_i32_394 : BitVec 32 := 0#32
  ![v147.toNat, 0, 0]
def k0_dev5 : Nat :=
  let c0_i32_392 : BitVec 32 := 0#32
  let c3_i32_390 : BitVec 32 := 3#32
  let c1_i32_391 : BitVec 32 := 1#32
  let v681 : BitVec 32 := Scalar.muli c3_i32_390 c1_i32_391
  let v682 : BitVec 32 := Scalar.addi c0_i32_392 v681
  v682.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_93 : BitVec 32 := 4#32
  let v237 : BitVec 1 := Scalar.cmpi .ne v2 c4_i32_93
  let v238 : BitVec 32 := Scalar.extui v237
  let c0_i32_94 : BitVec 32 := 0#32
  let v239 : BitVec 1 := Scalar.cmpi .ne v238 c0_i32_94
  v239

def k0_off8 (v147 : BitVec 32) : Fin 3 → Nat :=
  let c0_i32_393 : BitVec 32 := 0#32
  let c0_i32_394 : BitVec 32 := 0#32
  ![v147.toNat, 0, 0]
def k0_dev6 : Nat :=
  let c0_i32_392 : BitVec 32 := 0#32
  let c4_i32_390 : BitVec 32 := 4#32
  let c1_i32_391 : BitVec 32 := 1#32
  let v681 : BitVec 32 := Scalar.muli c4_i32_390 c1_i32_391
  let v682 : BitVec 32 := Scalar.addi c0_i32_392 v681
  v682.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v240 : BitVec 1 := Scalar.cmpi .ne v2 c5_i32
  let v241 : BitVec 32 := Scalar.extui v240
  let c0_i32_95 : BitVec 32 := 0#32
  let v242 : BitVec 1 := Scalar.cmpi .ne v241 c0_i32_95
  v242

def k0_off9 (v147 : BitVec 32) : Fin 3 → Nat :=
  let c0_i32_393 : BitVec 32 := 0#32
  let c0_i32_394 : BitVec 32 := 0#32
  ![v147.toNat, 0, 0]
def k0_dev7 : Nat :=
  let c0_i32_392 : BitVec 32 := 0#32
  let c5_i32_390 : BitVec 32 := 5#32
  let c1_i32_391 : BitVec 32 := 1#32
  let v681 : BitVec 32 := Scalar.muli c5_i32_390 c1_i32_391
  let v682 : BitVec 32 := Scalar.addi c0_i32_392 v681
  v682.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v243 : BitVec 1 := Scalar.cmpi .ne v2 c6_i32
  let v244 : BitVec 32 := Scalar.extui v243
  let c0_i32_96 : BitVec 32 := 0#32
  let v245 : BitVec 1 := Scalar.cmpi .ne v244 c0_i32_96
  v245

def k0_off10 (v147 : BitVec 32) : Fin 3 → Nat :=
  let c0_i32_393 : BitVec 32 := 0#32
  let c0_i32_394 : BitVec 32 := 0#32
  ![v147.toNat, 0, 0]
def k0_dev8 : Nat :=
  let c0_i32_392 : BitVec 32 := 0#32
  let c6_i32_390 : BitVec 32 := 6#32
  let c1_i32_391 : BitVec 32 := 1#32
  let v681 : BitVec 32 := Scalar.muli c6_i32_390 c1_i32_391
  let v682 : BitVec 32 := Scalar.addi c0_i32_392 v681
  v682.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v246 : BitVec 1 := Scalar.cmpi .ne v2 c7_i32
  let v247 : BitVec 32 := Scalar.extui v246
  let c0_i32_97 : BitVec 32 := 0#32
  let v248 : BitVec 1 := Scalar.cmpi .ne v247 c0_i32_97
  v248

def k0_off11 (v147 : BitVec 32) : Fin 3 → Nat :=
  let c0_i32_393 : BitVec 32 := 0#32
  let c0_i32_394 : BitVec 32 := 0#32
  ![v147.toNat, 0, 0]
def k0_dev9 : Nat :=
  let c0_i32_392 : BitVec 32 := 0#32
  let c7_i32_390 : BitVec 32 := 7#32
  let c1_i32_391 : BitVec 32 := 1#32
  let v681 : BitVec 32 := Scalar.muli c7_i32_390 c1_i32_391
  let v682 : BitVec 32 := Scalar.addi c0_i32_392 v681
  v682.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_98 : BitVec 32 := 8#32
  let v249 : BitVec 1 := Scalar.cmpi .ne v2 c8_i32_98
  let v250 : BitVec 32 := Scalar.extui v249
  let c0_i32_99 : BitVec 32 := 0#32
  let v251 : BitVec 1 := Scalar.cmpi .ne v250 c0_i32_99
  v251

def k0_off12 (v147 : BitVec 32) : Fin 3 → Nat :=
  let c0_i32_393 : BitVec 32 := 0#32
  let c0_i32_394 : BitVec 32 := 0#32
  ![v147.toNat, 0, 0]
def k0_dev10 : Nat :=
  let c0_i32_392 : BitVec 32 := 0#32
  let c8_i32_390 : BitVec 32 := 8#32
  let c1_i32_391 : BitVec 32 := 1#32
  let v681 : BitVec 32 := Scalar.muli c8_i32_390 c1_i32_391
  let v682 : BitVec 32 := Scalar.addi c0_i32_392 v681
  v682.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v252 : BitVec 1 := Scalar.cmpi .ne v2 c9_i32
  let v253 : BitVec 32 := Scalar.extui v252
  let c0_i32_100 : BitVec 32 := 0#32
  let v254 : BitVec 1 := Scalar.cmpi .ne v253 c0_i32_100
  v254

def k0_off13 (v147 : BitVec 32) : Fin 3 → Nat :=
  let c0_i32_393 : BitVec 32 := 0#32
  let c0_i32_394 : BitVec 32 := 0#32
  ![v147.toNat, 0, 0]
def k0_dev11 : Nat :=
  let c0_i32_392 : BitVec 32 := 0#32
  let c9_i32_390 : BitVec 32 := 9#32
  let c1_i32_391 : BitVec 32 := 1#32
  let v681 : BitVec 32 := Scalar.muli c9_i32_390 c1_i32_391
  let v682 : BitVec 32 := Scalar.addi c0_i32_392 v681
  v682.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v255 : BitVec 1 := Scalar.cmpi .ne v2 c10_i32
  let v256 : BitVec 32 := Scalar.extui v255
  let c0_i32_101 : BitVec 32 := 0#32
  let v257 : BitVec 1 := Scalar.cmpi .ne v256 c0_i32_101
  v257

def k0_off14 (v147 : BitVec 32) : Fin 3 → Nat :=
  let c0_i32_393 : BitVec 32 := 0#32
  let c0_i32_394 : BitVec 32 := 0#32
  ![v147.toNat, 0, 0]
def k0_dev12 : Nat :=
  let c0_i32_392 : BitVec 32 := 0#32
  let c10_i32_390 : BitVec 32 := 10#32
  let c1_i32_391 : BitVec 32 := 1#32
  let v681 : BitVec 32 := Scalar.muli c10_i32_390 c1_i32_391
  let v682 : BitVec 32 := Scalar.addi c0_i32_392 v681
  v682.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v258 : BitVec 1 := Scalar.cmpi .ne v2 c11_i32
  let v259 : BitVec 32 := Scalar.extui v258
  let c0_i32_102 : BitVec 32 := 0#32
  let v260 : BitVec 1 := Scalar.cmpi .ne v259 c0_i32_102
  v260

def k0_off15 (v147 : BitVec 32) : Fin 3 → Nat :=
  let c0_i32_393 : BitVec 32 := 0#32
  let c0_i32_394 : BitVec 32 := 0#32
  ![v147.toNat, 0, 0]
def k0_dev13 : Nat :=
  let c0_i32_392 : BitVec 32 := 0#32
  let c11_i32_390 : BitVec 32 := 11#32
  let c1_i32_391 : BitVec 32 := 1#32
  let v681 : BitVec 32 := Scalar.muli c11_i32_390 c1_i32_391
  let v682 : BitVec 32 := Scalar.addi c0_i32_392 v681
  v682.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v261 : BitVec 1 := Scalar.cmpi .ne v2 c12_i32
  let v262 : BitVec 32 := Scalar.extui v261
  let c0_i32_103 : BitVec 32 := 0#32
  let v263 : BitVec 1 := Scalar.cmpi .ne v262 c0_i32_103
  v263

def k0_off16 (v147 : BitVec 32) : Fin 3 → Nat :=
  let c0_i32_393 : BitVec 32 := 0#32
  let c0_i32_394 : BitVec 32 := 0#32
  ![v147.toNat, 0, 0]
def k0_dev14 : Nat :=
  let c0_i32_392 : BitVec 32 := 0#32
  let c12_i32_390 : BitVec 32 := 12#32
  let c1_i32_391 : BitVec 32 := 1#32
  let v681 : BitVec 32 := Scalar.muli c12_i32_390 c1_i32_391
  let v682 : BitVec 32 := Scalar.addi c0_i32_392 v681
  v682.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v264 : BitVec 1 := Scalar.cmpi .ne v2 c13_i32
  let v265 : BitVec 32 := Scalar.extui v264
  let c0_i32_104 : BitVec 32 := 0#32
  let v266 : BitVec 1 := Scalar.cmpi .ne v265 c0_i32_104
  v266

def k0_off17 (v147 : BitVec 32) : Fin 3 → Nat :=
  let c0_i32_393 : BitVec 32 := 0#32
  let c0_i32_394 : BitVec 32 := 0#32
  ![v147.toNat, 0, 0]
def k0_dev15 : Nat :=
  let c0_i32_392 : BitVec 32 := 0#32
  let c13_i32_390 : BitVec 32 := 13#32
  let c1_i32_391 : BitVec 32 := 1#32
  let v681 : BitVec 32 := Scalar.muli c13_i32_390 c1_i32_391
  let v682 : BitVec 32 := Scalar.addi c0_i32_392 v681
  v682.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v267 : BitVec 1 := Scalar.cmpi .ne v2 c14_i32
  let v268 : BitVec 32 := Scalar.extui v267
  let c0_i32_105 : BitVec 32 := 0#32
  let v269 : BitVec 1 := Scalar.cmpi .ne v268 c0_i32_105
  v269

def k0_off18 (v147 : BitVec 32) : Fin 3 → Nat :=
  let c0_i32_393 : BitVec 32 := 0#32
  let c0_i32_394 : BitVec 32 := 0#32
  ![v147.toNat, 0, 0]
def k0_dev16 : Nat :=
  let c0_i32_392 : BitVec 32 := 0#32
  let c14_i32_390 : BitVec 32 := 14#32
  let c1_i32_391 : BitVec 32 := 1#32
  let v681 : BitVec 32 := Scalar.muli c14_i32_390 c1_i32_391
  let v682 : BitVec 32 := Scalar.addi c0_i32_392 v681
  v682.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v270 : BitVec 1 := Scalar.cmpi .ne v2 c15_i32
  let v271 : BitVec 32 := Scalar.extui v270
  let c0_i32_106 : BitVec 32 := 0#32
  let v272 : BitVec 1 := Scalar.cmpi .ne v271 c0_i32_106
  v272

def k0_off19 (v147 : BitVec 32) : Fin 3 → Nat :=
  let c0_i32_393 : BitVec 32 := 0#32
  let c0_i32_394 : BitVec 32 := 0#32
  ![v147.toNat, 0, 0]
def k0_dev17 : Nat :=
  let c0_i32_392 : BitVec 32 := 0#32
  let c15_i32_390 : BitVec 32 := 15#32
  let c1_i32_391 : BitVec 32 := 1#32
  let v681 : BitVec 32 := Scalar.muli c15_i32_390 c1_i32_391
  let v682 : BitVec 32 := Scalar.addi c0_i32_392 v681
  v682.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_107 : BitVec 32 := 16#32
  let v273 : BitVec 1 := Scalar.cmpi .ne v2 c16_i32_107
  let v274 : BitVec 32 := Scalar.extui v273
  let c0_i32_108 : BitVec 32 := 0#32
  let v275 : BitVec 1 := Scalar.cmpi .ne v274 c0_i32_108
  v275

def k0_off20 (v147 : BitVec 32) : Fin 3 → Nat :=
  let c0_i32_393 : BitVec 32 := 0#32
  let c0_i32_394 : BitVec 32 := 0#32
  ![v147.toNat, 0, 0]
def k0_dev18 : Nat :=
  let c0_i32_392 : BitVec 32 := 0#32
  let c16_i32_390 : BitVec 32 := 16#32
  let c1_i32_391 : BitVec 32 := 1#32
  let v681 : BitVec 32 := Scalar.muli c16_i32_390 c1_i32_391
  let v682 : BitVec 32 := Scalar.addi c0_i32_392 v681
  v682.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v276 : BitVec 1 := Scalar.cmpi .ne v2 c17_i32
  let v277 : BitVec 32 := Scalar.extui v276
  let c0_i32_109 : BitVec 32 := 0#32
  let v278 : BitVec 1 := Scalar.cmpi .ne v277 c0_i32_109
  v278

def k0_off21 (v147 : BitVec 32) : Fin 3 → Nat :=
  let c0_i32_393 : BitVec 32 := 0#32
  let c0_i32_394 : BitVec 32 := 0#32
  ![v147.toNat, 0, 0]
def k0_dev19 : Nat :=
  let c0_i32_392 : BitVec 32 := 0#32
  let c17_i32_390 : BitVec 32 := 17#32
  let c1_i32_391 : BitVec 32 := 1#32
  let v681 : BitVec 32 := Scalar.muli c17_i32_390 c1_i32_391
  let v682 : BitVec 32 := Scalar.addi c0_i32_392 v681
  v682.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v279 : BitVec 1 := Scalar.cmpi .ne v2 c18_i32
  let v280 : BitVec 32 := Scalar.extui v279
  let c0_i32_110 : BitVec 32 := 0#32
  let v281 : BitVec 1 := Scalar.cmpi .ne v280 c0_i32_110
  v281

def k0_off22 (v147 : BitVec 32) : Fin 3 → Nat :=
  let c0_i32_393 : BitVec 32 := 0#32
  let c0_i32_394 : BitVec 32 := 0#32
  ![v147.toNat, 0, 0]
def k0_dev20 : Nat :=
  let c0_i32_392 : BitVec 32 := 0#32
  let c18_i32_390 : BitVec 32 := 18#32
  let c1_i32_391 : BitVec 32 := 1#32
  let v681 : BitVec 32 := Scalar.muli c18_i32_390 c1_i32_391
  let v682 : BitVec 32 := Scalar.addi c0_i32_392 v681
  v682.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v282 : BitVec 1 := Scalar.cmpi .ne v2 c19_i32
  let v283 : BitVec 32 := Scalar.extui v282
  let c0_i32_111 : BitVec 32 := 0#32
  let v284 : BitVec 1 := Scalar.cmpi .ne v283 c0_i32_111
  v284

def k0_off23 (v147 : BitVec 32) : Fin 3 → Nat :=
  let c0_i32_393 : BitVec 32 := 0#32
  let c0_i32_394 : BitVec 32 := 0#32
  ![v147.toNat, 0, 0]
def k0_dev21 : Nat :=
  let c0_i32_392 : BitVec 32 := 0#32
  let c19_i32_390 : BitVec 32 := 19#32
  let c1_i32_391 : BitVec 32 := 1#32
  let v681 : BitVec 32 := Scalar.muli c19_i32_390 c1_i32_391
  let v682 : BitVec 32 := Scalar.addi c0_i32_392 v681
  v682.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v285 : BitVec 1 := Scalar.cmpi .ne v2 c20_i32
  let v286 : BitVec 32 := Scalar.extui v285
  let c0_i32_112 : BitVec 32 := 0#32
  let v287 : BitVec 1 := Scalar.cmpi .ne v286 c0_i32_112
  v287

def k0_off24 (v147 : BitVec 32) : Fin 3 → Nat :=
  let c0_i32_393 : BitVec 32 := 0#32
  let c0_i32_394 : BitVec 32 := 0#32
  ![v147.toNat, 0, 0]
def k0_dev22 : Nat :=
  let c0_i32_392 : BitVec 32 := 0#32
  let c20_i32_390 : BitVec 32 := 20#32
  let c1_i32_391 : BitVec 32 := 1#32
  let v681 : BitVec 32 := Scalar.muli c20_i32_390 c1_i32_391
  let v682 : BitVec 32 := Scalar.addi c0_i32_392 v681
  v682.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v288 : BitVec 1 := Scalar.cmpi .ne v2 c21_i32
  let v289 : BitVec 32 := Scalar.extui v288
  let c0_i32_113 : BitVec 32 := 0#32
  let v290 : BitVec 1 := Scalar.cmpi .ne v289 c0_i32_113
  v290

def k0_off25 (v147 : BitVec 32) : Fin 3 → Nat :=
  let c0_i32_393 : BitVec 32 := 0#32
  let c0_i32_394 : BitVec 32 := 0#32
  ![v147.toNat, 0, 0]
def k0_dev23 : Nat :=
  let c0_i32_392 : BitVec 32 := 0#32
  let c21_i32_390 : BitVec 32 := 21#32
  let c1_i32_391 : BitVec 32 := 1#32
  let v681 : BitVec 32 := Scalar.muli c21_i32_390 c1_i32_391
  let v682 : BitVec 32 := Scalar.addi c0_i32_392 v681
  v682.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v291 : BitVec 1 := Scalar.cmpi .ne v2 c22_i32
  let v292 : BitVec 32 := Scalar.extui v291
  let c0_i32_114 : BitVec 32 := 0#32
  let v293 : BitVec 1 := Scalar.cmpi .ne v292 c0_i32_114
  v293

def k0_off26 (v147 : BitVec 32) : Fin 3 → Nat :=
  let c0_i32_393 : BitVec 32 := 0#32
  let c0_i32_394 : BitVec 32 := 0#32
  ![v147.toNat, 0, 0]
def k0_dev24 : Nat :=
  let c0_i32_392 : BitVec 32 := 0#32
  let c22_i32_390 : BitVec 32 := 22#32
  let c1_i32_391 : BitVec 32 := 1#32
  let v681 : BitVec 32 := Scalar.muli c22_i32_390 c1_i32_391
  let v682 : BitVec 32 := Scalar.addi c0_i32_392 v681
  v682.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v294 : BitVec 1 := Scalar.cmpi .ne v2 c23_i32
  let v295 : BitVec 32 := Scalar.extui v294
  let c0_i32_115 : BitVec 32 := 0#32
  let v296 : BitVec 1 := Scalar.cmpi .ne v295 c0_i32_115
  v296

def k0_off27 (v147 : BitVec 32) : Fin 3 → Nat :=
  let c0_i32_393 : BitVec 32 := 0#32
  let c0_i32_394 : BitVec 32 := 0#32
  ![v147.toNat, 0, 0]
def k0_dev25 : Nat :=
  let c0_i32_392 : BitVec 32 := 0#32
  let c23_i32_390 : BitVec 32 := 23#32
  let c1_i32_391 : BitVec 32 := 1#32
  let v681 : BitVec 32 := Scalar.muli c23_i32_390 c1_i32_391
  let v682 : BitVec 32 := Scalar.addi c0_i32_392 v681
  v682.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v297 : BitVec 1 := Scalar.cmpi .ne v2 c24_i32
  let v298 : BitVec 32 := Scalar.extui v297
  let c0_i32_116 : BitVec 32 := 0#32
  let v299 : BitVec 1 := Scalar.cmpi .ne v298 c0_i32_116
  v299

def k0_off28 (v147 : BitVec 32) : Fin 3 → Nat :=
  let c0_i32_393 : BitVec 32 := 0#32
  let c0_i32_394 : BitVec 32 := 0#32
  ![v147.toNat, 0, 0]
def k0_dev26 : Nat :=
  let c0_i32_392 : BitVec 32 := 0#32
  let c24_i32_390 : BitVec 32 := 24#32
  let c1_i32_391 : BitVec 32 := 1#32
  let v681 : BitVec 32 := Scalar.muli c24_i32_390 c1_i32_391
  let v682 : BitVec 32 := Scalar.addi c0_i32_392 v681
  v682.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v300 : BitVec 1 := Scalar.cmpi .ne v2 c25_i32
  let v301 : BitVec 32 := Scalar.extui v300
  let c0_i32_117 : BitVec 32 := 0#32
  let v302 : BitVec 1 := Scalar.cmpi .ne v301 c0_i32_117
  v302

def k0_off29 (v147 : BitVec 32) : Fin 3 → Nat :=
  let c0_i32_393 : BitVec 32 := 0#32
  let c0_i32_394 : BitVec 32 := 0#32
  ![v147.toNat, 0, 0]
def k0_dev27 : Nat :=
  let c0_i32_392 : BitVec 32 := 0#32
  let c25_i32_390 : BitVec 32 := 25#32
  let c1_i32_391 : BitVec 32 := 1#32
  let v681 : BitVec 32 := Scalar.muli c25_i32_390 c1_i32_391
  let v682 : BitVec 32 := Scalar.addi c0_i32_392 v681
  v682.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v303 : BitVec 1 := Scalar.cmpi .ne v2 c26_i32
  let v304 : BitVec 32 := Scalar.extui v303
  let c0_i32_118 : BitVec 32 := 0#32
  let v305 : BitVec 1 := Scalar.cmpi .ne v304 c0_i32_118
  v305

def k0_off30 (v147 : BitVec 32) : Fin 3 → Nat :=
  let c0_i32_393 : BitVec 32 := 0#32
  let c0_i32_394 : BitVec 32 := 0#32
  ![v147.toNat, 0, 0]
def k0_dev28 : Nat :=
  let c0_i32_392 : BitVec 32 := 0#32
  let c26_i32_390 : BitVec 32 := 26#32
  let c1_i32_391 : BitVec 32 := 1#32
  let v681 : BitVec 32 := Scalar.muli c26_i32_390 c1_i32_391
  let v682 : BitVec 32 := Scalar.addi c0_i32_392 v681
  v682.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v306 : BitVec 1 := Scalar.cmpi .ne v2 c27_i32
  let v307 : BitVec 32 := Scalar.extui v306
  let c0_i32_119 : BitVec 32 := 0#32
  let v308 : BitVec 1 := Scalar.cmpi .ne v307 c0_i32_119
  v308

def k0_off31 (v147 : BitVec 32) : Fin 3 → Nat :=
  let c0_i32_393 : BitVec 32 := 0#32
  let c0_i32_394 : BitVec 32 := 0#32
  ![v147.toNat, 0, 0]
def k0_dev29 : Nat :=
  let c0_i32_392 : BitVec 32 := 0#32
  let c27_i32_390 : BitVec 32 := 27#32
  let c1_i32_391 : BitVec 32 := 1#32
  let v681 : BitVec 32 := Scalar.muli c27_i32_390 c1_i32_391
  let v682 : BitVec 32 := Scalar.addi c0_i32_392 v681
  v682.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v309 : BitVec 1 := Scalar.cmpi .ne v2 c28_i32
  let v310 : BitVec 32 := Scalar.extui v309
  let c0_i32_120 : BitVec 32 := 0#32
  let v311 : BitVec 1 := Scalar.cmpi .ne v310 c0_i32_120
  v311

def k0_off32 (v147 : BitVec 32) : Fin 3 → Nat :=
  let c0_i32_393 : BitVec 32 := 0#32
  let c0_i32_394 : BitVec 32 := 0#32
  ![v147.toNat, 0, 0]
def k0_dev30 : Nat :=
  let c0_i32_392 : BitVec 32 := 0#32
  let c28_i32_390 : BitVec 32 := 28#32
  let c1_i32_391 : BitVec 32 := 1#32
  let v681 : BitVec 32 := Scalar.muli c28_i32_390 c1_i32_391
  let v682 : BitVec 32 := Scalar.addi c0_i32_392 v681
  v682.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v312 : BitVec 1 := Scalar.cmpi .ne v2 c29_i32
  let v313 : BitVec 32 := Scalar.extui v312
  let c0_i32_121 : BitVec 32 := 0#32
  let v314 : BitVec 1 := Scalar.cmpi .ne v313 c0_i32_121
  v314

def k0_off33 (v147 : BitVec 32) : Fin 3 → Nat :=
  let c0_i32_393 : BitVec 32 := 0#32
  let c0_i32_394 : BitVec 32 := 0#32
  ![v147.toNat, 0, 0]
def k0_dev31 : Nat :=
  let c0_i32_392 : BitVec 32 := 0#32
  let c29_i32_390 : BitVec 32 := 29#32
  let c1_i32_391 : BitVec 32 := 1#32
  let v681 : BitVec 32 := Scalar.muli c29_i32_390 c1_i32_391
  let v682 : BitVec 32 := Scalar.addi c0_i32_392 v681
  v682.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v315 : BitVec 1 := Scalar.cmpi .ne v2 c30_i32
  let v316 : BitVec 32 := Scalar.extui v315
  let c0_i32_122 : BitVec 32 := 0#32
  let v317 : BitVec 1 := Scalar.cmpi .ne v316 c0_i32_122
  v317

def k0_off34 (v147 : BitVec 32) : Fin 3 → Nat :=
  let c0_i32_393 : BitVec 32 := 0#32
  let c0_i32_394 : BitVec 32 := 0#32
  ![v147.toNat, 0, 0]
def k0_dev32 : Nat :=
  let c0_i32_392 : BitVec 32 := 0#32
  let c30_i32_390 : BitVec 32 := 30#32
  let c1_i32_391 : BitVec 32 := 1#32
  let v681 : BitVec 32 := Scalar.muli c30_i32_390 c1_i32_391
  let v682 : BitVec 32 := Scalar.addi c0_i32_392 v681
  v682.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v318 : BitVec 1 := Scalar.cmpi .ne v2 c31_i32
  let v319 : BitVec 32 := Scalar.extui v318
  let c0_i32_123 : BitVec 32 := 0#32
  let v320 : BitVec 1 := Scalar.cmpi .ne v319 c0_i32_123
  v320

def k0_off35 (v147 : BitVec 32) : Fin 3 → Nat :=
  let c0_i32_393 : BitVec 32 := 0#32
  let c0_i32_394 : BitVec 32 := 0#32
  ![v147.toNat, 0, 0]
def k0_dev33 : Nat :=
  let c0_i32_392 : BitVec 32 := 0#32
  let c31_i32_390 : BitVec 32 := 31#32
  let c1_i32_391 : BitVec 32 := 1#32
  let v681 : BitVec 32 := Scalar.muli c31_i32_390 c1_i32_391
  let v682 : BitVec 32 := Scalar.addi c0_i32_392 v681
  v682.toNat
def k0_off36 (v147 : BitVec 32) : Fin 1 → Nat :=
  ![v147.toNat]
def k0_off37 (v147 : BitVec 32) : Fin 3 → Nat :=
  let c0_i32_126 : BitVec 32 := 0#32
  let c0_i32_127 : BitVec 32 := 0#32
  ![v147.toNat, 0, 0]
def k0_dev34 (v178 : BitVec 32) : Nat :=
  let c0_i32_125 : BitVec 32 := 0#32
  let c1_i32_124 : BitVec 32 := 1#32
  let v321 : BitVec 32 := Scalar.muli v178 c1_i32_124
  let v322 : BitVec 32 := Scalar.addi c0_i32_125 v321
  v322.toNat

def k0_off38 (v147 : BitVec 32) : Fin 1 → Nat :=
  ![v147.toNat]
def k0_off39 (v147 : BitVec 32) : Fin 3 → Nat :=
  let c0_i32_132 : BitVec 32 := 0#32
  let c0_i32_133 : BitVec 32 := 0#32
  ![v147.toNat, 0, 0]
def k0_dev35 (v178 : BitVec 32) : Nat :=
  let c0_i32_131 : BitVec 32 := 0#32
  let c1_i32_130 : BitVec 32 := 1#32
  let v329 : BitVec 32 := Scalar.muli v178 c1_i32_130
  let v330 : BitVec 32 := Scalar.addi c0_i32_131 v329
  v330.toNat
def k0_dev36 (v186 : BitVec 32) : Nat :=
  let c0_i32_137 : BitVec 32 := 0#32
  let c1_i32_136 : BitVec 32 := 1#32
  let v337 : BitVec 32 := Scalar.muli v186 c1_i32_136
  let v338 : BitVec 32 := Scalar.addi c0_i32_137 v337
  v338.toNat

def k0_off40 (v147 : BitVec 32) : Fin 1 → Nat :=
  ![v147.toNat]
def k0_off41 (v147 : BitVec 32) : Fin 3 → Nat :=
  let c0_i32_144 : BitVec 32 := 0#32
  let c0_i32_145 : BitVec 32 := 0#32
  ![v147.toNat, 0, 0]
def k0_dev37 (v186 : BitVec 32) : Nat :=
  let c0_i32_143 : BitVec 32 := 0#32
  let c1_i32_142 : BitVec 32 := 1#32
  let v345 : BitVec 32 := Scalar.muli v186 c1_i32_142
  let v346 : BitVec 32 := Scalar.addi c0_i32_143 v345
  v346.toNat
def k0_off42 (v147 : BitVec 32) : Fin 3 → Nat :=
  let v353 : Index := Scalar.indexCast v147
  let c0_148 : Index := 0#32
  let c0_149 : Index := 0#32
  ![v353.toNat, 0, 0]
def k0_off43 (v147 : BitVec 32) : Fin 3 → Nat :=
  let v356 : Index := Scalar.indexCast v147
  let c0_150 : Index := 0#32
  let c0_151 : Index := 0#32
  ![v356.toNat, 0, 0]
@[reducible] def k0_t2_loop : Scf.Loop 32 :=
  let c1_i32_240 : BitVec 32 := 1#32
  let c30_i32_241 : BitVec 32 := 30#32
  let v481 : BitVec 32 := Scalar.addi c1_i32_240 c30_i32_241
  let c1_i32_242 : BitVec 32 := 1#32
  ⟨c1_i32_240, v481, c1_i32_242⟩
def k0_off44 (v147 : BitVec 32) (k0_t2 : Fin k0_t2_loop.trips) : Fin 1 → Nat :=
  let c32_i32_390 : BitVec 32 := 32#32
  let v681 : BitVec 32 := Scalar.addi v147 c32_i32_390
  let c1_i32_240 : BitVec 32 := 1#32
  let c1_i32_242 : BitVec 32 := 1#32
  let arg21 : BitVec 32 := Scf.iv c1_i32_240 c1_i32_242 k0_t2
  let v682 : BitVec 32 := Scalar.subi v681 arg21
  let c32_i32_391 : BitVec 32 := 32#32
  let c0_i32_392 : BitVec 32 := 0#32
  let v683 : BitVec 1 := Scalar.cmpi .eq c32_i32_391 c0_i32_392
  let c1_i32_393 : BitVec 32 := 1#32
  let v684 : BitVec 32 := Scalar.select v683 c1_i32_393 c32_i32_391
  let v685 : BitVec 32 := Scalar.remsi v682 v684
  let c0_i32_395 : BitVec 32 := 0#32
  let v687 : BitVec 1 := Scalar.cmpi .slt v685 c0_i32_395
  let c0_i32_396 : BitVec 32 := 0#32
  let v688 : BitVec 1 := Scalar.cmpi .slt v684 c0_i32_396
  let v689 : BitVec 1 := Scalar.xori v687 v688
  let c0_i32_394 : BitVec 32 := 0#32
  let v686 : BitVec 1 := Scalar.cmpi .ne v685 c0_i32_394
  let v690 : BitVec 1 := Scalar.andi v689 v686
  let v691 : BitVec 32 := Scalar.addi v685 v684
  let v692 : BitVec 32 := Scalar.select v690 v691 v685
  ![v692.toNat]
def k0_off45 (v147 : BitVec 32) (k0_t2 : Fin k0_t2_loop.trips) : Fin 3 → Nat :=
  let c32_i32_390 : BitVec 32 := 32#32
  let v681 : BitVec 32 := Scalar.addi v147 c32_i32_390
  let c1_i32_240 : BitVec 32 := 1#32
  let c1_i32_242 : BitVec 32 := 1#32
  let arg21 : BitVec 32 := Scf.iv c1_i32_240 c1_i32_242 k0_t2
  let v682 : BitVec 32 := Scalar.subi v681 arg21
  let c32_i32_391 : BitVec 32 := 32#32
  let c0_i32_392 : BitVec 32 := 0#32
  let v683 : BitVec 1 := Scalar.cmpi .eq c32_i32_391 c0_i32_392
  let c1_i32_393 : BitVec 32 := 1#32
  let v684 : BitVec 32 := Scalar.select v683 c1_i32_393 c32_i32_391
  let v685 : BitVec 32 := Scalar.remsi v682 v684
  let c0_i32_395 : BitVec 32 := 0#32
  let v687 : BitVec 1 := Scalar.cmpi .slt v685 c0_i32_395
  let c0_i32_396 : BitVec 32 := 0#32
  let v688 : BitVec 1 := Scalar.cmpi .slt v684 c0_i32_396
  let v689 : BitVec 1 := Scalar.xori v687 v688
  let c0_i32_394 : BitVec 32 := 0#32
  let v686 : BitVec 1 := Scalar.cmpi .ne v685 c0_i32_394
  let v690 : BitVec 1 := Scalar.andi v689 v686
  let v691 : BitVec 32 := Scalar.addi v685 v684
  let v692 : BitVec 32 := Scalar.select v690 v691 v685
  let c0_i32_405 : BitVec 32 := 0#32
  let c0_i32_406 : BitVec 32 := 0#32
  ![v692.toNat, 0, 0]
def k0_dev38 (v178 : BitVec 32) : Nat :=
  let c0_i32_415 : BitVec 32 := 0#32
  let c1_i32_414 : BitVec 32 := 1#32
  let v716 : BitVec 32 := Scalar.muli v178 c1_i32_414
  let v717 : BitVec 32 := Scalar.addi c0_i32_415 v716
  v717.toNat
def k0_dev39 (v178 : BitVec 32) : Nat :=
  let c0_i32_432 : BitVec 32 := 0#32
  let c1_i32_431 : BitVec 32 := 1#32
  let v736 : BitVec 32 := Scalar.muli v178 c1_i32_431
  let v737 : BitVec 32 := Scalar.addi c0_i32_432 v736
  v737.toNat

def k0_chk2 (v178 : BitVec 32) : Prop :=
  ((k0_dev34 v178) < nD) ∧
  ((k0_dev35 v178) < nD) ∧
  ((k0_dev38 v178) < nD) ∧
  ((k0_dev39 v178) < nD)
theorem k0_dev34_lt : ∀ (v178 : BitVec 32) (k0_hw2 : k0_chk2 v178), (k0_dev34 v178) < nD := fun v178 k0_hw2 => k0_hw2.1
theorem k0_dev35_lt : ∀ (v178 : BitVec 32) (k0_hw2 : k0_chk2 v178), (k0_dev35 v178) < nD := fun v178 k0_hw2 => k0_hw2.2.1
theorem k0_dev38_lt : ∀ (v178 : BitVec 32) (k0_hw2 : k0_chk2 v178), (k0_dev38 v178) < nD := fun v178 k0_hw2 => k0_hw2.2.2.1
theorem k0_dev39_lt : ∀ (v178 : BitVec 32) (k0_hw2 : k0_chk2 v178), (k0_dev39 v178) < nD := fun v178 k0_hw2 => k0_hw2.2.2.2

def k0_off46 (v147 : BitVec 32) (k0_t2 : Fin k0_t2_loop.trips) : Fin 1 → Nat :=
  let c1_i32_240 : BitVec 32 := 1#32
  let c1_i32_242 : BitVec 32 := 1#32
  let arg21 : BitVec 32 := Scf.iv c1_i32_240 c1_i32_242 k0_t2
  let v693 : BitVec 32 := Scalar.addi v147 arg21
  let c32_i32_397 : BitVec 32 := 32#32
  let c0_i32_398 : BitVec 32 := 0#32
  let v694 : BitVec 1 := Scalar.cmpi .eq c32_i32_397 c0_i32_398
  let c1_i32_399 : BitVec 32 := 1#32
  let v695 : BitVec 32 := Scalar.select v694 c1_i32_399 c32_i32_397
  let v696 : BitVec 32 := Scalar.remsi v693 v695
  let c0_i32_401 : BitVec 32 := 0#32
  let v698 : BitVec 1 := Scalar.cmpi .slt v696 c0_i32_401
  let c0_i32_402 : BitVec 32 := 0#32
  let v699 : BitVec 1 := Scalar.cmpi .slt v695 c0_i32_402
  let v700 : BitVec 1 := Scalar.xori v698 v699
  let c0_i32_400 : BitVec 32 := 0#32
  let v697 : BitVec 1 := Scalar.cmpi .ne v696 c0_i32_400
  let v701 : BitVec 1 := Scalar.andi v700 v697
  let v702 : BitVec 32 := Scalar.addi v696 v695
  let v703 : BitVec 32 := Scalar.select v701 v702 v696
  ![v703.toNat]
def k0_off47 (v147 : BitVec 32) (k0_t2 : Fin k0_t2_loop.trips) : Fin 3 → Nat :=
  let c1_i32_240 : BitVec 32 := 1#32
  let c1_i32_242 : BitVec 32 := 1#32
  let arg21 : BitVec 32 := Scf.iv c1_i32_240 c1_i32_242 k0_t2
  let v693 : BitVec 32 := Scalar.addi v147 arg21
  let c32_i32_397 : BitVec 32 := 32#32
  let c0_i32_398 : BitVec 32 := 0#32
  let v694 : BitVec 1 := Scalar.cmpi .eq c32_i32_397 c0_i32_398
  let c1_i32_399 : BitVec 32 := 1#32
  let v695 : BitVec 32 := Scalar.select v694 c1_i32_399 c32_i32_397
  let v696 : BitVec 32 := Scalar.remsi v693 v695
  let c0_i32_401 : BitVec 32 := 0#32
  let v698 : BitVec 1 := Scalar.cmpi .slt v696 c0_i32_401
  let c0_i32_402 : BitVec 32 := 0#32
  let v699 : BitVec 1 := Scalar.cmpi .slt v695 c0_i32_402
  let v700 : BitVec 1 := Scalar.xori v698 v699
  let c0_i32_400 : BitVec 32 := 0#32
  let v697 : BitVec 1 := Scalar.cmpi .ne v696 c0_i32_400
  let v701 : BitVec 1 := Scalar.andi v700 v697
  let v702 : BitVec 32 := Scalar.addi v696 v695
  let v703 : BitVec 32 := Scalar.select v701 v702 v696
  let c0_i32_439 : BitVec 32 := 0#32
  let c0_i32_440 : BitVec 32 := 0#32
  ![v703.toNat, 0, 0]
def k0_dev40 (v186 : BitVec 32) : Nat :=
  let c0_i32_449 : BitVec 32 := 0#32
  let c1_i32_448 : BitVec 32 := 1#32
  let v756 : BitVec 32 := Scalar.muli v186 c1_i32_448
  let v757 : BitVec 32 := Scalar.addi c0_i32_449 v756
  v757.toNat
def k0_dev41 (v186 : BitVec 32) : Nat :=
  let c0_i32_466 : BitVec 32 := 0#32
  let c1_i32_465 : BitVec 32 := 1#32
  let v776 : BitVec 32 := Scalar.muli v186 c1_i32_465
  let v777 : BitVec 32 := Scalar.addi c0_i32_466 v776
  v777.toNat

def k0_chk3 (v186 : BitVec 32) : Prop :=
  ((k0_dev36 v186) < nD) ∧
  ((k0_dev37 v186) < nD) ∧
  ((k0_dev40 v186) < nD) ∧
  ((k0_dev41 v186) < nD)
theorem k0_dev36_lt : ∀ (v186 : BitVec 32) (k0_hw3 : k0_chk3 v186), (k0_dev36 v186) < nD := fun v186 k0_hw3 => k0_hw3.1
theorem k0_dev37_lt : ∀ (v186 : BitVec 32) (k0_hw3 : k0_chk3 v186), (k0_dev37 v186) < nD := fun v186 k0_hw3 => k0_hw3.2.1
theorem k0_dev40_lt : ∀ (v186 : BitVec 32) (k0_hw3 : k0_chk3 v186), (k0_dev40 v186) < nD := fun v186 k0_hw3 => k0_hw3.2.2.1
theorem k0_dev41_lt : ∀ (v186 : BitVec 32) (k0_hw3 : k0_chk3 v186), (k0_dev41 v186) < nD := fun v186 k0_hw3 => k0_hw3.2.2.2

def k0_off48 (v147 : BitVec 32) (k0_t2 : Fin k0_t2_loop.trips) : Fin 3 → Nat :=
  let c32_i32_390 : BitVec 32 := 32#32
  let v681 : BitVec 32 := Scalar.addi v147 c32_i32_390
  let c1_i32_240 : BitVec 32 := 1#32
  let c1_i32_242 : BitVec 32 := 1#32
  let arg21 : BitVec 32 := Scf.iv c1_i32_240 c1_i32_242 k0_t2
  let v682 : BitVec 32 := Scalar.subi v681 arg21
  let c32_i32_391 : BitVec 32 := 32#32
  let c0_i32_392 : BitVec 32 := 0#32
  let v683 : BitVec 1 := Scalar.cmpi .eq c32_i32_391 c0_i32_392
  let c1_i32_393 : BitVec 32 := 1#32
  let v684 : BitVec 32 := Scalar.select v683 c1_i32_393 c32_i32_391
  let v685 : BitVec 32 := Scalar.remsi v682 v684
  let c0_i32_395 : BitVec 32 := 0#32
  let v687 : BitVec 1 := Scalar.cmpi .slt v685 c0_i32_395
  let c0_i32_396 : BitVec 32 := 0#32
  let v688 : BitVec 1 := Scalar.cmpi .slt v684 c0_i32_396
  let v689 : BitVec 1 := Scalar.xori v687 v688
  let c0_i32_394 : BitVec 32 := 0#32
  let v686 : BitVec 1 := Scalar.cmpi .ne v685 c0_i32_394
  let v690 : BitVec 1 := Scalar.andi v689 v686
  let v691 : BitVec 32 := Scalar.addi v685 v684
  let v692 : BitVec 32 := Scalar.select v690 v691 v685
  let v786 : Index := Scalar.indexCast v692
  let c0_473 : Index := 0#32
  let c0_474 : Index := 0#32
  ![v786.toNat, 0, 0]
def k0_off49 (v147 : BitVec 32) (k0_t2 : Fin k0_t2_loop.trips) : Fin 3 → Nat :=
  let c32_i32_390 : BitVec 32 := 32#32
  let v681 : BitVec 32 := Scalar.addi v147 c32_i32_390
  let c1_i32_240 : BitVec 32 := 1#32
  let c1_i32_242 : BitVec 32 := 1#32
  let arg21 : BitVec 32 := Scf.iv c1_i32_240 c1_i32_242 k0_t2
  let v682 : BitVec 32 := Scalar.subi v681 arg21
  let c32_i32_391 : BitVec 32 := 32#32
  let c0_i32_392 : BitVec 32 := 0#32
  let v683 : BitVec 1 := Scalar.cmpi .eq c32_i32_391 c0_i32_392
  let c1_i32_393 : BitVec 32 := 1#32
  let v684 : BitVec 32 := Scalar.select v683 c1_i32_393 c32_i32_391
  let v685 : BitVec 32 := Scalar.remsi v682 v684
  let c0_i32_395 : BitVec 32 := 0#32
  let v687 : BitVec 1 := Scalar.cmpi .slt v685 c0_i32_395
  let c0_i32_396 : BitVec 32 := 0#32
  let v688 : BitVec 1 := Scalar.cmpi .slt v684 c0_i32_396
  let v689 : BitVec 1 := Scalar.xori v687 v688
  let c0_i32_394 : BitVec 32 := 0#32
  let v686 : BitVec 1 := Scalar.cmpi .ne v685 c0_i32_394
  let v690 : BitVec 1 := Scalar.andi v689 v686
  let v691 : BitVec 32 := Scalar.addi v685 v684
  let v692 : BitVec 32 := Scalar.select v690 v691 v685
  let v789 : Index := Scalar.indexCast v692
  let c0_475 : Index := 0#32
  let c0_476 : Index := 0#32
  ![v789.toNat, 0, 0]
def k0_off50 (v147 : BitVec 32) (k0_t2 : Fin k0_t2_loop.trips) : Fin 3 → Nat :=
  let c1_i32_240 : BitVec 32 := 1#32
  let c1_i32_242 : BitVec 32 := 1#32
  let arg21 : BitVec 32 := Scf.iv c1_i32_240 c1_i32_242 k0_t2
  let v693 : BitVec 32 := Scalar.addi v147 arg21
  let c32_i32_397 : BitVec 32 := 32#32
  let c0_i32_398 : BitVec 32 := 0#32
  let v694 : BitVec 1 := Scalar.cmpi .eq c32_i32_397 c0_i32_398
  let c1_i32_399 : BitVec 32 := 1#32
  let v695 : BitVec 32 := Scalar.select v694 c1_i32_399 c32_i32_397
  let v696 : BitVec 32 := Scalar.remsi v693 v695
  let c0_i32_401 : BitVec 32 := 0#32
  let v698 : BitVec 1 := Scalar.cmpi .slt v696 c0_i32_401
  let c0_i32_402 : BitVec 32 := 0#32
  let v699 : BitVec 1 := Scalar.cmpi .slt v695 c0_i32_402
  let v700 : BitVec 1 := Scalar.xori v698 v699
  let c0_i32_400 : BitVec 32 := 0#32
  let v697 : BitVec 1 := Scalar.cmpi .ne v696 c0_i32_400
  let v701 : BitVec 1 := Scalar.andi v700 v697
  let v702 : BitVec 32 := Scalar.addi v696 v695
  let v703 : BitVec 32 := Scalar.select v701 v702 v696
  let v808 : Index := Scalar.indexCast v703
  let c0_491 : Index := 0#32
  let c0_492 : Index := 0#32
  ![v808.toNat, 0, 0]
def k0_off51 (v147 : BitVec 32) (k0_t2 : Fin k0_t2_loop.trips) : Fin 3 → Nat :=
  let c1_i32_240 : BitVec 32 := 1#32
  let c1_i32_242 : BitVec 32 := 1#32
  let arg21 : BitVec 32 := Scf.iv c1_i32_240 c1_i32_242 k0_t2
  let v693 : BitVec 32 := Scalar.addi v147 arg21
  let c32_i32_397 : BitVec 32 := 32#32
  let c0_i32_398 : BitVec 32 := 0#32
  let v694 : BitVec 1 := Scalar.cmpi .eq c32_i32_397 c0_i32_398
  let c1_i32_399 : BitVec 32 := 1#32
  let v695 : BitVec 32 := Scalar.select v694 c1_i32_399 c32_i32_397
  let v696 : BitVec 32 := Scalar.remsi v693 v695
  let c0_i32_401 : BitVec 32 := 0#32
  let v698 : BitVec 1 := Scalar.cmpi .slt v696 c0_i32_401
  let c0_i32_402 : BitVec 32 := 0#32
  let v699 : BitVec 1 := Scalar.cmpi .slt v695 c0_i32_402
  let v700 : BitVec 1 := Scalar.xori v698 v699
  let c0_i32_400 : BitVec 32 := 0#32
  let v697 : BitVec 1 := Scalar.cmpi .ne v696 c0_i32_400
  let v701 : BitVec 1 := Scalar.andi v700 v697
  let v702 : BitVec 32 := Scalar.addi v696 v695
  let v703 : BitVec 32 := Scalar.select v701 v702 v696
  let v811 : Index := Scalar.indexCast v703
  let c0_493 : Index := 0#32
  let c0_494 : Index := 0#32
  ![v811.toNat, 0, 0]
def k0_off52 (v147 : BitVec 32) : Fin 1 → Nat :=
  let c1_i32_42 : BitVec 32 := 1#32
  let v148 : BitVec 32 := Scalar.addi v147 c1_i32_42
  let c32_i32_43 : BitVec 32 := 32#32
  let c0_i32_44 : BitVec 32 := 0#32
  let v149 : BitVec 1 := Scalar.cmpi .eq c32_i32_43 c0_i32_44
  let c1_i32_45 : BitVec 32 := 1#32
  let v150 : BitVec 32 := Scalar.select v149 c1_i32_45 c32_i32_43
  let v151 : BitVec 32 := Scalar.remsi v148 v150
  let c0_i32_47 : BitVec 32 := 0#32
  let v153 : BitVec 1 := Scalar.cmpi .slt v151 c0_i32_47
  let c0_i32_48 : BitVec 32 := 0#32
  let v154 : BitVec 1 := Scalar.cmpi .slt v150 c0_i32_48
  let v155 : BitVec 1 := Scalar.xori v153 v154
  let c0_i32_46 : BitVec 32 := 0#32
  let v152 : BitVec 1 := Scalar.cmpi .ne v151 c0_i32_46
  let v156 : BitVec 1 := Scalar.andi v155 v152
  let v157 : BitVec 32 := Scalar.addi v151 v150
  let v158 : BitVec 32 := Scalar.select v156 v157 v151
  ![v158.toNat]
def k0_off53 (v147 : BitVec 32) : Fin 3 → Nat :=
  let c1_i32_42 : BitVec 32 := 1#32
  let v148 : BitVec 32 := Scalar.addi v147 c1_i32_42
  let c32_i32_43 : BitVec 32 := 32#32
  let c0_i32_44 : BitVec 32 := 0#32
  let v149 : BitVec 1 := Scalar.cmpi .eq c32_i32_43 c0_i32_44
  let c1_i32_45 : BitVec 32 := 1#32
  let v150 : BitVec 32 := Scalar.select v149 c1_i32_45 c32_i32_43
  let v151 : BitVec 32 := Scalar.remsi v148 v150
  let c0_i32_47 : BitVec 32 := 0#32
  let v153 : BitVec 1 := Scalar.cmpi .slt v151 c0_i32_47
  let c0_i32_48 : BitVec 32 := 0#32
  let v154 : BitVec 1 := Scalar.cmpi .slt v150 c0_i32_48
  let v155 : BitVec 1 := Scalar.xori v153 v154
  let c0_i32_46 : BitVec 32 := 0#32
  let v152 : BitVec 1 := Scalar.cmpi .ne v151 c0_i32_46
  let v156 : BitVec 1 := Scalar.andi v155 v152
  let v157 : BitVec 32 := Scalar.addi v151 v150
  let v158 : BitVec 32 := Scalar.select v156 v157 v151
  let c0_i32_248 : BitVec 32 := 0#32
  let c0_i32_249 : BitVec 32 := 0#32
  ![v158.toNat, 0, 0]
def k0_off54 (v147 : BitVec 32) : Fin 3 → Nat :=
  let c1_i32_42 : BitVec 32 := 1#32
  let v148 : BitVec 32 := Scalar.addi v147 c1_i32_42
  let c32_i32_43 : BitVec 32 := 32#32
  let c0_i32_44 : BitVec 32 := 0#32
  let v149 : BitVec 1 := Scalar.cmpi .eq c32_i32_43 c0_i32_44
  let c1_i32_45 : BitVec 32 := 1#32
  let v150 : BitVec 32 := Scalar.select v149 c1_i32_45 c32_i32_43
  let v151 : BitVec 32 := Scalar.remsi v148 v150
  let c0_i32_47 : BitVec 32 := 0#32
  let v153 : BitVec 1 := Scalar.cmpi .slt v151 c0_i32_47
  let c0_i32_48 : BitVec 32 := 0#32
  let v154 : BitVec 1 := Scalar.cmpi .slt v150 c0_i32_48
  let v155 : BitVec 1 := Scalar.xori v153 v154
  let c0_i32_46 : BitVec 32 := 0#32
  let v152 : BitVec 1 := Scalar.cmpi .ne v151 c0_i32_46
  let v156 : BitVec 1 := Scalar.andi v155 v152
  let v157 : BitVec 32 := Scalar.addi v151 v150
  let v158 : BitVec 32 := Scalar.select v156 v157 v151
  let v499 : Index := Scalar.indexCast v158
  let c0_259 : Index := 0#32
  let c0_260 : Index := 0#32
  ![v499.toNat, 0, 0]
def k0_off55 (v147 : BitVec 32) : Fin 3 → Nat :=
  let c1_i32_42 : BitVec 32 := 1#32
  let v148 : BitVec 32 := Scalar.addi v147 c1_i32_42
  let c32_i32_43 : BitVec 32 := 32#32
  let c0_i32_44 : BitVec 32 := 0#32
  let v149 : BitVec 1 := Scalar.cmpi .eq c32_i32_43 c0_i32_44
  let c1_i32_45 : BitVec 32 := 1#32
  let v150 : BitVec 32 := Scalar.select v149 c1_i32_45 c32_i32_43
  let v151 : BitVec 32 := Scalar.remsi v148 v150
  let c0_i32_47 : BitVec 32 := 0#32
  let v153 : BitVec 1 := Scalar.cmpi .slt v151 c0_i32_47
  let c0_i32_48 : BitVec 32 := 0#32
  let v154 : BitVec 1 := Scalar.cmpi .slt v150 c0_i32_48
  let v155 : BitVec 1 := Scalar.xori v153 v154
  let c0_i32_46 : BitVec 32 := 0#32
  let v152 : BitVec 1 := Scalar.cmpi .ne v151 c0_i32_46
  let v156 : BitVec 1 := Scalar.andi v155 v152
  let v157 : BitVec 32 := Scalar.addi v151 v150
  let v158 : BitVec 32 := Scalar.select v156 v157 v151
  let v502 : Index := Scalar.indexCast v158
  let c0_261 : Index := 0#32
  let c0_262 : Index := 0#32
  ![v502.toNat, 0, 0]
def k0_off56 (v147 : BitVec 32) : Fin 1 → Nat :=
  let c32_i32_49 : BitVec 32 := 32#32
  let v159 : BitVec 32 := Scalar.addi v147 c32_i32_49
  let c1_i32_50 : BitVec 32 := 1#32
  let v160 : BitVec 32 := Scalar.subi v159 c1_i32_50
  let c32_i32_51 : BitVec 32 := 32#32
  let c0_i32_52 : BitVec 32 := 0#32
  let v161 : BitVec 1 := Scalar.cmpi .eq c32_i32_51 c0_i32_52
  let c1_i32_53 : BitVec 32 := 1#32
  let v162 : BitVec 32 := Scalar.select v161 c1_i32_53 c32_i32_51
  let v163 : BitVec 32 := Scalar.remsi v160 v162
  let c0_i32_55 : BitVec 32 := 0#32
  let v165 : BitVec 1 := Scalar.cmpi .slt v163 c0_i32_55
  let c0_i32_56 : BitVec 32 := 0#32
  let v166 : BitVec 1 := Scalar.cmpi .slt v162 c0_i32_56
  let v167 : BitVec 1 := Scalar.xori v165 v166
  let c0_i32_54 : BitVec 32 := 0#32
  let v164 : BitVec 1 := Scalar.cmpi .ne v163 c0_i32_54
  let v168 : BitVec 1 := Scalar.andi v167 v164
  let v169 : BitVec 32 := Scalar.addi v163 v162
  let v170 : BitVec 32 := Scalar.select v168 v169 v163
  ![v170.toNat]
def k0_off57 (v147 : BitVec 32) : Fin 3 → Nat :=
  let c32_i32_49 : BitVec 32 := 32#32
  let v159 : BitVec 32 := Scalar.addi v147 c32_i32_49
  let c1_i32_50 : BitVec 32 := 1#32
  let v160 : BitVec 32 := Scalar.subi v159 c1_i32_50
  let c32_i32_51 : BitVec 32 := 32#32
  let c0_i32_52 : BitVec 32 := 0#32
  let v161 : BitVec 1 := Scalar.cmpi .eq c32_i32_51 c0_i32_52
  let c1_i32_53 : BitVec 32 := 1#32
  let v162 : BitVec 32 := Scalar.select v161 c1_i32_53 c32_i32_51
  let v163 : BitVec 32 := Scalar.remsi v160 v162
  let c0_i32_55 : BitVec 32 := 0#32
  let v165 : BitVec 1 := Scalar.cmpi .slt v163 c0_i32_55
  let c0_i32_56 : BitVec 32 := 0#32
  let v166 : BitVec 1 := Scalar.cmpi .slt v162 c0_i32_56
  let v167 : BitVec 1 := Scalar.xori v165 v166
  let c0_i32_54 : BitVec 32 := 0#32
  let v164 : BitVec 1 := Scalar.cmpi .ne v163 c0_i32_54
  let v168 : BitVec 1 := Scalar.andi v167 v164
  let v169 : BitVec 32 := Scalar.addi v163 v162
  let v170 : BitVec 32 := Scalar.select v168 v169 v163
  let c0_i32_288 : BitVec 32 := 0#32
  let c0_i32_289 : BitVec 32 := 0#32
  ![v170.toNat, 0, 0]
def k0_off58 (v147 : BitVec 32) : Fin 3 → Nat :=
  let c32_i32_49 : BitVec 32 := 32#32
  let v159 : BitVec 32 := Scalar.addi v147 c32_i32_49
  let c1_i32_50 : BitVec 32 := 1#32
  let v160 : BitVec 32 := Scalar.subi v159 c1_i32_50
  let c32_i32_51 : BitVec 32 := 32#32
  let c0_i32_52 : BitVec 32 := 0#32
  let v161 : BitVec 1 := Scalar.cmpi .eq c32_i32_51 c0_i32_52
  let c1_i32_53 : BitVec 32 := 1#32
  let v162 : BitVec 32 := Scalar.select v161 c1_i32_53 c32_i32_51
  let v163 : BitVec 32 := Scalar.remsi v160 v162
  let c0_i32_55 : BitVec 32 := 0#32
  let v165 : BitVec 1 := Scalar.cmpi .slt v163 c0_i32_55
  let c0_i32_56 : BitVec 32 := 0#32
  let v166 : BitVec 1 := Scalar.cmpi .slt v162 c0_i32_56
  let v167 : BitVec 1 := Scalar.xori v165 v166
  let c0_i32_54 : BitVec 32 := 0#32
  let v164 : BitVec 1 := Scalar.cmpi .ne v163 c0_i32_54
  let v168 : BitVec 1 := Scalar.andi v167 v164
  let v169 : BitVec 32 := Scalar.addi v163 v162
  let v170 : BitVec 32 := Scalar.select v168 v169 v163
  let v549 : Index := Scalar.indexCast v170
  let c0_299 : Index := 0#32
  let c0_300 : Index := 0#32
  ![v549.toNat, 0, 0]
def k0_off59 (v147 : BitVec 32) : Fin 3 → Nat :=
  let c32_i32_49 : BitVec 32 := 32#32
  let v159 : BitVec 32 := Scalar.addi v147 c32_i32_49
  let c1_i32_50 : BitVec 32 := 1#32
  let v160 : BitVec 32 := Scalar.subi v159 c1_i32_50
  let c32_i32_51 : BitVec 32 := 32#32
  let c0_i32_52 : BitVec 32 := 0#32
  let v161 : BitVec 1 := Scalar.cmpi .eq c32_i32_51 c0_i32_52
  let c1_i32_53 : BitVec 32 := 1#32
  let v162 : BitVec 32 := Scalar.select v161 c1_i32_53 c32_i32_51
  let v163 : BitVec 32 := Scalar.remsi v160 v162
  let c0_i32_55 : BitVec 32 := 0#32
  let v165 : BitVec 1 := Scalar.cmpi .slt v163 c0_i32_55
  let c0_i32_56 : BitVec 32 := 0#32
  let v166 : BitVec 1 := Scalar.cmpi .slt v162 c0_i32_56
  let v167 : BitVec 1 := Scalar.xori v165 v166
  let c0_i32_54 : BitVec 32 := 0#32
  let v164 : BitVec 1 := Scalar.cmpi .ne v163 c0_i32_54
  let v168 : BitVec 1 := Scalar.andi v167 v164
  let v169 : BitVec 32 := Scalar.addi v163 v162
  let v170 : BitVec 32 := Scalar.select v168 v169 v163
  let v552 : Index := Scalar.indexCast v170
  let c0_301 : Index := 0#32
  let c0_302 : Index := 0#32
  ![v552.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_326 : BitVec 32 := 0#32
  let v585 : BitVec 1 := Scalar.cmpi .ne v2 c0_i32_326
  let v586 : BitVec 32 := Scalar.extui v585
  let c0_i32_327 : BitVec 32 := 0#32
  let v587 : BitVec 1 := Scalar.cmpi .ne v586 c0_i32_327
  v587

def k0_off60 (v147 : BitVec 32) : Fin 3 → Nat :=
  let c0_i32_394 : BitVec 32 := 0#32
  let c0_i32_395 : BitVec 32 := 0#32
  ![v147.toNat, 0, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_328 : BitVec 32 := 1#32
  let v588 : BitVec 1 := Scalar.cmpi .ne v2 c1_i32_328
  let v589 : BitVec 32 := Scalar.extui v588
  let c0_i32_329 : BitVec 32 := 0#32
  let v590 : BitVec 1 := Scalar.cmpi .ne v589 c0_i32_329
  v590

def k0_off61 (v147 : BitVec 32) : Fin 3 → Nat :=
  let c0_i32_394 : BitVec 32 := 0#32
  let c0_i32_395 : BitVec 32 := 0#32
  ![v147.toNat, 0, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_330 : BitVec 32 := 2#32
  let v591 : BitVec 1 := Scalar.cmpi .ne v2 c2_i32_330
  let v592 : BitVec 32 := Scalar.extui v591
  let c0_i32_331 : BitVec 32 := 0#32
  let v593 : BitVec 1 := Scalar.cmpi .ne v592 c0_i32_331
  v593

def k0_off62 (v147 : BitVec 32) : Fin 3 → Nat :=
  let c0_i32_393 : BitVec 32 := 0#32
  let c0_i32_394 : BitVec 32 := 0#32
  ![v147.toNat, 0, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_332 : BitVec 32 := 3#32
  let v594 : BitVec 1 := Scalar.cmpi .ne v2 c3_i32_332
  let v595 : BitVec 32 := Scalar.extui v594
  let c0_i32_333 : BitVec 32 := 0#32
  let v596 : BitVec 1 := Scalar.cmpi .ne v595 c0_i32_333
  v596

def k0_off63 (v147 : BitVec 32) : Fin 3 → Nat :=
  let c0_i32_393 : BitVec 32 := 0#32
  let c0_i32_394 : BitVec 32 := 0#32
  ![v147.toNat, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_334 : BitVec 32 := 4#32
  let v597 : BitVec 1 := Scalar.cmpi .ne v2 c4_i32_334
  let v598 : BitVec 32 := Scalar.extui v597
  let c0_i32_335 : BitVec 32 := 0#32
  let v599 : BitVec 1 := Scalar.cmpi .ne v598 c0_i32_335
  v599

def k0_off64 (v147 : BitVec 32) : Fin 3 → Nat :=
  let c0_i32_393 : BitVec 32 := 0#32
  let c0_i32_394 : BitVec 32 := 0#32
  ![v147.toNat, 0, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_336 : BitVec 32 := 5#32
  let v600 : BitVec 1 := Scalar.cmpi .ne v2 c5_i32_336
  let v601 : BitVec 32 := Scalar.extui v600
  let c0_i32_337 : BitVec 32 := 0#32
  let v602 : BitVec 1 := Scalar.cmpi .ne v601 c0_i32_337
  v602

def k0_off65 (v147 : BitVec 32) : Fin 3 → Nat :=
  let c0_i32_393 : BitVec 32 := 0#32
  let c0_i32_394 : BitVec 32 := 0#32
  ![v147.toNat, 0, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_338 : BitVec 32 := 6#32
  let v603 : BitVec 1 := Scalar.cmpi .ne v2 c6_i32_338
  let v604 : BitVec 32 := Scalar.extui v603
  let c0_i32_339 : BitVec 32 := 0#32
  let v605 : BitVec 1 := Scalar.cmpi .ne v604 c0_i32_339
  v605

def k0_off66 (v147 : BitVec 32) : Fin 3 → Nat :=
  let c0_i32_393 : BitVec 32 := 0#32
  let c0_i32_394 : BitVec 32 := 0#32
  ![v147.toNat, 0, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_340 : BitVec 32 := 7#32
  let v606 : BitVec 1 := Scalar.cmpi .ne v2 c7_i32_340
  let v607 : BitVec 32 := Scalar.extui v606
  let c0_i32_341 : BitVec 32 := 0#32
  let v608 : BitVec 1 := Scalar.cmpi .ne v607 c0_i32_341
  v608

def k0_off67 (v147 : BitVec 32) : Fin 3 → Nat :=
  let c0_i32_393 : BitVec 32 := 0#32
  let c0_i32_394 : BitVec 32 := 0#32
  ![v147.toNat, 0, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_342 : BitVec 32 := 8#32
  let v609 : BitVec 1 := Scalar.cmpi .ne v2 c8_i32_342
  let v610 : BitVec 32 := Scalar.extui v609
  let c0_i32_343 : BitVec 32 := 0#32
  let v611 : BitVec 1 := Scalar.cmpi .ne v610 c0_i32_343
  v611

def k0_off68 (v147 : BitVec 32) : Fin 3 → Nat :=
  let c0_i32_393 : BitVec 32 := 0#32
  let c0_i32_394 : BitVec 32 := 0#32
  ![v147.toNat, 0, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_344 : BitVec 32 := 9#32
  let v612 : BitVec 1 := Scalar.cmpi .ne v2 c9_i32_344
  let v613 : BitVec 32 := Scalar.extui v612
  let c0_i32_345 : BitVec 32 := 0#32
  let v614 : BitVec 1 := Scalar.cmpi .ne v613 c0_i32_345
  v614

def k0_off69 (v147 : BitVec 32) : Fin 3 → Nat :=
  let c0_i32_393 : BitVec 32 := 0#32
  let c0_i32_394 : BitVec 32 := 0#32
  ![v147.toNat, 0, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_346 : BitVec 32 := 10#32
  let v615 : BitVec 1 := Scalar.cmpi .ne v2 c10_i32_346
  let v616 : BitVec 32 := Scalar.extui v615
  let c0_i32_347 : BitVec 32 := 0#32
  let v617 : BitVec 1 := Scalar.cmpi .ne v616 c0_i32_347
  v617

def k0_off70 (v147 : BitVec 32) : Fin 3 → Nat :=
  let c0_i32_393 : BitVec 32 := 0#32
  let c0_i32_394 : BitVec 32 := 0#32
  ![v147.toNat, 0, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_348 : BitVec 32 := 11#32
  let v618 : BitVec 1 := Scalar.cmpi .ne v2 c11_i32_348
  let v619 : BitVec 32 := Scalar.extui v618
  let c0_i32_349 : BitVec 32 := 0#32
  let v620 : BitVec 1 := Scalar.cmpi .ne v619 c0_i32_349
  v620

def k0_off71 (v147 : BitVec 32) : Fin 3 → Nat :=
  let c0_i32_393 : BitVec 32 := 0#32
  let c0_i32_394 : BitVec 32 := 0#32
  ![v147.toNat, 0, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_350 : BitVec 32 := 12#32
  let v621 : BitVec 1 := Scalar.cmpi .ne v2 c12_i32_350
  let v622 : BitVec 32 := Scalar.extui v621
  let c0_i32_351 : BitVec 32 := 0#32
  let v623 : BitVec 1 := Scalar.cmpi .ne v622 c0_i32_351
  v623

def k0_off72 (v147 : BitVec 32) : Fin 3 → Nat :=
  let c0_i32_393 : BitVec 32 := 0#32
  let c0_i32_394 : BitVec 32 := 0#32
  ![v147.toNat, 0, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_352 : BitVec 32 := 13#32
  let v624 : BitVec 1 := Scalar.cmpi .ne v2 c13_i32_352
  let v625 : BitVec 32 := Scalar.extui v624
  let c0_i32_353 : BitVec 32 := 0#32
  let v626 : BitVec 1 := Scalar.cmpi .ne v625 c0_i32_353
  v626

def k0_off73 (v147 : BitVec 32) : Fin 3 → Nat :=
  let c0_i32_393 : BitVec 32 := 0#32
  let c0_i32_394 : BitVec 32 := 0#32
  ![v147.toNat, 0, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_354 : BitVec 32 := 14#32
  let v627 : BitVec 1 := Scalar.cmpi .ne v2 c14_i32_354
  let v628 : BitVec 32 := Scalar.extui v627
  let c0_i32_355 : BitVec 32 := 0#32
  let v629 : BitVec 1 := Scalar.cmpi .ne v628 c0_i32_355
  v629

def k0_off74 (v147 : BitVec 32) : Fin 3 → Nat :=
  let c0_i32_393 : BitVec 32 := 0#32
  let c0_i32_394 : BitVec 32 := 0#32
  ![v147.toNat, 0, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_356 : BitVec 32 := 15#32
  let v630 : BitVec 1 := Scalar.cmpi .ne v2 c15_i32_356
  let v631 : BitVec 32 := Scalar.extui v630
  let c0_i32_357 : BitVec 32 := 0#32
  let v632 : BitVec 1 := Scalar.cmpi .ne v631 c0_i32_357
  v632

def k0_off75 (v147 : BitVec 32) : Fin 3 → Nat :=
  let c0_i32_393 : BitVec 32 := 0#32
  let c0_i32_394 : BitVec 32 := 0#32
  ![v147.toNat, 0, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_358 : BitVec 32 := 16#32
  let v633 : BitVec 1 := Scalar.cmpi .ne v2 c16_i32_358
  let v634 : BitVec 32 := Scalar.extui v633
  let c0_i32_359 : BitVec 32 := 0#32
  let v635 : BitVec 1 := Scalar.cmpi .ne v634 c0_i32_359
  v635

def k0_off76 (v147 : BitVec 32) : Fin 3 → Nat :=
  let c0_i32_393 : BitVec 32 := 0#32
  let c0_i32_394 : BitVec 32 := 0#32
  ![v147.toNat, 0, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_360 : BitVec 32 := 17#32
  let v636 : BitVec 1 := Scalar.cmpi .ne v2 c17_i32_360
  let v637 : BitVec 32 := Scalar.extui v636
  let c0_i32_361 : BitVec 32 := 0#32
  let v638 : BitVec 1 := Scalar.cmpi .ne v637 c0_i32_361
  v638

def k0_off77 (v147 : BitVec 32) : Fin 3 → Nat :=
  let c0_i32_393 : BitVec 32 := 0#32
  let c0_i32_394 : BitVec 32 := 0#32
  ![v147.toNat, 0, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_362 : BitVec 32 := 18#32
  let v639 : BitVec 1 := Scalar.cmpi .ne v2 c18_i32_362
  let v640 : BitVec 32 := Scalar.extui v639
  let c0_i32_363 : BitVec 32 := 0#32
  let v641 : BitVec 1 := Scalar.cmpi .ne v640 c0_i32_363
  v641

def k0_off78 (v147 : BitVec 32) : Fin 3 → Nat :=
  let c0_i32_393 : BitVec 32 := 0#32
  let c0_i32_394 : BitVec 32 := 0#32
  ![v147.toNat, 0, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_364 : BitVec 32 := 19#32
  let v642 : BitVec 1 := Scalar.cmpi .ne v2 c19_i32_364
  let v643 : BitVec 32 := Scalar.extui v642
  let c0_i32_365 : BitVec 32 := 0#32
  let v644 : BitVec 1 := Scalar.cmpi .ne v643 c0_i32_365
  v644

def k0_off79 (v147 : BitVec 32) : Fin 3 → Nat :=
  let c0_i32_393 : BitVec 32 := 0#32
  let c0_i32_394 : BitVec 32 := 0#32
  ![v147.toNat, 0, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_366 : BitVec 32 := 20#32
  let v645 : BitVec 1 := Scalar.cmpi .ne v2 c20_i32_366
  let v646 : BitVec 32 := Scalar.extui v645
  let c0_i32_367 : BitVec 32 := 0#32
  let v647 : BitVec 1 := Scalar.cmpi .ne v646 c0_i32_367
  v647

def k0_off80 (v147 : BitVec 32) : Fin 3 → Nat :=
  let c0_i32_393 : BitVec 32 := 0#32
  let c0_i32_394 : BitVec 32 := 0#32
  ![v147.toNat, 0, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_368 : BitVec 32 := 21#32
  let v648 : BitVec 1 := Scalar.cmpi .ne v2 c21_i32_368
  let v649 : BitVec 32 := Scalar.extui v648
  let c0_i32_369 : BitVec 32 := 0#32
  let v650 : BitVec 1 := Scalar.cmpi .ne v649 c0_i32_369
  v650

def k0_off81 (v147 : BitVec 32) : Fin 3 → Nat :=
  let c0_i32_393 : BitVec 32 := 0#32
  let c0_i32_394 : BitVec 32 := 0#32
  ![v147.toNat, 0, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_370 : BitVec 32 := 22#32
  let v651 : BitVec 1 := Scalar.cmpi .ne v2 c22_i32_370
  let v652 : BitVec 32 := Scalar.extui v651
  let c0_i32_371 : BitVec 32 := 0#32
  let v653 : BitVec 1 := Scalar.cmpi .ne v652 c0_i32_371
  v653

def k0_off82 (v147 : BitVec 32) : Fin 3 → Nat :=
  let c0_i32_393 : BitVec 32 := 0#32
  let c0_i32_394 : BitVec 32 := 0#32
  ![v147.toNat, 0, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_372 : BitVec 32 := 23#32
  let v654 : BitVec 1 := Scalar.cmpi .ne v2 c23_i32_372
  let v655 : BitVec 32 := Scalar.extui v654
  let c0_i32_373 : BitVec 32 := 0#32
  let v656 : BitVec 1 := Scalar.cmpi .ne v655 c0_i32_373
  v656

def k0_off83 (v147 : BitVec 32) : Fin 3 → Nat :=
  let c0_i32_393 : BitVec 32 := 0#32
  let c0_i32_394 : BitVec 32 := 0#32
  ![v147.toNat, 0, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_374 : BitVec 32 := 24#32
  let v657 : BitVec 1 := Scalar.cmpi .ne v2 c24_i32_374
  let v658 : BitVec 32 := Scalar.extui v657
  let c0_i32_375 : BitVec 32 := 0#32
  let v659 : BitVec 1 := Scalar.cmpi .ne v658 c0_i32_375
  v659

def k0_off84 (v147 : BitVec 32) : Fin 3 → Nat :=
  let c0_i32_393 : BitVec 32 := 0#32
  let c0_i32_394 : BitVec 32 := 0#32
  ![v147.toNat, 0, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_376 : BitVec 32 := 25#32
  let v660 : BitVec 1 := Scalar.cmpi .ne v2 c25_i32_376
  let v661 : BitVec 32 := Scalar.extui v660
  let c0_i32_377 : BitVec 32 := 0#32
  let v662 : BitVec 1 := Scalar.cmpi .ne v661 c0_i32_377
  v662

def k0_off85 (v147 : BitVec 32) : Fin 3 → Nat :=
  let c0_i32_393 : BitVec 32 := 0#32
  let c0_i32_394 : BitVec 32 := 0#32
  ![v147.toNat, 0, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_378 : BitVec 32 := 26#32
  let v663 : BitVec 1 := Scalar.cmpi .ne v2 c26_i32_378
  let v664 : BitVec 32 := Scalar.extui v663
  let c0_i32_379 : BitVec 32 := 0#32
  let v665 : BitVec 1 := Scalar.cmpi .ne v664 c0_i32_379
  v665

def k0_off86 (v147 : BitVec 32) : Fin 3 → Nat :=
  let c0_i32_393 : BitVec 32 := 0#32
  let c0_i32_394 : BitVec 32 := 0#32
  ![v147.toNat, 0, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_380 : BitVec 32 := 27#32
  let v666 : BitVec 1 := Scalar.cmpi .ne v2 c27_i32_380
  let v667 : BitVec 32 := Scalar.extui v666
  let c0_i32_381 : BitVec 32 := 0#32
  let v668 : BitVec 1 := Scalar.cmpi .ne v667 c0_i32_381
  v668

def k0_off87 (v147 : BitVec 32) : Fin 3 → Nat :=
  let c0_i32_393 : BitVec 32 := 0#32
  let c0_i32_394 : BitVec 32 := 0#32
  ![v147.toNat, 0, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_382 : BitVec 32 := 28#32
  let v669 : BitVec 1 := Scalar.cmpi .ne v2 c28_i32_382
  let v670 : BitVec 32 := Scalar.extui v669
  let c0_i32_383 : BitVec 32 := 0#32
  let v671 : BitVec 1 := Scalar.cmpi .ne v670 c0_i32_383
  v671

def k0_off88 (v147 : BitVec 32) : Fin 3 → Nat :=
  let c0_i32_393 : BitVec 32 := 0#32
  let c0_i32_394 : BitVec 32 := 0#32
  ![v147.toNat, 0, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_384 : BitVec 32 := 29#32
  let v672 : BitVec 1 := Scalar.cmpi .ne v2 c29_i32_384
  let v673 : BitVec 32 := Scalar.extui v672
  let c0_i32_385 : BitVec 32 := 0#32
  let v674 : BitVec 1 := Scalar.cmpi .ne v673 c0_i32_385
  v674

def k0_off89 (v147 : BitVec 32) : Fin 3 → Nat :=
  let c0_i32_393 : BitVec 32 := 0#32
  let c0_i32_394 : BitVec 32 := 0#32
  ![v147.toNat, 0, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_386 : BitVec 32 := 30#32
  let v675 : BitVec 1 := Scalar.cmpi .ne v2 c30_i32_386
  let v676 : BitVec 32 := Scalar.extui v675
  let c0_i32_387 : BitVec 32 := 0#32
  let v677 : BitVec 1 := Scalar.cmpi .ne v676 c0_i32_387
  v677

def k0_off90 (v147 : BitVec 32) : Fin 3 → Nat :=
  let c0_i32_393 : BitVec 32 := 0#32
  let c0_i32_394 : BitVec 32 := 0#32
  ![v147.toNat, 0, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_388 : BitVec 32 := 31#32
  let v678 : BitVec 1 := Scalar.cmpi .ne v2 c31_i32_388
  let v679 : BitVec 32 := Scalar.extui v678
  let c0_i32_389 : BitVec 32 := 0#32
  let v680 : BitVec 1 := Scalar.cmpi .ne v679 c0_i32_389
  v680

def k0_off91 (v147 : BitVec 32) : Fin 3 → Nat :=
  let c0_i32_393 : BitVec 32 := 0#32
  let c0_i32_394 : BitVec 32 := 0#32
  ![v147.toNat, 0, 0]

def k0_chk1_0 (d0 : Dev nD) (v147 : BitVec 32) : Prop :=
  (∀ a, (k0_off1 v147) a + S1x128x2048.size a ≤ S32x128x2048.size a) ∧
  (∀ (hinb : ∀ a, (k0_off1 v147) a + S1x128x2048.size a ≤ S32x128x2048.size a), (Rect.unit (s := S32x128x2048) (k0_off1 v147) S1x128x2048.size hinb).PackedRows (EltTy.packing .fp8e4m3)) ∧
  (∀ a, (k0_off3 v147) a + S1x128x128.size a ≤ S32x128x128.size a) ∧
  (∀ (hinb : ∀ a, (k0_off3 v147) a + S1x128x128.size a ≤ S32x128x128.size a), (Rect.unit (s := S32x128x128) (k0_off3 v147) S1x128x128.size hinb).PackedRows (EltTy.packing .fp8e4m3)) ∧
  (∀ (k0_h1 : k0_cond1 d0 = 1#1), ∀ a, (k0_off4 v147) a + S1x128x128.size a ≤ S32x128x128.size a) ∧
  (∀ (k0_h1 : k0_cond1 d0 = 1#1), ∀ (hinb : ∀ a, (k0_off4 v147) a + S1x128x128.size a ≤ S32x128x128.size a), (Rect.unit (s := S32x128x128) (k0_off4 v147) S1x128x128.size hinb).WholeWords (EltTy.packing .fp8e4m3)) ∧
  (∀ (k0_h2 : k0_cond2 d0 = 1#1), ∀ a, (k0_off5 v147) a + S1x128x128.size a ≤ S32x128x128.size a) ∧
  (∀ (k0_h2 : k0_cond2 d0 = 1#1), ∀ (hinb : ∀ a, (k0_off5 v147) a + S1x128x128.size a ≤ S32x128x128.size a), (Rect.unit (s := S32x128x128) (k0_off5 v147) S1x128x128.size hinb).WholeWords (EltTy.packing .fp8e4m3)) ∧
  (∀ (k0_h3 : k0_cond3 d0 = 1#1), ∀ a, (k0_off6 v147) a + S1x128x128.size a ≤ S32x128x128.size a) ∧
  (∀ (k0_h3 : k0_cond3 d0 = 1#1), ∀ (hinb : ∀ a, (k0_off6 v147) a + S1x128x128.size a ≤ S32x128x128.size a), (Rect.unit (s := S32x128x128) (k0_off6 v147) S1x128x128.size hinb).WholeWords (EltTy.packing .fp8e4m3)) ∧
  (∀ (k0_h4 : k0_cond4 d0 = 1#1), ∀ a, (k0_off7 v147) a + S1x128x128.size a ≤ S32x128x128.size a) ∧
  (∀ (k0_h4 : k0_cond4 d0 = 1#1), ∀ (hinb : ∀ a, (k0_off7 v147) a + S1x128x128.size a ≤ S32x128x128.size a), (Rect.unit (s := S32x128x128) (k0_off7 v147) S1x128x128.size hinb).WholeWords (EltTy.packing .fp8e4m3)) ∧
  (∀ (k0_h5 : k0_cond5 d0 = 1#1), ∀ a, (k0_off8 v147) a + S1x128x128.size a ≤ S32x128x128.size a) ∧
  (∀ (k0_h5 : k0_cond5 d0 = 1#1), ∀ (hinb : ∀ a, (k0_off8 v147) a + S1x128x128.size a ≤ S32x128x128.size a), (Rect.unit (s := S32x128x128) (k0_off8 v147) S1x128x128.size hinb).WholeWords (EltTy.packing .fp8e4m3)) ∧
  (∀ (k0_h6 : k0_cond6 d0 = 1#1), ∀ a, (k0_off9 v147) a + S1x128x128.size a ≤ S32x128x128.size a) ∧
  (∀ (k0_h6 : k0_cond6 d0 = 1#1), ∀ (hinb : ∀ a, (k0_off9 v147) a + S1x128x128.size a ≤ S32x128x128.size a), (Rect.unit (s := S32x128x128) (k0_off9 v147) S1x128x128.size hinb).WholeWords (EltTy.packing .fp8e4m3)) ∧
  (∀ (k0_h7 : k0_cond7 d0 = 1#1), ∀ a, (k0_off10 v147) a + S1x128x128.size a ≤ S32x128x128.size a) ∧
  (∀ (k0_h7 : k0_cond7 d0 = 1#1), ∀ (hinb : ∀ a, (k0_off10 v147) a + S1x128x128.size a ≤ S32x128x128.size a), (Rect.unit (s := S32x128x128) (k0_off10 v147) S1x128x128.size hinb).WholeWords (EltTy.packing .fp8e4m3)) ∧
  (∀ (k0_h8 : k0_cond8 d0 = 1#1), ∀ a, (k0_off11 v147) a + S1x128x128.size a ≤ S32x128x128.size a) ∧
  (∀ (k0_h8 : k0_cond8 d0 = 1#1), ∀ (hinb : ∀ a, (k0_off11 v147) a + S1x128x128.size a ≤ S32x128x128.size a), (Rect.unit (s := S32x128x128) (k0_off11 v147) S1x128x128.size hinb).WholeWords (EltTy.packing .fp8e4m3)) ∧
  (∀ (k0_h9 : k0_cond9 d0 = 1#1), ∀ a, (k0_off12 v147) a + S1x128x128.size a ≤ S32x128x128.size a) ∧
  (∀ (k0_h9 : k0_cond9 d0 = 1#1), ∀ (hinb : ∀ a, (k0_off12 v147) a + S1x128x128.size a ≤ S32x128x128.size a), (Rect.unit (s := S32x128x128) (k0_off12 v147) S1x128x128.size hinb).WholeWords (EltTy.packing .fp8e4m3)) ∧
  (∀ (k0_h10 : k0_cond10 d0 = 1#1), ∀ a, (k0_off13 v147) a + S1x128x128.size a ≤ S32x128x128.size a) ∧
  (∀ (k0_h10 : k0_cond10 d0 = 1#1), ∀ (hinb : ∀ a, (k0_off13 v147) a + S1x128x128.size a ≤ S32x128x128.size a), (Rect.unit (s := S32x128x128) (k0_off13 v147) S1x128x128.size hinb).WholeWords (EltTy.packing .fp8e4m3)) ∧
  (∀ (k0_h11 : k0_cond11 d0 = 1#1), ∀ a, (k0_off14 v147) a + S1x128x128.size a ≤ S32x128x128.size a) ∧
  (∀ (k0_h11 : k0_cond11 d0 = 1#1), ∀ (hinb : ∀ a, (k0_off14 v147) a + S1x128x128.size a ≤ S32x128x128.size a), (Rect.unit (s := S32x128x128) (k0_off14 v147) S1x128x128.size hinb).WholeWords (EltTy.packing .fp8e4m3)) ∧
  (∀ (k0_h12 : k0_cond12 d0 = 1#1), ∀ a, (k0_off15 v147) a + S1x128x128.size a ≤ S32x128x128.size a) ∧
  (∀ (k0_h12 : k0_cond12 d0 = 1#1), ∀ (hinb : ∀ a, (k0_off15 v147) a + S1x128x128.size a ≤ S32x128x128.size a), (Rect.unit (s := S32x128x128) (k0_off15 v147) S1x128x128.size hinb).WholeWords (EltTy.packing .fp8e4m3)) ∧
  (∀ (k0_h13 : k0_cond13 d0 = 1#1), ∀ a, (k0_off16 v147) a + S1x128x128.size a ≤ S32x128x128.size a) ∧
  (∀ (k0_h13 : k0_cond13 d0 = 1#1), ∀ (hinb : ∀ a, (k0_off16 v147) a + S1x128x128.size a ≤ S32x128x128.size a), (Rect.unit (s := S32x128x128) (k0_off16 v147) S1x128x128.size hinb).WholeWords (EltTy.packing .fp8e4m3)) ∧
  (∀ (k0_h14 : k0_cond14 d0 = 1#1), ∀ a, (k0_off17 v147) a + S1x128x128.size a ≤ S32x128x128.size a) ∧
  (∀ (k0_h14 : k0_cond14 d0 = 1#1), ∀ (hinb : ∀ a, (k0_off17 v147) a + S1x128x128.size a ≤ S32x128x128.size a), (Rect.unit (s := S32x128x128) (k0_off17 v147) S1x128x128.size hinb).WholeWords (EltTy.packing .fp8e4m3))
def k0_chk1_1 (d0 : Dev nD) (v147 : BitVec 32) : Prop :=
  (∀ (k0_h15 : k0_cond15 d0 = 1#1), ∀ a, (k0_off18 v147) a + S1x128x128.size a ≤ S32x128x128.size a) ∧
  (∀ (k0_h15 : k0_cond15 d0 = 1#1), ∀ (hinb : ∀ a, (k0_off18 v147) a + S1x128x128.size a ≤ S32x128x128.size a), (Rect.unit (s := S32x128x128) (k0_off18 v147) S1x128x128.size hinb).WholeWords (EltTy.packing .fp8e4m3)) ∧
  (∀ (k0_h16 : k0_cond16 d0 = 1#1), ∀ a, (k0_off19 v147) a + S1x128x128.size a ≤ S32x128x128.size a) ∧
  (∀ (k0_h16 : k0_cond16 d0 = 1#1), ∀ (hinb : ∀ a, (k0_off19 v147) a + S1x128x128.size a ≤ S32x128x128.size a), (Rect.unit (s := S32x128x128) (k0_off19 v147) S1x128x128.size hinb).WholeWords (EltTy.packing .fp8e4m3)) ∧
  (∀ (k0_h17 : k0_cond17 d0 = 1#1), ∀ a, (k0_off20 v147) a + S1x128x128.size a ≤ S32x128x128.size a) ∧
  (∀ (k0_h17 : k0_cond17 d0 = 1#1), ∀ (hinb : ∀ a, (k0_off20 v147) a + S1x128x128.size a ≤ S32x128x128.size a), (Rect.unit (s := S32x128x128) (k0_off20 v147) S1x128x128.size hinb).WholeWords (EltTy.packing .fp8e4m3)) ∧
  (∀ (k0_h18 : k0_cond18 d0 = 1#1), ∀ a, (k0_off21 v147) a + S1x128x128.size a ≤ S32x128x128.size a) ∧
  (∀ (k0_h18 : k0_cond18 d0 = 1#1), ∀ (hinb : ∀ a, (k0_off21 v147) a + S1x128x128.size a ≤ S32x128x128.size a), (Rect.unit (s := S32x128x128) (k0_off21 v147) S1x128x128.size hinb).WholeWords (EltTy.packing .fp8e4m3)) ∧
  (∀ (k0_h19 : k0_cond19 d0 = 1#1), ∀ a, (k0_off22 v147) a + S1x128x128.size a ≤ S32x128x128.size a) ∧
  (∀ (k0_h19 : k0_cond19 d0 = 1#1), ∀ (hinb : ∀ a, (k0_off22 v147) a + S1x128x128.size a ≤ S32x128x128.size a), (Rect.unit (s := S32x128x128) (k0_off22 v147) S1x128x128.size hinb).WholeWords (EltTy.packing .fp8e4m3)) ∧
  (∀ (k0_h20 : k0_cond20 d0 = 1#1), ∀ a, (k0_off23 v147) a + S1x128x128.size a ≤ S32x128x128.size a) ∧
  (∀ (k0_h20 : k0_cond20 d0 = 1#1), ∀ (hinb : ∀ a, (k0_off23 v147) a + S1x128x128.size a ≤ S32x128x128.size a), (Rect.unit (s := S32x128x128) (k0_off23 v147) S1x128x128.size hinb).WholeWords (EltTy.packing .fp8e4m3)) ∧
  (∀ (k0_h21 : k0_cond21 d0 = 1#1), ∀ a, (k0_off24 v147) a + S1x128x128.size a ≤ S32x128x128.size a) ∧
  (∀ (k0_h21 : k0_cond21 d0 = 1#1), ∀ (hinb : ∀ a, (k0_off24 v147) a + S1x128x128.size a ≤ S32x128x128.size a), (Rect.unit (s := S32x128x128) (k0_off24 v147) S1x128x128.size hinb).WholeWords (EltTy.packing .fp8e4m3)) ∧
  (∀ (k0_h22 : k0_cond22 d0 = 1#1), ∀ a, (k0_off25 v147) a + S1x128x128.size a ≤ S32x128x128.size a) ∧
  (∀ (k0_h22 : k0_cond22 d0 = 1#1), ∀ (hinb : ∀ a, (k0_off25 v147) a + S1x128x128.size a ≤ S32x128x128.size a), (Rect.unit (s := S32x128x128) (k0_off25 v147) S1x128x128.size hinb).WholeWords (EltTy.packing .fp8e4m3)) ∧
  (∀ (k0_h23 : k0_cond23 d0 = 1#1), ∀ a, (k0_off26 v147) a + S1x128x128.size a ≤ S32x128x128.size a) ∧
  (∀ (k0_h23 : k0_cond23 d0 = 1#1), ∀ (hinb : ∀ a, (k0_off26 v147) a + S1x128x128.size a ≤ S32x128x128.size a), (Rect.unit (s := S32x128x128) (k0_off26 v147) S1x128x128.size hinb).WholeWords (EltTy.packing .fp8e4m3)) ∧
  (∀ (k0_h24 : k0_cond24 d0 = 1#1), ∀ a, (k0_off27 v147) a + S1x128x128.size a ≤ S32x128x128.size a) ∧
  (∀ (k0_h24 : k0_cond24 d0 = 1#1), ∀ (hinb : ∀ a, (k0_off27 v147) a + S1x128x128.size a ≤ S32x128x128.size a), (Rect.unit (s := S32x128x128) (k0_off27 v147) S1x128x128.size hinb).WholeWords (EltTy.packing .fp8e4m3)) ∧
  (∀ (k0_h25 : k0_cond25 d0 = 1#1), ∀ a, (k0_off28 v147) a + S1x128x128.size a ≤ S32x128x128.size a) ∧
  (∀ (k0_h25 : k0_cond25 d0 = 1#1), ∀ (hinb : ∀ a, (k0_off28 v147) a + S1x128x128.size a ≤ S32x128x128.size a), (Rect.unit (s := S32x128x128) (k0_off28 v147) S1x128x128.size hinb).WholeWords (EltTy.packing .fp8e4m3)) ∧
  (∀ (k0_h26 : k0_cond26 d0 = 1#1), ∀ a, (k0_off29 v147) a + S1x128x128.size a ≤ S32x128x128.size a) ∧
  (∀ (k0_h26 : k0_cond26 d0 = 1#1), ∀ (hinb : ∀ a, (k0_off29 v147) a + S1x128x128.size a ≤ S32x128x128.size a), (Rect.unit (s := S32x128x128) (k0_off29 v147) S1x128x128.size hinb).WholeWords (EltTy.packing .fp8e4m3)) ∧
  (∀ (k0_h27 : k0_cond27 d0 = 1#1), ∀ a, (k0_off30 v147) a + S1x128x128.size a ≤ S32x128x128.size a) ∧
  (∀ (k0_h27 : k0_cond27 d0 = 1#1), ∀ (hinb : ∀ a, (k0_off30 v147) a + S1x128x128.size a ≤ S32x128x128.size a), (Rect.unit (s := S32x128x128) (k0_off30 v147) S1x128x128.size hinb).WholeWords (EltTy.packing .fp8e4m3)) ∧
  (∀ (k0_h28 : k0_cond28 d0 = 1#1), ∀ a, (k0_off31 v147) a + S1x128x128.size a ≤ S32x128x128.size a) ∧
  (∀ (k0_h28 : k0_cond28 d0 = 1#1), ∀ (hinb : ∀ a, (k0_off31 v147) a + S1x128x128.size a ≤ S32x128x128.size a), (Rect.unit (s := S32x128x128) (k0_off31 v147) S1x128x128.size hinb).WholeWords (EltTy.packing .fp8e4m3)) ∧
  (∀ (k0_h29 : k0_cond29 d0 = 1#1), ∀ a, (k0_off32 v147) a + S1x128x128.size a ≤ S32x128x128.size a) ∧
  (∀ (k0_h29 : k0_cond29 d0 = 1#1), ∀ (hinb : ∀ a, (k0_off32 v147) a + S1x128x128.size a ≤ S32x128x128.size a), (Rect.unit (s := S32x128x128) (k0_off32 v147) S1x128x128.size hinb).WholeWords (EltTy.packing .fp8e4m3)) ∧
  (∀ (k0_h30 : k0_cond30 d0 = 1#1), ∀ a, (k0_off33 v147) a + S1x128x128.size a ≤ S32x128x128.size a) ∧
  (∀ (k0_h30 : k0_cond30 d0 = 1#1), ∀ (hinb : ∀ a, (k0_off33 v147) a + S1x128x128.size a ≤ S32x128x128.size a), (Rect.unit (s := S32x128x128) (k0_off33 v147) S1x128x128.size hinb).WholeWords (EltTy.packing .fp8e4m3))
def k0_chk1_2 (d0 : Dev nD) (v147 : BitVec 32) : Prop :=
  (∀ (k0_h31 : k0_cond31 d0 = 1#1), ∀ a, (k0_off34 v147) a + S1x128x128.size a ≤ S32x128x128.size a) ∧
  (∀ (k0_h31 : k0_cond31 d0 = 1#1), ∀ (hinb : ∀ a, (k0_off34 v147) a + S1x128x128.size a ≤ S32x128x128.size a), (Rect.unit (s := S32x128x128) (k0_off34 v147) S1x128x128.size hinb).WholeWords (EltTy.packing .fp8e4m3)) ∧
  (∀ (k0_h32 : k0_cond32 d0 = 1#1), ∀ a, (k0_off35 v147) a + S1x128x128.size a ≤ S32x128x128.size a) ∧
  (∀ (k0_h32 : k0_cond32 d0 = 1#1), ∀ (hinb : ∀ a, (k0_off35 v147) a + S1x128x128.size a ≤ S32x128x128.size a), (Rect.unit (s := S32x128x128) (k0_off35 v147) S1x128x128.size hinb).WholeWords (EltTy.packing .fp8e4m3)) ∧
  (∀ a, (k0_off36 v147) a + S1.size a ≤ S32.size a) ∧
  (∀ a, (k0_off37 v147) a + S1x128x2048.size a ≤ S32x128x2048.size a) ∧
  (∀ (hinb : ∀ a, (k0_off37 v147) a + S1x128x2048.size a ≤ S32x128x2048.size a), (Rect.unit (s := S32x128x2048) (k0_off37 v147) S1x128x2048.size hinb).WholeWords (EltTy.packing .fp8e4m3)) ∧
  (∀ a, (k0_off38 v147) a + S1.size a ≤ S32.size a) ∧
  (∀ a, (k0_off39 v147) a + S1x128x2048.size a ≤ S32x128x2048.size a) ∧
  (∀ (hinb : ∀ a, (k0_off39 v147) a + S1x128x2048.size a ≤ S32x128x2048.size a), (Rect.unit (s := S32x128x2048) (k0_off39 v147) S1x128x2048.size hinb).WholeWords (EltTy.packing .fp8e4m3)) ∧
  (∀ a, (k0_off40 v147) a + S1.size a ≤ S32.size a) ∧
  (∀ a, (k0_off41 v147) a + S1x128x2048.size a ≤ S32x128x2048.size a) ∧
  (∀ (hinb : ∀ a, (k0_off41 v147) a + S1x128x2048.size a ≤ S32x128x2048.size a), (Rect.unit (s := S32x128x2048) (k0_off41 v147) S1x128x2048.size hinb).WholeWords (EltTy.packing .fp8e4m3)) ∧
  (∀ a, (k0_off42 v147) a + S1x128x128.size a ≤ S32x128x128.size a) ∧
  (∀ a, (k0_off43 v147) a + S1x128x2048.size a ≤ S32x128x2048.size a) ∧
  (∀ k0_t2 : Fin k0_t2_loop.trips, ∀ a, (k0_off44 v147 k0_t2) a + S1.size a ≤ S32.size a) ∧
  (∀ k0_t2 : Fin k0_t2_loop.trips, ∀ a, (k0_off45 v147 k0_t2) a + S1x128x2048.size a ≤ S32x128x2048.size a) ∧
  (∀ k0_t2 : Fin k0_t2_loop.trips, ∀ (hinb : ∀ a, (k0_off45 v147 k0_t2) a + S1x128x2048.size a ≤ S32x128x2048.size a), (Rect.unit (s := S32x128x2048) (k0_off45 v147 k0_t2) S1x128x2048.size hinb).WholeWords (EltTy.packing .fp8e4m3)) ∧
  (∀ k0_t2 : Fin k0_t2_loop.trips, ∀ a, (k0_off46 v147 k0_t2) a + S1.size a ≤ S32.size a) ∧
  (∀ k0_t2 : Fin k0_t2_loop.trips, ∀ a, (k0_off47 v147 k0_t2) a + S1x128x2048.size a ≤ S32x128x2048.size a) ∧
  (∀ k0_t2 : Fin k0_t2_loop.trips, ∀ (hinb : ∀ a, (k0_off47 v147 k0_t2) a + S1x128x2048.size a ≤ S32x128x2048.size a), (Rect.unit (s := S32x128x2048) (k0_off47 v147 k0_t2) S1x128x2048.size hinb).WholeWords (EltTy.packing .fp8e4m3)) ∧
  (∀ k0_t2 : Fin k0_t2_loop.trips, ∀ a, (k0_off48 v147 k0_t2) a + S1x128x128.size a ≤ S32x128x128.size a) ∧
  (∀ k0_t2 : Fin k0_t2_loop.trips, ∀ a, (k0_off49 v147 k0_t2) a + S1x128x2048.size a ≤ S32x128x2048.size a) ∧
  (∀ k0_t2 : Fin k0_t2_loop.trips, ∀ a, (k0_off50 v147 k0_t2) a + S1x128x128.size a ≤ S32x128x128.size a) ∧
  (∀ k0_t2 : Fin k0_t2_loop.trips, ∀ a, (k0_off51 v147 k0_t2) a + S1x128x2048.size a ≤ S32x128x2048.size a) ∧
  (∀ a, (k0_off52 v147) a + S1.size a ≤ S32.size a) ∧
  (∀ a, (k0_off53 v147) a + S1x128x2048.size a ≤ S32x128x2048.size a) ∧
  (∀ (hinb : ∀ a, (k0_off53 v147) a + S1x128x2048.size a ≤ S32x128x2048.size a), (Rect.unit (s := S32x128x2048) (k0_off53 v147) S1x128x2048.size hinb).WholeWords (EltTy.packing .fp8e4m3)) ∧
  (∀ a, (k0_off54 v147) a + S1x128x128.size a ≤ S32x128x128.size a) ∧
  (∀ a, (k0_off55 v147) a + S1x128x2048.size a ≤ S32x128x2048.size a) ∧
  (∀ a, (k0_off56 v147) a + S1.size a ≤ S32.size a) ∧
  (∀ a, (k0_off57 v147) a + S1x128x2048.size a ≤ S32x128x2048.size a)
def k0_chk1_3 (d0 : Dev nD) (v147 : BitVec 32) : Prop :=
  (∀ (hinb : ∀ a, (k0_off57 v147) a + S1x128x2048.size a ≤ S32x128x2048.size a), (Rect.unit (s := S32x128x2048) (k0_off57 v147) S1x128x2048.size hinb).WholeWords (EltTy.packing .fp8e4m3)) ∧
  (∀ a, (k0_off58 v147) a + S1x128x128.size a ≤ S32x128x128.size a) ∧
  (∀ a, (k0_off59 v147) a + S1x128x2048.size a ≤ S32x128x2048.size a) ∧
  (∀ (k0_h65 : k0_cond65 d0 = 1#1), ∀ a, (k0_off60 v147) a + S1x128x128.size a ≤ S32x128x128.size a) ∧
  (∀ (k0_h65 : k0_cond65 d0 = 1#1), ∀ (hinb : ∀ a, (k0_off60 v147) a + S1x128x128.size a ≤ S32x128x128.size a), (Rect.unit (s := S32x128x128) (k0_off60 v147) S1x128x128.size hinb).WholeWords (EltTy.packing .fp8e4m3)) ∧
  (∀ (k0_h66 : k0_cond66 d0 = 1#1), ∀ a, (k0_off61 v147) a + S1x128x128.size a ≤ S32x128x128.size a) ∧
  (∀ (k0_h66 : k0_cond66 d0 = 1#1), ∀ (hinb : ∀ a, (k0_off61 v147) a + S1x128x128.size a ≤ S32x128x128.size a), (Rect.unit (s := S32x128x128) (k0_off61 v147) S1x128x128.size hinb).WholeWords (EltTy.packing .fp8e4m3)) ∧
  (∀ (k0_h67 : k0_cond67 d0 = 1#1), ∀ a, (k0_off62 v147) a + S1x128x128.size a ≤ S32x128x128.size a) ∧
  (∀ (k0_h67 : k0_cond67 d0 = 1#1), ∀ (hinb : ∀ a, (k0_off62 v147) a + S1x128x128.size a ≤ S32x128x128.size a), (Rect.unit (s := S32x128x128) (k0_off62 v147) S1x128x128.size hinb).WholeWords (EltTy.packing .fp8e4m3)) ∧
  (∀ (k0_h68 : k0_cond68 d0 = 1#1), ∀ a, (k0_off63 v147) a + S1x128x128.size a ≤ S32x128x128.size a) ∧
  (∀ (k0_h68 : k0_cond68 d0 = 1#1), ∀ (hinb : ∀ a, (k0_off63 v147) a + S1x128x128.size a ≤ S32x128x128.size a), (Rect.unit (s := S32x128x128) (k0_off63 v147) S1x128x128.size hinb).WholeWords (EltTy.packing .fp8e4m3)) ∧
  (∀ (k0_h69 : k0_cond69 d0 = 1#1), ∀ a, (k0_off64 v147) a + S1x128x128.size a ≤ S32x128x128.size a) ∧
  (∀ (k0_h69 : k0_cond69 d0 = 1#1), ∀ (hinb : ∀ a, (k0_off64 v147) a + S1x128x128.size a ≤ S32x128x128.size a), (Rect.unit (s := S32x128x128) (k0_off64 v147) S1x128x128.size hinb).WholeWords (EltTy.packing .fp8e4m3)) ∧
  (∀ (k0_h70 : k0_cond70 d0 = 1#1), ∀ a, (k0_off65 v147) a + S1x128x128.size a ≤ S32x128x128.size a) ∧
  (∀ (k0_h70 : k0_cond70 d0 = 1#1), ∀ (hinb : ∀ a, (k0_off65 v147) a + S1x128x128.size a ≤ S32x128x128.size a), (Rect.unit (s := S32x128x128) (k0_off65 v147) S1x128x128.size hinb).WholeWords (EltTy.packing .fp8e4m3)) ∧
  (∀ (k0_h71 : k0_cond71 d0 = 1#1), ∀ a, (k0_off66 v147) a + S1x128x128.size a ≤ S32x128x128.size a) ∧
  (∀ (k0_h71 : k0_cond71 d0 = 1#1), ∀ (hinb : ∀ a, (k0_off66 v147) a + S1x128x128.size a ≤ S32x128x128.size a), (Rect.unit (s := S32x128x128) (k0_off66 v147) S1x128x128.size hinb).WholeWords (EltTy.packing .fp8e4m3)) ∧
  (∀ (k0_h72 : k0_cond72 d0 = 1#1), ∀ a, (k0_off67 v147) a + S1x128x128.size a ≤ S32x128x128.size a) ∧
  (∀ (k0_h72 : k0_cond72 d0 = 1#1), ∀ (hinb : ∀ a, (k0_off67 v147) a + S1x128x128.size a ≤ S32x128x128.size a), (Rect.unit (s := S32x128x128) (k0_off67 v147) S1x128x128.size hinb).WholeWords (EltTy.packing .fp8e4m3)) ∧
  (∀ (k0_h73 : k0_cond73 d0 = 1#1), ∀ a, (k0_off68 v147) a + S1x128x128.size a ≤ S32x128x128.size a) ∧
  (∀ (k0_h73 : k0_cond73 d0 = 1#1), ∀ (hinb : ∀ a, (k0_off68 v147) a + S1x128x128.size a ≤ S32x128x128.size a), (Rect.unit (s := S32x128x128) (k0_off68 v147) S1x128x128.size hinb).WholeWords (EltTy.packing .fp8e4m3)) ∧
  (∀ (k0_h74 : k0_cond74 d0 = 1#1), ∀ a, (k0_off69 v147) a + S1x128x128.size a ≤ S32x128x128.size a) ∧
  (∀ (k0_h74 : k0_cond74 d0 = 1#1), ∀ (hinb : ∀ a, (k0_off69 v147) a + S1x128x128.size a ≤ S32x128x128.size a), (Rect.unit (s := S32x128x128) (k0_off69 v147) S1x128x128.size hinb).WholeWords (EltTy.packing .fp8e4m3)) ∧
  (∀ (k0_h75 : k0_cond75 d0 = 1#1), ∀ a, (k0_off70 v147) a + S1x128x128.size a ≤ S32x128x128.size a) ∧
  (∀ (k0_h75 : k0_cond75 d0 = 1#1), ∀ (hinb : ∀ a, (k0_off70 v147) a + S1x128x128.size a ≤ S32x128x128.size a), (Rect.unit (s := S32x128x128) (k0_off70 v147) S1x128x128.size hinb).WholeWords (EltTy.packing .fp8e4m3)) ∧
  (∀ (k0_h76 : k0_cond76 d0 = 1#1), ∀ a, (k0_off71 v147) a + S1x128x128.size a ≤ S32x128x128.size a) ∧
  (∀ (k0_h76 : k0_cond76 d0 = 1#1), ∀ (hinb : ∀ a, (k0_off71 v147) a + S1x128x128.size a ≤ S32x128x128.size a), (Rect.unit (s := S32x128x128) (k0_off71 v147) S1x128x128.size hinb).WholeWords (EltTy.packing .fp8e4m3)) ∧
  (∀ (k0_h77 : k0_cond77 d0 = 1#1), ∀ a, (k0_off72 v147) a + S1x128x128.size a ≤ S32x128x128.size a) ∧
  (∀ (k0_h77 : k0_cond77 d0 = 1#1), ∀ (hinb : ∀ a, (k0_off72 v147) a + S1x128x128.size a ≤ S32x128x128.size a), (Rect.unit (s := S32x128x128) (k0_off72 v147) S1x128x128.size hinb).WholeWords (EltTy.packing .fp8e4m3)) ∧
  (∀ (k0_h78 : k0_cond78 d0 = 1#1), ∀ a, (k0_off73 v147) a + S1x128x128.size a ≤ S32x128x128.size a) ∧
  (∀ (k0_h78 : k0_cond78 d0 = 1#1), ∀ (hinb : ∀ a, (k0_off73 v147) a + S1x128x128.size a ≤ S32x128x128.size a), (Rect.unit (s := S32x128x128) (k0_off73 v147) S1x128x128.size hinb).WholeWords (EltTy.packing .fp8e4m3)) ∧
  (∀ (k0_h79 : k0_cond79 d0 = 1#1), ∀ a, (k0_off74 v147) a + S1x128x128.size a ≤ S32x128x128.size a)
def k0_chk1_4 (d0 : Dev nD) (v147 : BitVec 32) : Prop :=
  (∀ (k0_h79 : k0_cond79 d0 = 1#1), ∀ (hinb : ∀ a, (k0_off74 v147) a + S1x128x128.size a ≤ S32x128x128.size a), (Rect.unit (s := S32x128x128) (k0_off74 v147) S1x128x128.size hinb).WholeWords (EltTy.packing .fp8e4m3)) ∧
  (∀ (k0_h80 : k0_cond80 d0 = 1#1), ∀ a, (k0_off75 v147) a + S1x128x128.size a ≤ S32x128x128.size a) ∧
  (∀ (k0_h80 : k0_cond80 d0 = 1#1), ∀ (hinb : ∀ a, (k0_off75 v147) a + S1x128x128.size a ≤ S32x128x128.size a), (Rect.unit (s := S32x128x128) (k0_off75 v147) S1x128x128.size hinb).WholeWords (EltTy.packing .fp8e4m3)) ∧
  (∀ (k0_h81 : k0_cond81 d0 = 1#1), ∀ a, (k0_off76 v147) a + S1x128x128.size a ≤ S32x128x128.size a) ∧
  (∀ (k0_h81 : k0_cond81 d0 = 1#1), ∀ (hinb : ∀ a, (k0_off76 v147) a + S1x128x128.size a ≤ S32x128x128.size a), (Rect.unit (s := S32x128x128) (k0_off76 v147) S1x128x128.size hinb).WholeWords (EltTy.packing .fp8e4m3)) ∧
  (∀ (k0_h82 : k0_cond82 d0 = 1#1), ∀ a, (k0_off77 v147) a + S1x128x128.size a ≤ S32x128x128.size a) ∧
  (∀ (k0_h82 : k0_cond82 d0 = 1#1), ∀ (hinb : ∀ a, (k0_off77 v147) a + S1x128x128.size a ≤ S32x128x128.size a), (Rect.unit (s := S32x128x128) (k0_off77 v147) S1x128x128.size hinb).WholeWords (EltTy.packing .fp8e4m3)) ∧
  (∀ (k0_h83 : k0_cond83 d0 = 1#1), ∀ a, (k0_off78 v147) a + S1x128x128.size a ≤ S32x128x128.size a) ∧
  (∀ (k0_h83 : k0_cond83 d0 = 1#1), ∀ (hinb : ∀ a, (k0_off78 v147) a + S1x128x128.size a ≤ S32x128x128.size a), (Rect.unit (s := S32x128x128) (k0_off78 v147) S1x128x128.size hinb).WholeWords (EltTy.packing .fp8e4m3)) ∧
  (∀ (k0_h84 : k0_cond84 d0 = 1#1), ∀ a, (k0_off79 v147) a + S1x128x128.size a ≤ S32x128x128.size a) ∧
  (∀ (k0_h84 : k0_cond84 d0 = 1#1), ∀ (hinb : ∀ a, (k0_off79 v147) a + S1x128x128.size a ≤ S32x128x128.size a), (Rect.unit (s := S32x128x128) (k0_off79 v147) S1x128x128.size hinb).WholeWords (EltTy.packing .fp8e4m3)) ∧
  (∀ (k0_h85 : k0_cond85 d0 = 1#1), ∀ a, (k0_off80 v147) a + S1x128x128.size a ≤ S32x128x128.size a) ∧
  (∀ (k0_h85 : k0_cond85 d0 = 1#1), ∀ (hinb : ∀ a, (k0_off80 v147) a + S1x128x128.size a ≤ S32x128x128.size a), (Rect.unit (s := S32x128x128) (k0_off80 v147) S1x128x128.size hinb).WholeWords (EltTy.packing .fp8e4m3)) ∧
  (∀ (k0_h86 : k0_cond86 d0 = 1#1), ∀ a, (k0_off81 v147) a + S1x128x128.size a ≤ S32x128x128.size a) ∧
  (∀ (k0_h86 : k0_cond86 d0 = 1#1), ∀ (hinb : ∀ a, (k0_off81 v147) a + S1x128x128.size a ≤ S32x128x128.size a), (Rect.unit (s := S32x128x128) (k0_off81 v147) S1x128x128.size hinb).WholeWords (EltTy.packing .fp8e4m3)) ∧
  (∀ (k0_h87 : k0_cond87 d0 = 1#1), ∀ a, (k0_off82 v147) a + S1x128x128.size a ≤ S32x128x128.size a) ∧
  (∀ (k0_h87 : k0_cond87 d0 = 1#1), ∀ (hinb : ∀ a, (k0_off82 v147) a + S1x128x128.size a ≤ S32x128x128.size a), (Rect.unit (s := S32x128x128) (k0_off82 v147) S1x128x128.size hinb).WholeWords (EltTy.packing .fp8e4m3)) ∧
  (∀ (k0_h88 : k0_cond88 d0 = 1#1), ∀ a, (k0_off83 v147) a + S1x128x128.size a ≤ S32x128x128.size a) ∧
  (∀ (k0_h88 : k0_cond88 d0 = 1#1), ∀ (hinb : ∀ a, (k0_off83 v147) a + S1x128x128.size a ≤ S32x128x128.size a), (Rect.unit (s := S32x128x128) (k0_off83 v147) S1x128x128.size hinb).WholeWords (EltTy.packing .fp8e4m3)) ∧
  (∀ (k0_h89 : k0_cond89 d0 = 1#1), ∀ a, (k0_off84 v147) a + S1x128x128.size a ≤ S32x128x128.size a) ∧
  (∀ (k0_h89 : k0_cond89 d0 = 1#1), ∀ (hinb : ∀ a, (k0_off84 v147) a + S1x128x128.size a ≤ S32x128x128.size a), (Rect.unit (s := S32x128x128) (k0_off84 v147) S1x128x128.size hinb).WholeWords (EltTy.packing .fp8e4m3)) ∧
  (∀ (k0_h90 : k0_cond90 d0 = 1#1), ∀ a, (k0_off85 v147) a + S1x128x128.size a ≤ S32x128x128.size a) ∧
  (∀ (k0_h90 : k0_cond90 d0 = 1#1), ∀ (hinb : ∀ a, (k0_off85 v147) a + S1x128x128.size a ≤ S32x128x128.size a), (Rect.unit (s := S32x128x128) (k0_off85 v147) S1x128x128.size hinb).WholeWords (EltTy.packing .fp8e4m3)) ∧
  (∀ (k0_h91 : k0_cond91 d0 = 1#1), ∀ a, (k0_off86 v147) a + S1x128x128.size a ≤ S32x128x128.size a) ∧
  (∀ (k0_h91 : k0_cond91 d0 = 1#1), ∀ (hinb : ∀ a, (k0_off86 v147) a + S1x128x128.size a ≤ S32x128x128.size a), (Rect.unit (s := S32x128x128) (k0_off86 v147) S1x128x128.size hinb).WholeWords (EltTy.packing .fp8e4m3)) ∧
  (∀ (k0_h92 : k0_cond92 d0 = 1#1), ∀ a, (k0_off87 v147) a + S1x128x128.size a ≤ S32x128x128.size a) ∧
  (∀ (k0_h92 : k0_cond92 d0 = 1#1), ∀ (hinb : ∀ a, (k0_off87 v147) a + S1x128x128.size a ≤ S32x128x128.size a), (Rect.unit (s := S32x128x128) (k0_off87 v147) S1x128x128.size hinb).WholeWords (EltTy.packing .fp8e4m3)) ∧
  (∀ (k0_h93 : k0_cond93 d0 = 1#1), ∀ a, (k0_off88 v147) a + S1x128x128.size a ≤ S32x128x128.size a) ∧
  (∀ (k0_h93 : k0_cond93 d0 = 1#1), ∀ (hinb : ∀ a, (k0_off88 v147) a + S1x128x128.size a ≤ S32x128x128.size a), (Rect.unit (s := S32x128x128) (k0_off88 v147) S1x128x128.size hinb).WholeWords (EltTy.packing .fp8e4m3)) ∧
  (∀ (k0_h94 : k0_cond94 d0 = 1#1), ∀ a, (k0_off89 v147) a + S1x128x128.size a ≤ S32x128x128.size a) ∧
  (∀ (k0_h94 : k0_cond94 d0 = 1#1), ∀ (hinb : ∀ a, (k0_off89 v147) a + S1x128x128.size a ≤ S32x128x128.size a), (Rect.unit (s := S32x128x128) (k0_off89 v147) S1x128x128.size hinb).WholeWords (EltTy.packing .fp8e4m3)) ∧
  (∀ (k0_h95 : k0_cond95 d0 = 1#1), ∀ a, (k0_off90 v147) a + S1x128x128.size a ≤ S32x128x128.size a)
def k0_chk1_5 (d0 : Dev nD) (v147 : BitVec 32) : Prop :=
  (∀ (k0_h95 : k0_cond95 d0 = 1#1), ∀ (hinb : ∀ a, (k0_off90 v147) a + S1x128x128.size a ≤ S32x128x128.size a), (Rect.unit (s := S32x128x128) (k0_off90 v147) S1x128x128.size hinb).WholeWords (EltTy.packing .fp8e4m3)) ∧
  (∀ (k0_h96 : k0_cond96 d0 = 1#1), ∀ a, (k0_off91 v147) a + S1x128x128.size a ≤ S32x128x128.size a) ∧
  (∀ (k0_h96 : k0_cond96 d0 = 1#1), ∀ (hinb : ∀ a, (k0_off91 v147) a + S1x128x128.size a ≤ S32x128x128.size a), (Rect.unit (s := S32x128x128) (k0_off91 v147) S1x128x128.size hinb).WholeWords (EltTy.packing .fp8e4m3))
def k0_chk1 (d0 : Dev nD) (v147 : BitVec 32) : Prop :=
  k0_chk1_0 d0 v147 ∧
  k0_chk1_1 d0 v147 ∧
  k0_chk1_2 d0 v147 ∧
  k0_chk1_3 d0 v147 ∧
  k0_chk1_4 d0 v147 ∧
  k0_chk1_5 d0 v147
theorem k0_off1_inb : ∀ (d0 : Dev nD) (v147 : BitVec 32) (k0_hw1 : k0_chk1 d0 v147), ∀ a, (k0_off1 v147) a + S1x128x2048.size a ≤ S32x128x2048.size a := fun d0 v147 k0_hw1 => k0_hw1.1.1
theorem k0_off1_packedfp8e4m3 : ∀ (d0 : Dev nD) (v147 : BitVec 32) (k0_hw1 : k0_chk1 d0 v147), (Rect.unit (s := S32x128x2048) (k0_off1 v147) S1x128x2048.size (k0_off1_inb d0 v147 k0_hw1)).PackedRows (EltTy.packing .fp8e4m3) := fun d0 v147 k0_hw1 => k0_hw1.1.2.1 (k0_off1_inb d0 v147 k0_hw1)
theorem k0_off3_inb : ∀ (d0 : Dev nD) (v147 : BitVec 32) (k0_hw1 : k0_chk1 d0 v147), ∀ a, (k0_off3 v147) a + S1x128x128.size a ≤ S32x128x128.size a := fun d0 v147 k0_hw1 => k0_hw1.1.2.2.1
theorem k0_off3_packedfp8e4m3 : ∀ (d0 : Dev nD) (v147 : BitVec 32) (k0_hw1 : k0_chk1 d0 v147), (Rect.unit (s := S32x128x128) (k0_off3 v147) S1x128x128.size (k0_off3_inb d0 v147 k0_hw1)).PackedRows (EltTy.packing .fp8e4m3) := fun d0 v147 k0_hw1 => k0_hw1.1.2.2.2.1 (k0_off3_inb d0 v147 k0_hw1)
theorem k0_off4_inb : ∀ (d0 : Dev nD) (v147 : BitVec 32) (k0_hw1 : k0_chk1 d0 v147), ∀ (k0_h1 : k0_cond1 d0 = 1#1), ∀ a, (k0_off4 v147) a + S1x128x128.size a ≤ S32x128x128.size a := fun d0 v147 k0_hw1 k0_h1 => k0_hw1.1.2.2.2.2.1 k0_h1
theorem k0_off4_wordsfp8e4m3 : ∀ (d0 : Dev nD) (v147 : BitVec 32) (k0_hw1 : k0_chk1 d0 v147), ∀ (k0_h1 : k0_cond1 d0 = 1#1), (Rect.unit (s := S32x128x128) (k0_off4 v147) S1x128x128.size (k0_off4_inb d0 v147 k0_hw1 k0_h1)).WholeWords (EltTy.packing .fp8e4m3) := fun d0 v147 k0_hw1 k0_h1 => k0_hw1.1.2.2.2.2.2.1 k0_h1 (k0_off4_inb d0 v147 k0_hw1 k0_h1)
theorem k0_off5_inb : ∀ (d0 : Dev nD) (v147 : BitVec 32) (k0_hw1 : k0_chk1 d0 v147), ∀ (k0_h2 : k0_cond2 d0 = 1#1), ∀ a, (k0_off5 v147) a + S1x128x128.size a ≤ S32x128x128.size a := fun d0 v147 k0_hw1 k0_h2 => k0_hw1.1.2.2.2.2.2.2.1 k0_h2
theorem k0_off5_wordsfp8e4m3 : ∀ (d0 : Dev nD) (v147 : BitVec 32) (k0_hw1 : k0_chk1 d0 v147), ∀ (k0_h2 : k0_cond2 d0 = 1#1), (Rect.unit (s := S32x128x128) (k0_off5 v147) S1x128x128.size (k0_off5_inb d0 v147 k0_hw1 k0_h2)).WholeWords (EltTy.packing .fp8e4m3) := fun d0 v147 k0_hw1 k0_h2 => k0_hw1.1.2.2.2.2.2.2.2.1 k0_h2 (k0_off5_inb d0 v147 k0_hw1 k0_h2)
theorem k0_off6_inb : ∀ (d0 : Dev nD) (v147 : BitVec 32) (k0_hw1 : k0_chk1 d0 v147), ∀ (k0_h3 : k0_cond3 d0 = 1#1), ∀ a, (k0_off6 v147) a + S1x128x128.size a ≤ S32x128x128.size a := fun d0 v147 k0_hw1 k0_h3 => k0_hw1.1.2.2.2.2.2.2.2.2.1 k0_h3
theorem k0_off6_wordsfp8e4m3 : ∀ (d0 : Dev nD) (v147 : BitVec 32) (k0_hw1 : k0_chk1 d0 v147), ∀ (k0_h3 : k0_cond3 d0 = 1#1), (Rect.unit (s := S32x128x128) (k0_off6 v147) S1x128x128.size (k0_off6_inb d0 v147 k0_hw1 k0_h3)).WholeWords (EltTy.packing .fp8e4m3) := fun d0 v147 k0_hw1 k0_h3 => k0_hw1.1.2.2.2.2.2.2.2.2.2.1 k0_h3 (k0_off6_inb d0 v147 k0_hw1 k0_h3)
theorem k0_off7_inb : ∀ (d0 : Dev nD) (v147 : BitVec 32) (k0_hw1 : k0_chk1 d0 v147), ∀ (k0_h4 : k0_cond4 d0 = 1#1), ∀ a, (k0_off7 v147) a + S1x128x128.size a ≤ S32x128x128.size a := fun d0 v147 k0_hw1 k0_h4 => k0_hw1.1.2.2.2.2.2.2.2.2.2.2.1 k0_h4
theorem k0_off7_wordsfp8e4m3 : ∀ (d0 : Dev nD) (v147 : BitVec 32) (k0_hw1 : k0_chk1 d0 v147), ∀ (k0_h4 : k0_cond4 d0 = 1#1), (Rect.unit (s := S32x128x128) (k0_off7 v147) S1x128x128.size (k0_off7_inb d0 v147 k0_hw1 k0_h4)).WholeWords (EltTy.packing .fp8e4m3) := fun d0 v147 k0_hw1 k0_h4 => k0_hw1.1.2.2.2.2.2.2.2.2.2.2.2.1 k0_h4 (k0_off7_inb d0 v147 k0_hw1 k0_h4)
theorem k0_off8_inb : ∀ (d0 : Dev nD) (v147 : BitVec 32) (k0_hw1 : k0_chk1 d0 v147), ∀ (k0_h5 : k0_cond5 d0 = 1#1), ∀ a, (k0_off8 v147) a + S1x128x128.size a ≤ S32x128x128.size a := fun d0 v147 k0_hw1 k0_h5 => k0_hw1.1.2.2.2.2.2.2.2.2.2.2.2.2.1 k0_h5
theorem k0_off8_wordsfp8e4m3 : ∀ (d0 : Dev nD) (v147 : BitVec 32) (k0_hw1 : k0_chk1 d0 v147), ∀ (k0_h5 : k0_cond5 d0 = 1#1), (Rect.unit (s := S32x128x128) (k0_off8 v147) S1x128x128.size (k0_off8_inb d0 v147 k0_hw1 k0_h5)).WholeWords (EltTy.packing .fp8e4m3) := fun d0 v147 k0_hw1 k0_h5 => k0_hw1.1.2.2.2.2.2.2.2.2.2.2.2.2.2.1 k0_h5 (k0_off8_inb d0 v147 k0_hw1 k0_h5)
theorem k0_off9_inb : ∀ (d0 : Dev nD) (v147 : BitVec 32) (k0_hw1 : k0_chk1 d0 v147), ∀ (k0_h6 : k0_cond6 d0 = 1#1), ∀ a, (k0_off9 v147) a + S1x128x128.size a ≤ S32x128x128.size a := fun d0 v147 k0_hw1 k0_h6 => k0_hw1.1.2.2.2.2.2.2.2.2.2.2.2.2.2.2.1 k0_h6
theorem k0_off9_wordsfp8e4m3 : ∀ (d0 : Dev nD) (v147 : BitVec 32) (k0_hw1 : k0_chk1 d0 v147), ∀ (k0_h6 : k0_cond6 d0 = 1#1), (Rect.unit (s := S32x128x128) (k0_off9 v147) S1x128x128.size (k0_off9_inb d0 v147 k0_hw1 k0_h6)).WholeWords (EltTy.packing .fp8e4m3) := fun d0 v147 k0_hw1 k0_h6 => k0_hw1.1.2.2.2.2.2.2.2.2.2.2.2.2.2.2.2.1 k0_h6 (k0_off9_inb d0 v147 k0_hw1 k0_h6)
theorem k0_off10_inb : ∀ (d0 : Dev nD) (v147 : BitVec 32) (k0_hw1 : k0_chk1 d0 v147), ∀ (k0_h7 : k0_cond7 d0 = 1#1), ∀ a, (k0_off10 v147) a + S1x128x128.size a ≤ S32x128x128.size a := fun d0 v147 k0_hw1 k0_h7 => k0_hw1.1.2.2.2.2.2.2.2.2.2.2.2.2.2.2.2.2.1 k0_h7
theorem k0_off10_wordsfp8e4m3 : ∀ (d0 : Dev nD) (v147 : BitVec 32) (k0_hw1 : k0_chk1 d0 v147), ∀ (k0_h7 : k0_cond7 d0 = 1#1), (Rect.unit (s := S32x128x128) (k0_off10 v147) S1x128x128.size (k0_off10_inb d0 v147 k0_hw1 k0_h7)).WholeWords (EltTy.packing .fp8e4m3) := fun d0 v147 k0_hw1 k0_h7 => k0_hw1.1.2.2.2.2.2.2.2.2.2.2.2.2.2.2.2.2.2.1 k0_h7 (k0_off10_inb d0 v147 k0_hw1 k0_h7)
theorem k0_off11_inb : ∀ (d0 : Dev nD) (v147 : BitVec 32) (k0_hw1 : k0_chk1 d0 v147), ∀ (k0_h8 : k0_cond8 d0 = 1#1), ∀ a, (k0_off11 v147) a + S1x128x128.size a ≤ S32x128x128.size a := fun d0 v147 k0_hw1 k0_h8 => k0_hw1.1.2.2.2.2.2.2.2.2.2.2.2.2.2.2.2.2.2.2.1 k0_h8
theorem k0_off11_wordsfp8e4m3 : ∀ (d0 : Dev nD) (v147 : BitVec 32) (k0_hw1 : k0_chk1 d0 v147), ∀ (k0_h8 : k0_cond8 d0 = 1#1), (Rect.unit (s := S32x128x128) (k0_off11 v147) S1x128x128.size (k0_off11_inb d0 v147 k0_hw1 k0_h8)).WholeWords (EltTy.packing .fp8e4m3) := fun d0 v147 k0_hw1 k0_h8 => k0_hw1.1.2.2.2.2.2.2.2.2.2.2.2.2.2.2.2.2.2.2.2.1 k0_h8 (k0_off11_inb d0 v147 k0_hw1 k0_h8)
theorem k0_off12_inb : ∀ (d0 : Dev nD) (v147 : BitVec 32) (k0_hw1 : k0_chk1 d0 v147), ∀ (k0_h9 : k0_cond9 d0 = 1#1), ∀ a, (k0_off12 v147) a + S1x128x128.size a ≤ S32x128x128.size a := fun d0 v147 k0_hw1 k0_h9 => k0_hw1.1.2.2.2.2.2.2.2.2.2.2.2.2.2.2.2.2.2.2.2.2.1 k0_h9
theorem k0_off12_wordsfp8e4m3 : ∀ (d0 : Dev nD) (v147 : BitVec 32) (k0_hw1 : k0_chk1 d0 v147), ∀ (k0_h9 : k0_cond9 d0 = 1#1), (Rect.unit (s := S32x128x128) (k0_off12 v147) S1x128x128.size (k0_off12_inb d0 v147 k0_hw1 k0_h9)).WholeWords (EltTy.packing .fp8e4m3) := fun d0 v147 k0_hw1 k0_h9 => k0_hw1.1.2.2.2.2.2.2.2.2.2.2.2.2.2.2.2.2.2.2.2.2.2.1 k0_h9 (k0_off12_inb d0 v147 k0_hw1 k0_h9)
theorem k0_off13_inb : ∀ (d0 : Dev nD) (v147 : BitVec 32) (k0_hw1 : k0_chk1 d0 v147), ∀ (k0_h10 : k0_cond10 d0 = 1#1), ∀ a, (k0_off13 v147) a + S1x128x128.size a ≤ S32x128x128.size a := fun d0 v147 k0_hw1 k0_h10 => k0_hw1.1.2.2.2.2.2.2.2.2.2.2.2.2.2.2.2.2.2.2.2.2.2.2.1 k0_h10
theorem k0_off13_wordsfp8e4m3 : ∀ (d0 : Dev nD) (v147 : BitVec 32) (k0_hw1 : k0_chk1 d0 v147), ∀ (k0_h10 : k0_cond10 d0 = 1#1), (Rect.unit (s := S32x128x128) (k0_off13 v147) S1x128x128.size (k0_off13_inb d0 v147 k0_hw1 k0_h10)).WholeWords (EltTy.packing .fp8e4m3) := fun d0 v147 k0_hw1 k0_h10 => k0_hw1.1.2.2.2.2.2.2.2.2.2.2.2.2.2.2.2.2.2.2.2.2.2.2.2.1 k0_h10 (k0_off13_inb d0 v147 k0_hw1 k0_h10)
theorem k0_off14_inb : ∀ (d0 : Dev nD) (v147 : BitVec 32) (k0_hw1 : k0_chk1 d0 v147), ∀ (k0_h11 : k0_cond11 d0 = 1#1), ∀ a, (k0_off14 v147) a + S1x128x128.size a ≤ S32x128x128.size a := fun d0 v147 k0_hw1 k0_h11 => k0_hw1.1.2.2.2.2.2.2.2.2.2.2.2.2.2.2.2.2.2.2.2.2.2.2.2.2.1 k0_h11
theorem k0_off14_wordsfp8e4m3 : ∀ (d0 : Dev nD) (v147 : BitVec 32) (k0_hw1 : k0_chk1 d0 v147), ∀ (k0_h11 : k0_cond11 d0 = 1#1), (Rect.unit (s := S32x128x128) (k0_off14 v147) S1x128x128.size (k0_off14_inb d0 v147 k0_hw1 k0_h11)).WholeWords (EltTy.packing .fp8e4m3) := fun d0 v147 k0_hw1 k0_h11 => k0_hw1.1.2.2.2.2.2.2.2.2.2.2.2.2.2.2.2.2.2.2.2.2.2.2.2.2.2.1 k0_h11 (k0_off14_inb d0 v147 k0_hw1 k0_h11)
theorem k0_off15_inb : ∀ (d0 : Dev nD) (v147 : BitVec 32) (k0_hw1 : k0_chk1 d0 v147), ∀ (k0_h12 : k0_cond12 d0 = 1#1), ∀ a, (k0_off15 v147) a + S1x128x128.size a ≤ S32x128x128.size a := fun d0 v147 k0_hw1 k0_h12 => k0_hw1.1.2.2.2.2.2.2.2.2.2.2.2.2.2.2.2.2.2.2.2.2.2.2.2.2.2.2.1 k0_h12
theorem k0_off15_wordsfp8e4m3 : ∀ (d0 : Dev nD) (v147 : BitVec 32) (k0_hw1 : k0_chk1 d0 v147), ∀ (k0_h12 : k0_cond12 d0 = 1#1), (Rect.unit (s := S32x128x128) (k0_off15 v147) S1x128x128.size (k0_off15_inb d0 v147 k0_hw1 k0_h12)).WholeWords (EltTy.packing .fp8e4m3) := fun d0 v147 k0_hw1 k0_h12 => k0_hw1.1.2.2.2.2.2.2.2.2.2.2.2.2.2.2.2.2.2.2.2.2.2.2.2.2.2.2.2.1 k0_h12 (k0_off15_inb d0 v147 k0_hw1 k0_h12)
theorem k0_off16_inb : ∀ (d0 : Dev nD) (v147 : BitVec 32) (k0_hw1 : k0_chk1 d0 v147), ∀ (k0_h13 : k0_cond13 d0 = 1#1), ∀ a, (k0_off16 v147) a + S1x128x128.size a ≤ S32x128x128.size a := fun d0 v147 k0_hw1 k0_h13 => k0_hw1.1.2.2.2.2.2.2.2.2.2.2.2.2.2.2.2.2.2.2.2.2.2.2.2.2.2.2.2.2.1 k0_h13
theorem k0_off16_wordsfp8e4m3 : ∀ (d0 : Dev nD) (v147 : BitVec 32) (k0_hw1 : k0_chk1 d0 v147), ∀ (k0_h13 : k0_cond13 d0 = 1#1), (Rect.unit (s := S32x128x128) (k0_off16 v147) S1x128x128.size (k0_off16_inb d0 v147 k0_hw1 k0_h13)).WholeWords (EltTy.packing .fp8e4m3) := fun d0 v147 k0_hw1 k0_h13 => k0_hw1.1.2.2.2.2.2.2.2.2.2.2.2.2.2.2.2.2.2.2.2.2.2.2.2.2.2.2.2.2.2.1 k0_h13 (k0_off16_inb d0 v147 k0_hw1 k0_h13)
theorem k0_off17_inb : ∀ (d0 : Dev nD) (v147 : BitVec 32) (k0_hw1 : k0_chk1 d0 v147), ∀ (k0_h14 : k0_cond14 d0 = 1#1), ∀ a, (k0_off17 v147) a + S1x128x128.size a ≤ S32x128x128.size a := fun d0 v147 k0_hw1 k0_h14 => k0_hw1.1.2.2.2.2.2.2.2.2.2.2.2.2.2.2.2.2.2.2.2.2.2.2.2.2.2.2.2.2.2.2.1 k0_h14
theorem k0_off17_wordsfp8e4m3 : ∀ (d0 : Dev nD) (v147 : BitVec 32) (k0_hw1 : k0_chk1 d0 v147), ∀ (k0_h14 : k0_cond14 d0 = 1#1), (Rect.unit (s := S32x128x128) (k0_off17 v147) S1x128x128.size (k0_off17_inb d0 v147 k0_hw1 k0_h14)).WholeWords (EltTy.packing .fp8e4m3) := fun d0 v147 k0_hw1 k0_h14 => k0_hw1.1.2.2.2.2.2.2.2.2.2.2.2.2.2.2.2.2.2.2.2.2.2.2.2.2.2.2.2.2.2.2.2 k0_h14 (k0_off17_inb d0 v147 k0_hw1 k0_h14)
theorem k0_off18_inb : ∀ (d0 : Dev nD) (v147 : BitVec 32) (k0_hw1 : k0_chk1 d0 v147), ∀ (k0_h15 : k0_cond15 d0 = 1#1), ∀ a, (k0_off18 v147) a + S1x128x128.size a ≤ S32x128x128.size a := fun d0 v147 k0_hw1 k0_h15 => k0_hw1.2.1.1 k0_h15
theorem k0_off18_wordsfp8e4m3 : ∀ (d0 : Dev nD) (v147 : BitVec 32) (k0_hw1 : k0_chk1 d0 v147), ∀ (k0_h15 : k0_cond15 d0 = 1#1), (Rect.unit (s := S32x128x128) (k0_off18 v147) S1x128x128.size (k0_off18_inb d0 v147 k0_hw1 k0_h15)).WholeWords (EltTy.packing .fp8e4m3) := fun d0 v147 k0_hw1 k0_h15 => k0_hw1.2.1.2.1 k0_h15 (k0_off18_inb d0 v147 k0_hw1 k0_h15)
theorem k0_off19_inb : ∀ (d0 : Dev nD) (v147 : BitVec 32) (k0_hw1 : k0_chk1 d0 v147), ∀ (k0_h16 : k0_cond16 d0 = 1#1), ∀ a, (k0_off19 v147) a + S1x128x128.size a ≤ S32x128x128.size a := fun d0 v147 k0_hw1 k0_h16 => k0_hw1.2.1.2.2.1 k0_h16
theorem k0_off19_wordsfp8e4m3 : ∀ (d0 : Dev nD) (v147 : BitVec 32) (k0_hw1 : k0_chk1 d0 v147), ∀ (k0_h16 : k0_cond16 d0 = 1#1), (Rect.unit (s := S32x128x128) (k0_off19 v147) S1x128x128.size (k0_off19_inb d0 v147 k0_hw1 k0_h16)).WholeWords (EltTy.packing .fp8e4m3) := fun d0 v147 k0_hw1 k0_h16 => k0_hw1.2.1.2.2.2.1 k0_h16 (k0_off19_inb d0 v147 k0_hw1 k0_h16)
theorem k0_off20_inb : ∀ (d0 : Dev nD) (v147 : BitVec 32) (k0_hw1 : k0_chk1 d0 v147), ∀ (k0_h17 : k0_cond17 d0 = 1#1), ∀ a, (k0_off20 v147) a + S1x128x128.size a ≤ S32x128x128.size a := fun d0 v147 k0_hw1 k0_h17 => k0_hw1.2.1.2.2.2.2.1 k0_h17
theorem k0_off20_wordsfp8e4m3 : ∀ (d0 : Dev nD) (v147 : BitVec 32) (k0_hw1 : k0_chk1 d0 v147), ∀ (k0_h17 : k0_cond17 d0 = 1#1), (Rect.unit (s := S32x128x128) (k0_off20 v147) S1x128x128.size (k0_off20_inb d0 v147 k0_hw1 k0_h17)).WholeWords (EltTy.packing .fp8e4m3) := fun d0 v147 k0_hw1 k0_h17 => k0_hw1.2.1.2.2.2.2.2.1 k0_h17 (k0_off20_inb d0 v147 k0_hw1 k0_h17)
theorem k0_off21_inb : ∀ (d0 : Dev nD) (v147 : BitVec 32) (k0_hw1 : k0_chk1 d0 v147), ∀ (k0_h18 : k0_cond18 d0 = 1#1), ∀ a, (k0_off21 v147) a + S1x128x128.size a ≤ S32x128x128.size a := fun d0 v147 k0_hw1 k0_h18 => k0_hw1.2.1.2.2.2.2.2.2.1 k0_h18
theorem k0_off21_wordsfp8e4m3 : ∀ (d0 : Dev nD) (v147 : BitVec 32) (k0_hw1 : k0_chk1 d0 v147), ∀ (k0_h18 : k0_cond18 d0 = 1#1), (Rect.unit (s := S32x128x128) (k0_off21 v147) S1x128x128.size (k0_off21_inb d0 v147 k0_hw1 k0_h18)).WholeWords (EltTy.packing .fp8e4m3) := fun d0 v147 k0_hw1 k0_h18 => k0_hw1.2.1.2.2.2.2.2.2.2.1 k0_h18 (k0_off21_inb d0 v147 k0_hw1 k0_h18)
theorem k0_off22_inb : ∀ (d0 : Dev nD) (v147 : BitVec 32) (k0_hw1 : k0_chk1 d0 v147), ∀ (k0_h19 : k0_cond19 d0 = 1#1), ∀ a, (k0_off22 v147) a + S1x128x128.size a ≤ S32x128x128.size a := fun d0 v147 k0_hw1 k0_h19 => k0_hw1.2.1.2.2.2.2.2.2.2.2.1 k0_h19
theorem k0_off22_wordsfp8e4m3 : ∀ (d0 : Dev nD) (v147 : BitVec 32) (k0_hw1 : k0_chk1 d0 v147), ∀ (k0_h19 : k0_cond19 d0 = 1#1), (Rect.unit (s := S32x128x128) (k0_off22 v147) S1x128x128.size (k0_off22_inb d0 v147 k0_hw1 k0_h19)).WholeWords (EltTy.packing .fp8e4m3) := fun d0 v147 k0_hw1 k0_h19 => k0_hw1.2.1.2.2.2.2.2.2.2.2.2.1 k0_h19 (k0_off22_inb d0 v147 k0_hw1 k0_h19)
theorem k0_off23_inb : ∀ (d0 : Dev nD) (v147 : BitVec 32) (k0_hw1 : k0_chk1 d0 v147), ∀ (k0_h20 : k0_cond20 d0 = 1#1), ∀ a, (k0_off23 v147) a + S1x128x128.size a ≤ S32x128x128.size a := fun d0 v147 k0_hw1 k0_h20 => k0_hw1.2.1.2.2.2.2.2.2.2.2.2.2.1 k0_h20
theorem k0_off23_wordsfp8e4m3 : ∀ (d0 : Dev nD) (v147 : BitVec 32) (k0_hw1 : k0_chk1 d0 v147), ∀ (k0_h20 : k0_cond20 d0 = 1#1), (Rect.unit (s := S32x128x128) (k0_off23 v147) S1x128x128.size (k0_off23_inb d0 v147 k0_hw1 k0_h20)).WholeWords (EltTy.packing .fp8e4m3) := fun d0 v147 k0_hw1 k0_h20 => k0_hw1.2.1.2.2.2.2.2.2.2.2.2.2.2.1 k0_h20 (k0_off23_inb d0 v147 k0_hw1 k0_h20)
theorem k0_off24_inb : ∀ (d0 : Dev nD) (v147 : BitVec 32) (k0_hw1 : k0_chk1 d0 v147), ∀ (k0_h21 : k0_cond21 d0 = 1#1), ∀ a, (k0_off24 v147) a + S1x128x128.size a ≤ S32x128x128.size a := fun d0 v147 k0_hw1 k0_h21 => k0_hw1.2.1.2.2.2.2.2.2.2.2.2.2.2.2.1 k0_h21
theorem k0_off24_wordsfp8e4m3 : ∀ (d0 : Dev nD) (v147 : BitVec 32) (k0_hw1 : k0_chk1 d0 v147), ∀ (k0_h21 : k0_cond21 d0 = 1#1), (Rect.unit (s := S32x128x128) (k0_off24 v147) S1x128x128.size (k0_off24_inb d0 v147 k0_hw1 k0_h21)).WholeWords (EltTy.packing .fp8e4m3) := fun d0 v147 k0_hw1 k0_h21 => k0_hw1.2.1.2.2.2.2.2.2.2.2.2.2.2.2.2.1 k0_h21 (k0_off24_inb d0 v147 k0_hw1 k0_h21)
theorem k0_off25_inb : ∀ (d0 : Dev nD) (v147 : BitVec 32) (k0_hw1 : k0_chk1 d0 v147), ∀ (k0_h22 : k0_cond22 d0 = 1#1), ∀ a, (k0_off25 v147) a + S1x128x128.size a ≤ S32x128x128.size a := fun d0 v147 k0_hw1 k0_h22 => k0_hw1.2.1.2.2.2.2.2.2.2.2.2.2.2.2.2.2.1 k0_h22
theorem k0_off25_wordsfp8e4m3 : ∀ (d0 : Dev nD) (v147 : BitVec 32) (k0_hw1 : k0_chk1 d0 v147), ∀ (k0_h22 : k0_cond22 d0 = 1#1), (Rect.unit (s := S32x128x128) (k0_off25 v147) S1x128x128.size (k0_off25_inb d0 v147 k0_hw1 k0_h22)).WholeWords (EltTy.packing .fp8e4m3) := fun d0 v147 k0_hw1 k0_h22 => k0_hw1.2.1.2.2.2.2.2.2.2.2.2.2.2.2.2.2.2.1 k0_h22 (k0_off25_inb d0 v147 k0_hw1 k0_h22)
theorem k0_off26_inb : ∀ (d0 : Dev nD) (v147 : BitVec 32) (k0_hw1 : k0_chk1 d0 v147), ∀ (k0_h23 : k0_cond23 d0 = 1#1), ∀ a, (k0_off26 v147) a + S1x128x128.size a ≤ S32x128x128.size a := fun d0 v147 k0_hw1 k0_h23 => k0_hw1.2.1.2.2.2.2.2.2.2.2.2.2.2.2.2.2.2.2.1 k0_h23
theorem k0_off26_wordsfp8e4m3 : ∀ (d0 : Dev nD) (v147 : BitVec 32) (k0_hw1 : k0_chk1 d0 v147), ∀ (k0_h23 : k0_cond23 d0 = 1#1), (Rect.unit (s := S32x128x128) (k0_off26 v147) S1x128x128.size (k0_off26_inb d0 v147 k0_hw1 k0_h23)).WholeWords (EltTy.packing .fp8e4m3) := fun d0 v147 k0_hw1 k0_h23 => k0_hw1.2.1.2.2.2.2.2.2.2.2.2.2.2.2.2.2.2.2.2.1 k0_h23 (k0_off26_inb d0 v147 k0_hw1 k0_h23)
theorem k0_off27_inb : ∀ (d0 : Dev nD) (v147 : BitVec 32) (k0_hw1 : k0_chk1 d0 v147), ∀ (k0_h24 : k0_cond24 d0 = 1#1), ∀ a, (k0_off27 v147) a + S1x128x128.size a ≤ S32x128x128.size a := fun d0 v147 k0_hw1 k0_h24 => k0_hw1.2.1.2.2.2.2.2.2.2.2.2.2.2.2.2.2.2.2.2.2.1 k0_h24
theorem k0_off27_wordsfp8e4m3 : ∀ (d0 : Dev nD) (v147 : BitVec 32) (k0_hw1 : k0_chk1 d0 v147), ∀ (k0_h24 : k0_cond24 d0 = 1#1), (Rect.unit (s := S32x128x128) (k0_off27 v147) S1x128x128.size (k0_off27_inb d0 v147 k0_hw1 k0_h24)).WholeWords (EltTy.packing .fp8e4m3) := fun d0 v147 k0_hw1 k0_h24 => k0_hw1.2.1.2.2.2.2.2.2.2.2.2.2.2.2.2.2.2.2.2.2.2.1 k0_h24 (k0_off27_inb d0 v147 k0_hw1 k0_h24)
theorem k0_off28_inb : ∀ (d0 : Dev nD) (v147 : BitVec 32) (k0_hw1 : k0_chk1 d0 v147), ∀ (k0_h25 : k0_cond25 d0 = 1#1), ∀ a, (k0_off28 v147) a + S1x128x128.size a ≤ S32x128x128.size a := fun d0 v147 k0_hw1 k0_h25 => k0_hw1.2.1.2.2.2.2.2.2.2.2.2.2.2.2.2.2.2.2.2.2.2.2.1 k0_h25
theorem k0_off28_wordsfp8e4m3 : ∀ (d0 : Dev nD) (v147 : BitVec 32) (k0_hw1 : k0_chk1 d0 v147), ∀ (k0_h25 : k0_cond25 d0 = 1#1), (Rect.unit (s := S32x128x128) (k0_off28 v147) S1x128x128.size (k0_off28_inb d0 v147 k0_hw1 k0_h25)).WholeWords (EltTy.packing .fp8e4m3) := fun d0 v147 k0_hw1 k0_h25 => k0_hw1.2.1.2.2.2.2.2.2.2.2.2.2.2.2.2.2.2.2.2.2.2.2.2.1 k0_h25 (k0_off28_inb d0 v147 k0_hw1 k0_h25)
theorem k0_off29_inb : ∀ (d0 : Dev nD) (v147 : BitVec 32) (k0_hw1 : k0_chk1 d0 v147), ∀ (k0_h26 : k0_cond26 d0 = 1#1), ∀ a, (k0_off29 v147) a + S1x128x128.size a ≤ S32x128x128.size a := fun d0 v147 k0_hw1 k0_h26 => k0_hw1.2.1.2.2.2.2.2.2.2.2.2.2.2.2.2.2.2.2.2.2.2.2.2.2.1 k0_h26
theorem k0_off29_wordsfp8e4m3 : ∀ (d0 : Dev nD) (v147 : BitVec 32) (k0_hw1 : k0_chk1 d0 v147), ∀ (k0_h26 : k0_cond26 d0 = 1#1), (Rect.unit (s := S32x128x128) (k0_off29 v147) S1x128x128.size (k0_off29_inb d0 v147 k0_hw1 k0_h26)).WholeWords (EltTy.packing .fp8e4m3) := fun d0 v147 k0_hw1 k0_h26 => k0_hw1.2.1.2.2.2.2.2.2.2.2.2.2.2.2.2.2.2.2.2.2.2.2.2.2.2.1 k0_h26 (k0_off29_inb d0 v147 k0_hw1 k0_h26)
theorem k0_off30_inb : ∀ (d0 : Dev nD) (v147 : BitVec 32) (k0_hw1 : k0_chk1 d0 v147), ∀ (k0_h27 : k0_cond27 d0 = 1#1), ∀ a, (k0_off30 v147) a + S1x128x128.size a ≤ S32x128x128.size a := fun d0 v147 k0_hw1 k0_h27 => k0_hw1.2.1.2.2.2.2.2.2.2.2.2.2.2.2.2.2.2.2.2.2.2.2.2.2.2.2.1 k0_h27
theorem k0_off30_wordsfp8e4m3 : ∀ (d0 : Dev nD) (v147 : BitVec 32) (k0_hw1 : k0_chk1 d0 v147), ∀ (k0_h27 : k0_cond27 d0 = 1#1), (Rect.unit (s := S32x128x128) (k0_off30 v147) S1x128x128.size (k0_off30_inb d0 v147 k0_hw1 k0_h27)).WholeWords (EltTy.packing .fp8e4m3) := fun d0 v147 k0_hw1 k0_h27 => k0_hw1.2.1.2.2.2.2.2.2.2.2.2.2.2.2.2.2.2.2.2.2.2.2.2.2.2.2.2.1 k0_h27 (k0_off30_inb d0 v147 k0_hw1 k0_h27)
theorem k0_off31_inb : ∀ (d0 : Dev nD) (v147 : BitVec 32) (k0_hw1 : k0_chk1 d0 v147), ∀ (k0_h28 : k0_cond28 d0 = 1#1), ∀ a, (k0_off31 v147) a + S1x128x128.size a ≤ S32x128x128.size a := fun d0 v147 k0_hw1 k0_h28 => k0_hw1.2.1.2.2.2.2.2.2.2.2.2.2.2.2.2.2.2.2.2.2.2.2.2.2.2.2.2.2.1 k0_h28
theorem k0_off31_wordsfp8e4m3 : ∀ (d0 : Dev nD) (v147 : BitVec 32) (k0_hw1 : k0_chk1 d0 v147), ∀ (k0_h28 : k0_cond28 d0 = 1#1), (Rect.unit (s := S32x128x128) (k0_off31 v147) S1x128x128.size (k0_off31_inb d0 v147 k0_hw1 k0_h28)).WholeWords (EltTy.packing .fp8e4m3) := fun d0 v147 k0_hw1 k0_h28 => k0_hw1.2.1.2.2.2.2.2.2.2.2.2.2.2.2.2.2.2.2.2.2.2.2.2.2.2.2.2.2.2.1 k0_h28 (k0_off31_inb d0 v147 k0_hw1 k0_h28)
theorem k0_off32_inb : ∀ (d0 : Dev nD) (v147 : BitVec 32) (k0_hw1 : k0_chk1 d0 v147), ∀ (k0_h29 : k0_cond29 d0 = 1#1), ∀ a, (k0_off32 v147) a + S1x128x128.size a ≤ S32x128x128.size a := fun d0 v147 k0_hw1 k0_h29 => k0_hw1.2.1.2.2.2.2.2.2.2.2.2.2.2.2.2.2.2.2.2.2.2.2.2.2.2.2.2.2.2.2.1 k0_h29
theorem k0_off32_wordsfp8e4m3 : ∀ (d0 : Dev nD) (v147 : BitVec 32) (k0_hw1 : k0_chk1 d0 v147), ∀ (k0_h29 : k0_cond29 d0 = 1#1), (Rect.unit (s := S32x128x128) (k0_off32 v147) S1x128x128.size (k0_off32_inb d0 v147 k0_hw1 k0_h29)).WholeWords (EltTy.packing .fp8e4m3) := fun d0 v147 k0_hw1 k0_h29 => k0_hw1.2.1.2.2.2.2.2.2.2.2.2.2.2.2.2.2.2.2.2.2.2.2.2.2.2.2.2.2.2.2.2.1 k0_h29 (k0_off32_inb d0 v147 k0_hw1 k0_h29)
theorem k0_off33_inb : ∀ (d0 : Dev nD) (v147 : BitVec 32) (k0_hw1 : k0_chk1 d0 v147), ∀ (k0_h30 : k0_cond30 d0 = 1#1), ∀ a, (k0_off33 v147) a + S1x128x128.size a ≤ S32x128x128.size a := fun d0 v147 k0_hw1 k0_h30 => k0_hw1.2.1.2.2.2.2.2.2.2.2.2.2.2.2.2.2.2.2.2.2.2.2.2.2.2.2.2.2.2.2.2.2.1 k0_h30
theorem k0_off33_wordsfp8e4m3 : ∀ (d0 : Dev nD) (v147 : BitVec 32) (k0_hw1 : k0_chk1 d0 v147), ∀ (k0_h30 : k0_cond30 d0 = 1#1), (Rect.unit (s := S32x128x128) (k0_off33 v147) S1x128x128.size (k0_off33_inb d0 v147 k0_hw1 k0_h30)).WholeWords (EltTy.packing .fp8e4m3) := fun d0 v147 k0_hw1 k0_h30 => k0_hw1.2.1.2.2.2.2.2.2.2.2.2.2.2.2.2.2.2.2.2.2.2.2.2.2.2.2.2.2.2.2.2.2.2 k0_h30 (k0_off33_inb d0 v147 k0_hw1 k0_h30)
theorem k0_off34_inb : ∀ (d0 : Dev nD) (v147 : BitVec 32) (k0_hw1 : k0_chk1 d0 v147), ∀ (k0_h31 : k0_cond31 d0 = 1#1), ∀ a, (k0_off34 v147) a + S1x128x128.size a ≤ S32x128x128.size a := fun d0 v147 k0_hw1 k0_h31 => k0_hw1.2.2.1.1 k0_h31
theorem k0_off34_wordsfp8e4m3 : ∀ (d0 : Dev nD) (v147 : BitVec 32) (k0_hw1 : k0_chk1 d0 v147), ∀ (k0_h31 : k0_cond31 d0 = 1#1), (Rect.unit (s := S32x128x128) (k0_off34 v147) S1x128x128.size (k0_off34_inb d0 v147 k0_hw1 k0_h31)).WholeWords (EltTy.packing .fp8e4m3) := fun d0 v147 k0_hw1 k0_h31 => k0_hw1.2.2.1.2.1 k0_h31 (k0_off34_inb d0 v147 k0_hw1 k0_h31)
theorem k0_off35_inb : ∀ (d0 : Dev nD) (v147 : BitVec 32) (k0_hw1 : k0_chk1 d0 v147), ∀ (k0_h32 : k0_cond32 d0 = 1#1), ∀ a, (k0_off35 v147) a + S1x128x128.size a ≤ S32x128x128.size a := fun d0 v147 k0_hw1 k0_h32 => k0_hw1.2.2.1.2.2.1 k0_h32
theorem k0_off35_wordsfp8e4m3 : ∀ (d0 : Dev nD) (v147 : BitVec 32) (k0_hw1 : k0_chk1 d0 v147), ∀ (k0_h32 : k0_cond32 d0 = 1#1), (Rect.unit (s := S32x128x128) (k0_off35 v147) S1x128x128.size (k0_off35_inb d0 v147 k0_hw1 k0_h32)).WholeWords (EltTy.packing .fp8e4m3) := fun d0 v147 k0_hw1 k0_h32 => k0_hw1.2.2.1.2.2.2.1 k0_h32 (k0_off35_inb d0 v147 k0_hw1 k0_h32)
theorem k0_off36_inb : ∀ (d0 : Dev nD) (v147 : BitVec 32) (k0_hw1 : k0_chk1 d0 v147), ∀ a, (k0_off36 v147) a + S1.size a ≤ S32.size a := fun d0 v147 k0_hw1 => k0_hw1.2.2.1.2.2.2.2.1
theorem k0_off37_inb : ∀ (d0 : Dev nD) (v147 : BitVec 32) (k0_hw1 : k0_chk1 d0 v147), ∀ a, (k0_off37 v147) a + S1x128x2048.size a ≤ S32x128x2048.size a := fun d0 v147 k0_hw1 => k0_hw1.2.2.1.2.2.2.2.2.1
theorem k0_off37_wordsfp8e4m3 : ∀ (d0 : Dev nD) (v147 : BitVec 32) (k0_hw1 : k0_chk1 d0 v147), (Rect.unit (s := S32x128x2048) (k0_off37 v147) S1x128x2048.size (k0_off37_inb d0 v147 k0_hw1)).WholeWords (EltTy.packing .fp8e4m3) := fun d0 v147 k0_hw1 => k0_hw1.2.2.1.2.2.2.2.2.2.1 (k0_off37_inb d0 v147 k0_hw1)
theorem k0_off38_inb : ∀ (d0 : Dev nD) (v147 : BitVec 32) (k0_hw1 : k0_chk1 d0 v147), ∀ a, (k0_off38 v147) a + S1.size a ≤ S32.size a := fun d0 v147 k0_hw1 => k0_hw1.2.2.1.2.2.2.2.2.2.2.1
theorem k0_off39_inb : ∀ (d0 : Dev nD) (v147 : BitVec 32) (k0_hw1 : k0_chk1 d0 v147), ∀ a, (k0_off39 v147) a + S1x128x2048.size a ≤ S32x128x2048.size a := fun d0 v147 k0_hw1 => k0_hw1.2.2.1.2.2.2.2.2.2.2.2.1
theorem k0_off39_wordsfp8e4m3 : ∀ (d0 : Dev nD) (v147 : BitVec 32) (k0_hw1 : k0_chk1 d0 v147), (Rect.unit (s := S32x128x2048) (k0_off39 v147) S1x128x2048.size (k0_off39_inb d0 v147 k0_hw1)).WholeWords (EltTy.packing .fp8e4m3) := fun d0 v147 k0_hw1 => k0_hw1.2.2.1.2.2.2.2.2.2.2.2.2.1 (k0_off39_inb d0 v147 k0_hw1)
theorem k0_off40_inb : ∀ (d0 : Dev nD) (v147 : BitVec 32) (k0_hw1 : k0_chk1 d0 v147), ∀ a, (k0_off40 v147) a + S1.size a ≤ S32.size a := fun d0 v147 k0_hw1 => k0_hw1.2.2.1.2.2.2.2.2.2.2.2.2.2.1
theorem k0_off41_inb : ∀ (d0 : Dev nD) (v147 : BitVec 32) (k0_hw1 : k0_chk1 d0 v147), ∀ a, (k0_off41 v147) a + S1x128x2048.size a ≤ S32x128x2048.size a := fun d0 v147 k0_hw1 => k0_hw1.2.2.1.2.2.2.2.2.2.2.2.2.2.2.1
theorem k0_off41_wordsfp8e4m3 : ∀ (d0 : Dev nD) (v147 : BitVec 32) (k0_hw1 : k0_chk1 d0 v147), (Rect.unit (s := S32x128x2048) (k0_off41 v147) S1x128x2048.size (k0_off41_inb d0 v147 k0_hw1)).WholeWords (EltTy.packing .fp8e4m3) := fun d0 v147 k0_hw1 => k0_hw1.2.2.1.2.2.2.2.2.2.2.2.2.2.2.2.1 (k0_off41_inb d0 v147 k0_hw1)
theorem k0_off42_inb : ∀ (d0 : Dev nD) (v147 : BitVec 32) (k0_hw1 : k0_chk1 d0 v147), ∀ a, (k0_off42 v147) a + S1x128x128.size a ≤ S32x128x128.size a := fun d0 v147 k0_hw1 => k0_hw1.2.2.1.2.2.2.2.2.2.2.2.2.2.2.2.2.1
theorem k0_off43_inb : ∀ (d0 : Dev nD) (v147 : BitVec 32) (k0_hw1 : k0_chk1 d0 v147), ∀ a, (k0_off43 v147) a + S1x128x2048.size a ≤ S32x128x2048.size a := fun d0 v147 k0_hw1 => k0_hw1.2.2.1.2.2.2.2.2.2.2.2.2.2.2.2.2.2.1
theorem k0_off44_inb : ∀ (d0 : Dev nD) (v147 : BitVec 32) (k0_hw1 : k0_chk1 d0 v147) (k0_t2 : Fin k0_t2_loop.trips), ∀ a, (k0_off44 v147 k0_t2) a + S1.size a ≤ S32.size a := fun d0 v147 k0_hw1 k0_t2 => k0_hw1.2.2.1.2.2.2.2.2.2.2.2.2.2.2.2.2.2.2.1 k0_t2
theorem k0_off45_inb : ∀ (d0 : Dev nD) (v147 : BitVec 32) (k0_hw1 : k0_chk1 d0 v147) (k0_t2 : Fin k0_t2_loop.trips), ∀ a, (k0_off45 v147 k0_t2) a + S1x128x2048.size a ≤ S32x128x2048.size a := fun d0 v147 k0_hw1 k0_t2 => k0_hw1.2.2.1.2.2.2.2.2.2.2.2.2.2.2.2.2.2.2.2.1 k0_t2
theorem k0_off45_wordsfp8e4m3 : ∀ (d0 : Dev nD) (v147 : BitVec 32) (k0_hw1 : k0_chk1 d0 v147) (k0_t2 : Fin k0_t2_loop.trips), (Rect.unit (s := S32x128x2048) (k0_off45 v147 k0_t2) S1x128x2048.size (k0_off45_inb d0 v147 k0_hw1 k0_t2)).WholeWords (EltTy.packing .fp8e4m3) := fun d0 v147 k0_hw1 k0_t2 => k0_hw1.2.2.1.2.2.2.2.2.2.2.2.2.2.2.2.2.2.2.2.2.1 k0_t2 (k0_off45_inb d0 v147 k0_hw1 k0_t2)
theorem k0_off46_inb : ∀ (d0 : Dev nD) (v147 : BitVec 32) (k0_hw1 : k0_chk1 d0 v147) (k0_t2 : Fin k0_t2_loop.trips), ∀ a, (k0_off46 v147 k0_t2) a + S1.size a ≤ S32.size a := fun d0 v147 k0_hw1 k0_t2 => k0_hw1.2.2.1.2.2.2.2.2.2.2.2.2.2.2.2.2.2.2.2.2.2.1 k0_t2
theorem k0_off47_inb : ∀ (d0 : Dev nD) (v147 : BitVec 32) (k0_hw1 : k0_chk1 d0 v147) (k0_t2 : Fin k0_t2_loop.trips), ∀ a, (k0_off47 v147 k0_t2) a + S1x128x2048.size a ≤ S32x128x2048.size a := fun d0 v147 k0_hw1 k0_t2 => k0_hw1.2.2.1.2.2.2.2.2.2.2.2.2.2.2.2.2.2.2.2.2.2.2.1 k0_t2
theorem k0_off47_wordsfp8e4m3 : ∀ (d0 : Dev nD) (v147 : BitVec 32) (k0_hw1 : k0_chk1 d0 v147) (k0_t2 : Fin k0_t2_loop.trips), (Rect.unit (s := S32x128x2048) (k0_off47 v147 k0_t2) S1x128x2048.size (k0_off47_inb d0 v147 k0_hw1 k0_t2)).WholeWords (EltTy.packing .fp8e4m3) := fun d0 v147 k0_hw1 k0_t2 => k0_hw1.2.2.1.2.2.2.2.2.2.2.2.2.2.2.2.2.2.2.2.2.2.2.2.1 k0_t2 (k0_off47_inb d0 v147 k0_hw1 k0_t2)
theorem k0_off48_inb : ∀ (d0 : Dev nD) (v147 : BitVec 32) (k0_hw1 : k0_chk1 d0 v147) (k0_t2 : Fin k0_t2_loop.trips), ∀ a, (k0_off48 v147 k0_t2) a + S1x128x128.size a ≤ S32x128x128.size a := fun d0 v147 k0_hw1 k0_t2 => k0_hw1.2.2.1.2.2.2.2.2.2.2.2.2.2.2.2.2.2.2.2.2.2.2.2.2.1 k0_t2
theorem k0_off49_inb : ∀ (d0 : Dev nD) (v147 : BitVec 32) (k0_hw1 : k0_chk1 d0 v147) (k0_t2 : Fin k0_t2_loop.trips), ∀ a, (k0_off49 v147 k0_t2) a + S1x128x2048.size a ≤ S32x128x2048.size a := fun d0 v147 k0_hw1 k0_t2 => k0_hw1.2.2.1.2.2.2.2.2.2.2.2.2.2.2.2.2.2.2.2.2.2.2.2.2.2.1 k0_t2
theorem k0_off50_inb : ∀ (d0 : Dev nD) (v147 : BitVec 32) (k0_hw1 : k0_chk1 d0 v147) (k0_t2 : Fin k0_t2_loop.trips), ∀ a, (k0_off50 v147 k0_t2) a + S1x128x128.size a ≤ S32x128x128.size a := fun d0 v147 k0_hw1 k0_t2 => k0_hw1.2.2.1.2.2.2.2.2.2.2.2.2.2.2.2.2.2.2.2.2.2.2.2.2.2.2.1 k0_t2
theorem k0_off51_inb : ∀ (d0 : Dev nD) (v147 : BitVec 32) (k0_hw1 : k0_chk1 d0 v147) (k0_t2 : Fin k0_t2_loop.trips), ∀ a, (k0_off51 v147 k0_t2) a + S1x128x2048.size a ≤ S32x128x2048.size a := fun d0 v147 k0_hw1 k0_t2 => k0_hw1.2.2.1.2.2.2.2.2.2.2.2.2.2.2.2.2.2.2.2.2.2.2.2.2.2.2.2.1 k0_t2
theorem k0_off52_inb : ∀ (d0 : Dev nD) (v147 : BitVec 32) (k0_hw1 : k0_chk1 d0 v147), ∀ a, (k0_off52 v147) a + S1.size a ≤ S32.size a := fun d0 v147 k0_hw1 => k0_hw1.2.2.1.2.2.2.2.2.2.2.2.2.2.2.2.2.2.2.2.2.2.2.2.2.2.2.2.2.1
theorem k0_off53_inb : ∀ (d0 : Dev nD) (v147 : BitVec 32) (k0_hw1 : k0_chk1 d0 v147), ∀ a, (k0_off53 v147) a + S1x128x2048.size a ≤ S32x128x2048.size a := fun d0 v147 k0_hw1 => k0_hw1.2.2.1.2.2.2.2.2.2.2.2.2.2.2.2.2.2.2.2.2.2.2.2.2.2.2.2.2.2.1
theorem k0_off53_wordsfp8e4m3 : ∀ (d0 : Dev nD) (v147 : BitVec 32) (k0_hw1 : k0_chk1 d0 v147), (Rect.unit (s := S32x128x2048) (k0_off53 v147) S1x128x2048.size (k0_off53_inb d0 v147 k0_hw1)).WholeWords (EltTy.packing .fp8e4m3) := fun d0 v147 k0_hw1 => k0_hw1.2.2.1.2.2.2.2.2.2.2.2.2.2.2.2.2.2.2.2.2.2.2.2.2.2.2.2.2.2.2.1 (k0_off53_inb d0 v147 k0_hw1)
theorem k0_off54_inb : ∀ (d0 : Dev nD) (v147 : BitVec 32) (k0_hw1 : k0_chk1 d0 v147), ∀ a, (k0_off54 v147) a + S1x128x128.size a ≤ S32x128x128.size a := fun d0 v147 k0_hw1 => k0_hw1.2.2.1.2.2.2.2.2.2.2.2.2.2.2.2.2.2.2.2.2.2.2.2.2.2.2.2.2.2.2.2.1
theorem k0_off55_inb : ∀ (d0 : Dev nD) (v147 : BitVec 32) (k0_hw1 : k0_chk1 d0 v147), ∀ a, (k0_off55 v147) a + S1x128x2048.size a ≤ S32x128x2048.size a := fun d0 v147 k0_hw1 => k0_hw1.2.2.1.2.2.2.2.2.2.2.2.2.2.2.2.2.2.2.2.2.2.2.2.2.2.2.2.2.2.2.2.2.1
theorem k0_off56_inb : ∀ (d0 : Dev nD) (v147 : BitVec 32) (k0_hw1 : k0_chk1 d0 v147), ∀ a, (k0_off56 v147) a + S1.size a ≤ S32.size a := fun d0 v147 k0_hw1 => k0_hw1.2.2.1.2.2.2.2.2.2.2.2.2.2.2.2.2.2.2.2.2.2.2.2.2.2.2.2.2.2.2.2.2.2.1
theorem k0_off57_inb : ∀ (d0 : Dev nD) (v147 : BitVec 32) (k0_hw1 : k0_chk1 d0 v147), ∀ a, (k0_off57 v147) a + S1x128x2048.size a ≤ S32x128x2048.size a := fun d0 v147 k0_hw1 => k0_hw1.2.2.1.2.2.2.2.2.2.2.2.2.2.2.2.2.2.2.2.2.2.2.2.2.2.2.2.2.2.2.2.2.2.2
theorem k0_off57_wordsfp8e4m3 : ∀ (d0 : Dev nD) (v147 : BitVec 32) (k0_hw1 : k0_chk1 d0 v147), (Rect.unit (s := S32x128x2048) (k0_off57 v147) S1x128x2048.size (k0_off57_inb d0 v147 k0_hw1)).WholeWords (EltTy.packing .fp8e4m3) := fun d0 v147 k0_hw1 => k0_hw1.2.2.2.1.1 (k0_off57_inb d0 v147 k0_hw1)
theorem k0_off58_inb : ∀ (d0 : Dev nD) (v147 : BitVec 32) (k0_hw1 : k0_chk1 d0 v147), ∀ a, (k0_off58 v147) a + S1x128x128.size a ≤ S32x128x128.size a := fun d0 v147 k0_hw1 => k0_hw1.2.2.2.1.2.1
theorem k0_off59_inb : ∀ (d0 : Dev nD) (v147 : BitVec 32) (k0_hw1 : k0_chk1 d0 v147), ∀ a, (k0_off59 v147) a + S1x128x2048.size a ≤ S32x128x2048.size a := fun d0 v147 k0_hw1 => k0_hw1.2.2.2.1.2.2.1
theorem k0_off60_inb : ∀ (d0 : Dev nD) (v147 : BitVec 32) (k0_hw1 : k0_chk1 d0 v147), ∀ (k0_h65 : k0_cond65 d0 = 1#1), ∀ a, (k0_off60 v147) a + S1x128x128.size a ≤ S32x128x128.size a := fun d0 v147 k0_hw1 k0_h65 => k0_hw1.2.2.2.1.2.2.2.1 k0_h65
theorem k0_off60_wordsfp8e4m3 : ∀ (d0 : Dev nD) (v147 : BitVec 32) (k0_hw1 : k0_chk1 d0 v147), ∀ (k0_h65 : k0_cond65 d0 = 1#1), (Rect.unit (s := S32x128x128) (k0_off60 v147) S1x128x128.size (k0_off60_inb d0 v147 k0_hw1 k0_h65)).WholeWords (EltTy.packing .fp8e4m3) := fun d0 v147 k0_hw1 k0_h65 => k0_hw1.2.2.2.1.2.2.2.2.1 k0_h65 (k0_off60_inb d0 v147 k0_hw1 k0_h65)
theorem k0_off61_inb : ∀ (d0 : Dev nD) (v147 : BitVec 32) (k0_hw1 : k0_chk1 d0 v147), ∀ (k0_h66 : k0_cond66 d0 = 1#1), ∀ a, (k0_off61 v147) a + S1x128x128.size a ≤ S32x128x128.size a := fun d0 v147 k0_hw1 k0_h66 => k0_hw1.2.2.2.1.2.2.2.2.2.1 k0_h66
theorem k0_off61_wordsfp8e4m3 : ∀ (d0 : Dev nD) (v147 : BitVec 32) (k0_hw1 : k0_chk1 d0 v147), ∀ (k0_h66 : k0_cond66 d0 = 1#1), (Rect.unit (s := S32x128x128) (k0_off61 v147) S1x128x128.size (k0_off61_inb d0 v147 k0_hw1 k0_h66)).WholeWords (EltTy.packing .fp8e4m3) := fun d0 v147 k0_hw1 k0_h66 => k0_hw1.2.2.2.1.2.2.2.2.2.2.1 k0_h66 (k0_off61_inb d0 v147 k0_hw1 k0_h66)
theorem k0_off62_inb : ∀ (d0 : Dev nD) (v147 : BitVec 32) (k0_hw1 : k0_chk1 d0 v147), ∀ (k0_h67 : k0_cond67 d0 = 1#1), ∀ a, (k0_off62 v147) a + S1x128x128.size a ≤ S32x128x128.size a := fun d0 v147 k0_hw1 k0_h67 => k0_hw1.2.2.2.1.2.2.2.2.2.2.2.1 k0_h67
theorem k0_off62_wordsfp8e4m3 : ∀ (d0 : Dev nD) (v147 : BitVec 32) (k0_hw1 : k0_chk1 d0 v147), ∀ (k0_h67 : k0_cond67 d0 = 1#1), (Rect.unit (s := S32x128x128) (k0_off62 v147) S1x128x128.size (k0_off62_inb d0 v147 k0_hw1 k0_h67)).WholeWords (EltTy.packing .fp8e4m3) := fun d0 v147 k0_hw1 k0_h67 => k0_hw1.2.2.2.1.2.2.2.2.2.2.2.2.1 k0_h67 (k0_off62_inb d0 v147 k0_hw1 k0_h67)
theorem k0_off63_inb : ∀ (d0 : Dev nD) (v147 : BitVec 32) (k0_hw1 : k0_chk1 d0 v147), ∀ (k0_h68 : k0_cond68 d0 = 1#1), ∀ a, (k0_off63 v147) a + S1x128x128.size a ≤ S32x128x128.size a := fun d0 v147 k0_hw1 k0_h68 => k0_hw1.2.2.2.1.2.2.2.2.2.2.2.2.2.1 k0_h68
theorem k0_off63_wordsfp8e4m3 : ∀ (d0 : Dev nD) (v147 : BitVec 32) (k0_hw1 : k0_chk1 d0 v147), ∀ (k0_h68 : k0_cond68 d0 = 1#1), (Rect.unit (s := S32x128x128) (k0_off63 v147) S1x128x128.size (k0_off63_inb d0 v147 k0_hw1 k0_h68)).WholeWords (EltTy.packing .fp8e4m3) := fun d0 v147 k0_hw1 k0_h68 => k0_hw1.2.2.2.1.2.2.2.2.2.2.2.2.2.2.1 k0_h68 (k0_off63_inb d0 v147 k0_hw1 k0_h68)
theorem k0_off64_inb : ∀ (d0 : Dev nD) (v147 : BitVec 32) (k0_hw1 : k0_chk1 d0 v147), ∀ (k0_h69 : k0_cond69 d0 = 1#1), ∀ a, (k0_off64 v147) a + S1x128x128.size a ≤ S32x128x128.size a := fun d0 v147 k0_hw1 k0_h69 => k0_hw1.2.2.2.1.2.2.2.2.2.2.2.2.2.2.2.1 k0_h69
theorem k0_off64_wordsfp8e4m3 : ∀ (d0 : Dev nD) (v147 : BitVec 32) (k0_hw1 : k0_chk1 d0 v147), ∀ (k0_h69 : k0_cond69 d0 = 1#1), (Rect.unit (s := S32x128x128) (k0_off64 v147) S1x128x128.size (k0_off64_inb d0 v147 k0_hw1 k0_h69)).WholeWords (EltTy.packing .fp8e4m3) := fun d0 v147 k0_hw1 k0_h69 => k0_hw1.2.2.2.1.2.2.2.2.2.2.2.2.2.2.2.2.1 k0_h69 (k0_off64_inb d0 v147 k0_hw1 k0_h69)
theorem k0_off65_inb : ∀ (d0 : Dev nD) (v147 : BitVec 32) (k0_hw1 : k0_chk1 d0 v147), ∀ (k0_h70 : k0_cond70 d0 = 1#1), ∀ a, (k0_off65 v147) a + S1x128x128.size a ≤ S32x128x128.size a := fun d0 v147 k0_hw1 k0_h70 => k0_hw1.2.2.2.1.2.2.2.2.2.2.2.2.2.2.2.2.2.1 k0_h70
theorem k0_off65_wordsfp8e4m3 : ∀ (d0 : Dev nD) (v147 : BitVec 32) (k0_hw1 : k0_chk1 d0 v147), ∀ (k0_h70 : k0_cond70 d0 = 1#1), (Rect.unit (s := S32x128x128) (k0_off65 v147) S1x128x128.size (k0_off65_inb d0 v147 k0_hw1 k0_h70)).WholeWords (EltTy.packing .fp8e4m3) := fun d0 v147 k0_hw1 k0_h70 => k0_hw1.2.2.2.1.2.2.2.2.2.2.2.2.2.2.2.2.2.2.1 k0_h70 (k0_off65_inb d0 v147 k0_hw1 k0_h70)
theorem k0_off66_inb : ∀ (d0 : Dev nD) (v147 : BitVec 32) (k0_hw1 : k0_chk1 d0 v147), ∀ (k0_h71 : k0_cond71 d0 = 1#1), ∀ a, (k0_off66 v147) a + S1x128x128.size a ≤ S32x128x128.size a := fun d0 v147 k0_hw1 k0_h71 => k0_hw1.2.2.2.1.2.2.2.2.2.2.2.2.2.2.2.2.2.2.2.1 k0_h71
theorem k0_off66_wordsfp8e4m3 : ∀ (d0 : Dev nD) (v147 : BitVec 32) (k0_hw1 : k0_chk1 d0 v147), ∀ (k0_h71 : k0_cond71 d0 = 1#1), (Rect.unit (s := S32x128x128) (k0_off66 v147) S1x128x128.size (k0_off66_inb d0 v147 k0_hw1 k0_h71)).WholeWords (EltTy.packing .fp8e4m3) := fun d0 v147 k0_hw1 k0_h71 => k0_hw1.2.2.2.1.2.2.2.2.2.2.2.2.2.2.2.2.2.2.2.2.1 k0_h71 (k0_off66_inb d0 v147 k0_hw1 k0_h71)
theorem k0_off67_inb : ∀ (d0 : Dev nD) (v147 : BitVec 32) (k0_hw1 : k0_chk1 d0 v147), ∀ (k0_h72 : k0_cond72 d0 = 1#1), ∀ a, (k0_off67 v147) a + S1x128x128.size a ≤ S32x128x128.size a := fun d0 v147 k0_hw1 k0_h72 => k0_hw1.2.2.2.1.2.2.2.2.2.2.2.2.2.2.2.2.2.2.2.2.2.1 k0_h72
theorem k0_off67_wordsfp8e4m3 : ∀ (d0 : Dev nD) (v147 : BitVec 32) (k0_hw1 : k0_chk1 d0 v147), ∀ (k0_h72 : k0_cond72 d0 = 1#1), (Rect.unit (s := S32x128x128) (k0_off67 v147) S1x128x128.size (k0_off67_inb d0 v147 k0_hw1 k0_h72)).WholeWords (EltTy.packing .fp8e4m3) := fun d0 v147 k0_hw1 k0_h72 => k0_hw1.2.2.2.1.2.2.2.2.2.2.2.2.2.2.2.2.2.2.2.2.2.2.1 k0_h72 (k0_off67_inb d0 v147 k0_hw1 k0_h72)
theorem k0_off68_inb : ∀ (d0 : Dev nD) (v147 : BitVec 32) (k0_hw1 : k0_chk1 d0 v147), ∀ (k0_h73 : k0_cond73 d0 = 1#1), ∀ a, (k0_off68 v147) a + S1x128x128.size a ≤ S32x128x128.size a := fun d0 v147 k0_hw1 k0_h73 => k0_hw1.2.2.2.1.2.2.2.2.2.2.2.2.2.2.2.2.2.2.2.2.2.2.2.1 k0_h73
theorem k0_off68_wordsfp8e4m3 : ∀ (d0 : Dev nD) (v147 : BitVec 32) (k0_hw1 : k0_chk1 d0 v147), ∀ (k0_h73 : k0_cond73 d0 = 1#1), (Rect.unit (s := S32x128x128) (k0_off68 v147) S1x128x128.size (k0_off68_inb d0 v147 k0_hw1 k0_h73)).WholeWords (EltTy.packing .fp8e4m3) := fun d0 v147 k0_hw1 k0_h73 => k0_hw1.2.2.2.1.2.2.2.2.2.2.2.2.2.2.2.2.2.2.2.2.2.2.2.2.1 k0_h73 (k0_off68_inb d0 v147 k0_hw1 k0_h73)
theorem k0_off69_inb : ∀ (d0 : Dev nD) (v147 : BitVec 32) (k0_hw1 : k0_chk1 d0 v147), ∀ (k0_h74 : k0_cond74 d0 = 1#1), ∀ a, (k0_off69 v147) a + S1x128x128.size a ≤ S32x128x128.size a := fun d0 v147 k0_hw1 k0_h74 => k0_hw1.2.2.2.1.2.2.2.2.2.2.2.2.2.2.2.2.2.2.2.2.2.2.2.2.2.1 k0_h74
theorem k0_off69_wordsfp8e4m3 : ∀ (d0 : Dev nD) (v147 : BitVec 32) (k0_hw1 : k0_chk1 d0 v147), ∀ (k0_h74 : k0_cond74 d0 = 1#1), (Rect.unit (s := S32x128x128) (k0_off69 v147) S1x128x128.size (k0_off69_inb d0 v147 k0_hw1 k0_h74)).WholeWords (EltTy.packing .fp8e4m3) := fun d0 v147 k0_hw1 k0_h74 => k0_hw1.2.2.2.1.2.2.2.2.2.2.2.2.2.2.2.2.2.2.2.2.2.2.2.2.2.2.1 k0_h74 (k0_off69_inb d0 v147 k0_hw1 k0_h74)
theorem k0_off70_inb : ∀ (d0 : Dev nD) (v147 : BitVec 32) (k0_hw1 : k0_chk1 d0 v147), ∀ (k0_h75 : k0_cond75 d0 = 1#1), ∀ a, (k0_off70 v147) a + S1x128x128.size a ≤ S32x128x128.size a := fun d0 v147 k0_hw1 k0_h75 => k0_hw1.2.2.2.1.2.2.2.2.2.2.2.2.2.2.2.2.2.2.2.2.2.2.2.2.2.2.2.1 k0_h75
theorem k0_off70_wordsfp8e4m3 : ∀ (d0 : Dev nD) (v147 : BitVec 32) (k0_hw1 : k0_chk1 d0 v147), ∀ (k0_h75 : k0_cond75 d0 = 1#1), (Rect.unit (s := S32x128x128) (k0_off70 v147) S1x128x128.size (k0_off70_inb d0 v147 k0_hw1 k0_h75)).WholeWords (EltTy.packing .fp8e4m3) := fun d0 v147 k0_hw1 k0_h75 => k0_hw1.2.2.2.1.2.2.2.2.2.2.2.2.2.2.2.2.2.2.2.2.2.2.2.2.2.2.2.2.1 k0_h75 (k0_off70_inb d0 v147 k0_hw1 k0_h75)
theorem k0_off71_inb : ∀ (d0 : Dev nD) (v147 : BitVec 32) (k0_hw1 : k0_chk1 d0 v147), ∀ (k0_h76 : k0_cond76 d0 = 1#1), ∀ a, (k0_off71 v147) a + S1x128x128.size a ≤ S32x128x128.size a := fun d0 v147 k0_hw1 k0_h76 => k0_hw1.2.2.2.1.2.2.2.2.2.2.2.2.2.2.2.2.2.2.2.2.2.2.2.2.2.2.2.2.2.1 k0_h76
theorem k0_off71_wordsfp8e4m3 : ∀ (d0 : Dev nD) (v147 : BitVec 32) (k0_hw1 : k0_chk1 d0 v147), ∀ (k0_h76 : k0_cond76 d0 = 1#1), (Rect.unit (s := S32x128x128) (k0_off71 v147) S1x128x128.size (k0_off71_inb d0 v147 k0_hw1 k0_h76)).WholeWords (EltTy.packing .fp8e4m3) := fun d0 v147 k0_hw1 k0_h76 => k0_hw1.2.2.2.1.2.2.2.2.2.2.2.2.2.2.2.2.2.2.2.2.2.2.2.2.2.2.2.2.2.2.1 k0_h76 (k0_off71_inb d0 v147 k0_hw1 k0_h76)
theorem k0_off72_inb : ∀ (d0 : Dev nD) (v147 : BitVec 32) (k0_hw1 : k0_chk1 d0 v147), ∀ (k0_h77 : k0_cond77 d0 = 1#1), ∀ a, (k0_off72 v147) a + S1x128x128.size a ≤ S32x128x128.size a := fun d0 v147 k0_hw1 k0_h77 => k0_hw1.2.2.2.1.2.2.2.2.2.2.2.2.2.2.2.2.2.2.2.2.2.2.2.2.2.2.2.2.2.2.2.1 k0_h77
theorem k0_off72_wordsfp8e4m3 : ∀ (d0 : Dev nD) (v147 : BitVec 32) (k0_hw1 : k0_chk1 d0 v147), ∀ (k0_h77 : k0_cond77 d0 = 1#1), (Rect.unit (s := S32x128x128) (k0_off72 v147) S1x128x128.size (k0_off72_inb d0 v147 k0_hw1 k0_h77)).WholeWords (EltTy.packing .fp8e4m3) := fun d0 v147 k0_hw1 k0_h77 => k0_hw1.2.2.2.1.2.2.2.2.2.2.2.2.2.2.2.2.2.2.2.2.2.2.2.2.2.2.2.2.2.2.2.2.1 k0_h77 (k0_off72_inb d0 v147 k0_hw1 k0_h77)
theorem k0_off73_inb : ∀ (d0 : Dev nD) (v147 : BitVec 32) (k0_hw1 : k0_chk1 d0 v147), ∀ (k0_h78 : k0_cond78 d0 = 1#1), ∀ a, (k0_off73 v147) a + S1x128x128.size a ≤ S32x128x128.size a := fun d0 v147 k0_hw1 k0_h78 => k0_hw1.2.2.2.1.2.2.2.2.2.2.2.2.2.2.2.2.2.2.2.2.2.2.2.2.2.2.2.2.2.2.2.2.2.1 k0_h78
theorem k0_off73_wordsfp8e4m3 : ∀ (d0 : Dev nD) (v147 : BitVec 32) (k0_hw1 : k0_chk1 d0 v147), ∀ (k0_h78 : k0_cond78 d0 = 1#1), (Rect.unit (s := S32x128x128) (k0_off73 v147) S1x128x128.size (k0_off73_inb d0 v147 k0_hw1 k0_h78)).WholeWords (EltTy.packing .fp8e4m3) := fun d0 v147 k0_hw1 k0_h78 => k0_hw1.2.2.2.1.2.2.2.2.2.2.2.2.2.2.2.2.2.2.2.2.2.2.2.2.2.2.2.2.2.2.2.2.2.2.1 k0_h78 (k0_off73_inb d0 v147 k0_hw1 k0_h78)
theorem k0_off74_inb : ∀ (d0 : Dev nD) (v147 : BitVec 32) (k0_hw1 : k0_chk1 d0 v147), ∀ (k0_h79 : k0_cond79 d0 = 1#1), ∀ a, (k0_off74 v147) a + S1x128x128.size a ≤ S32x128x128.size a := fun d0 v147 k0_hw1 k0_h79 => k0_hw1.2.2.2.1.2.2.2.2.2.2.2.2.2.2.2.2.2.2.2.2.2.2.2.2.2.2.2.2.2.2.2.2.2.2.2 k0_h79
theorem k0_off74_wordsfp8e4m3 : ∀ (d0 : Dev nD) (v147 : BitVec 32) (k0_hw1 : k0_chk1 d0 v147), ∀ (k0_h79 : k0_cond79 d0 = 1#1), (Rect.unit (s := S32x128x128) (k0_off74 v147) S1x128x128.size (k0_off74_inb d0 v147 k0_hw1 k0_h79)).WholeWords (EltTy.packing .fp8e4m3) := fun d0 v147 k0_hw1 k0_h79 => k0_hw1.2.2.2.2.1.1 k0_h79 (k0_off74_inb d0 v147 k0_hw1 k0_h79)
theorem k0_off75_inb : ∀ (d0 : Dev nD) (v147 : BitVec 32) (k0_hw1 : k0_chk1 d0 v147), ∀ (k0_h80 : k0_cond80 d0 = 1#1), ∀ a, (k0_off75 v147) a + S1x128x128.size a ≤ S32x128x128.size a := fun d0 v147 k0_hw1 k0_h80 => k0_hw1.2.2.2.2.1.2.1 k0_h80
theorem k0_off75_wordsfp8e4m3 : ∀ (d0 : Dev nD) (v147 : BitVec 32) (k0_hw1 : k0_chk1 d0 v147), ∀ (k0_h80 : k0_cond80 d0 = 1#1), (Rect.unit (s := S32x128x128) (k0_off75 v147) S1x128x128.size (k0_off75_inb d0 v147 k0_hw1 k0_h80)).WholeWords (EltTy.packing .fp8e4m3) := fun d0 v147 k0_hw1 k0_h80 => k0_hw1.2.2.2.2.1.2.2.1 k0_h80 (k0_off75_inb d0 v147 k0_hw1 k0_h80)
theorem k0_off76_inb : ∀ (d0 : Dev nD) (v147 : BitVec 32) (k0_hw1 : k0_chk1 d0 v147), ∀ (k0_h81 : k0_cond81 d0 = 1#1), ∀ a, (k0_off76 v147) a + S1x128x128.size a ≤ S32x128x128.size a := fun d0 v147 k0_hw1 k0_h81 => k0_hw1.2.2.2.2.1.2.2.2.1 k0_h81
theorem k0_off76_wordsfp8e4m3 : ∀ (d0 : Dev nD) (v147 : BitVec 32) (k0_hw1 : k0_chk1 d0 v147), ∀ (k0_h81 : k0_cond81 d0 = 1#1), (Rect.unit (s := S32x128x128) (k0_off76 v147) S1x128x128.size (k0_off76_inb d0 v147 k0_hw1 k0_h81)).WholeWords (EltTy.packing .fp8e4m3) := fun d0 v147 k0_hw1 k0_h81 => k0_hw1.2.2.2.2.1.2.2.2.2.1 k0_h81 (k0_off76_inb d0 v147 k0_hw1 k0_h81)
theorem k0_off77_inb : ∀ (d0 : Dev nD) (v147 : BitVec 32) (k0_hw1 : k0_chk1 d0 v147), ∀ (k0_h82 : k0_cond82 d0 = 1#1), ∀ a, (k0_off77 v147) a + S1x128x128.size a ≤ S32x128x128.size a := fun d0 v147 k0_hw1 k0_h82 => k0_hw1.2.2.2.2.1.2.2.2.2.2.1 k0_h82
theorem k0_off77_wordsfp8e4m3 : ∀ (d0 : Dev nD) (v147 : BitVec 32) (k0_hw1 : k0_chk1 d0 v147), ∀ (k0_h82 : k0_cond82 d0 = 1#1), (Rect.unit (s := S32x128x128) (k0_off77 v147) S1x128x128.size (k0_off77_inb d0 v147 k0_hw1 k0_h82)).WholeWords (EltTy.packing .fp8e4m3) := fun d0 v147 k0_hw1 k0_h82 => k0_hw1.2.2.2.2.1.2.2.2.2.2.2.1 k0_h82 (k0_off77_inb d0 v147 k0_hw1 k0_h82)
theorem k0_off78_inb : ∀ (d0 : Dev nD) (v147 : BitVec 32) (k0_hw1 : k0_chk1 d0 v147), ∀ (k0_h83 : k0_cond83 d0 = 1#1), ∀ a, (k0_off78 v147) a + S1x128x128.size a ≤ S32x128x128.size a := fun d0 v147 k0_hw1 k0_h83 => k0_hw1.2.2.2.2.1.2.2.2.2.2.2.2.1 k0_h83
theorem k0_off78_wordsfp8e4m3 : ∀ (d0 : Dev nD) (v147 : BitVec 32) (k0_hw1 : k0_chk1 d0 v147), ∀ (k0_h83 : k0_cond83 d0 = 1#1), (Rect.unit (s := S32x128x128) (k0_off78 v147) S1x128x128.size (k0_off78_inb d0 v147 k0_hw1 k0_h83)).WholeWords (EltTy.packing .fp8e4m3) := fun d0 v147 k0_hw1 k0_h83 => k0_hw1.2.2.2.2.1.2.2.2.2.2.2.2.2.1 k0_h83 (k0_off78_inb d0 v147 k0_hw1 k0_h83)
theorem k0_off79_inb : ∀ (d0 : Dev nD) (v147 : BitVec 32) (k0_hw1 : k0_chk1 d0 v147), ∀ (k0_h84 : k0_cond84 d0 = 1#1), ∀ a, (k0_off79 v147) a + S1x128x128.size a ≤ S32x128x128.size a := fun d0 v147 k0_hw1 k0_h84 => k0_hw1.2.2.2.2.1.2.2.2.2.2.2.2.2.2.1 k0_h84
theorem k0_off79_wordsfp8e4m3 : ∀ (d0 : Dev nD) (v147 : BitVec 32) (k0_hw1 : k0_chk1 d0 v147), ∀ (k0_h84 : k0_cond84 d0 = 1#1), (Rect.unit (s := S32x128x128) (k0_off79 v147) S1x128x128.size (k0_off79_inb d0 v147 k0_hw1 k0_h84)).WholeWords (EltTy.packing .fp8e4m3) := fun d0 v147 k0_hw1 k0_h84 => k0_hw1.2.2.2.2.1.2.2.2.2.2.2.2.2.2.2.1 k0_h84 (k0_off79_inb d0 v147 k0_hw1 k0_h84)
theorem k0_off80_inb : ∀ (d0 : Dev nD) (v147 : BitVec 32) (k0_hw1 : k0_chk1 d0 v147), ∀ (k0_h85 : k0_cond85 d0 = 1#1), ∀ a, (k0_off80 v147) a + S1x128x128.size a ≤ S32x128x128.size a := fun d0 v147 k0_hw1 k0_h85 => k0_hw1.2.2.2.2.1.2.2.2.2.2.2.2.2.2.2.2.1 k0_h85
theorem k0_off80_wordsfp8e4m3 : ∀ (d0 : Dev nD) (v147 : BitVec 32) (k0_hw1 : k0_chk1 d0 v147), ∀ (k0_h85 : k0_cond85 d0 = 1#1), (Rect.unit (s := S32x128x128) (k0_off80 v147) S1x128x128.size (k0_off80_inb d0 v147 k0_hw1 k0_h85)).WholeWords (EltTy.packing .fp8e4m3) := fun d0 v147 k0_hw1 k0_h85 => k0_hw1.2.2.2.2.1.2.2.2.2.2.2.2.2.2.2.2.2.1 k0_h85 (k0_off80_inb d0 v147 k0_hw1 k0_h85)
theorem k0_off81_inb : ∀ (d0 : Dev nD) (v147 : BitVec 32) (k0_hw1 : k0_chk1 d0 v147), ∀ (k0_h86 : k0_cond86 d0 = 1#1), ∀ a, (k0_off81 v147) a + S1x128x128.size a ≤ S32x128x128.size a := fun d0 v147 k0_hw1 k0_h86 => k0_hw1.2.2.2.2.1.2.2.2.2.2.2.2.2.2.2.2.2.2.1 k0_h86
theorem k0_off81_wordsfp8e4m3 : ∀ (d0 : Dev nD) (v147 : BitVec 32) (k0_hw1 : k0_chk1 d0 v147), ∀ (k0_h86 : k0_cond86 d0 = 1#1), (Rect.unit (s := S32x128x128) (k0_off81 v147) S1x128x128.size (k0_off81_inb d0 v147 k0_hw1 k0_h86)).WholeWords (EltTy.packing .fp8e4m3) := fun d0 v147 k0_hw1 k0_h86 => k0_hw1.2.2.2.2.1.2.2.2.2.2.2.2.2.2.2.2.2.2.2.1 k0_h86 (k0_off81_inb d0 v147 k0_hw1 k0_h86)
theorem k0_off82_inb : ∀ (d0 : Dev nD) (v147 : BitVec 32) (k0_hw1 : k0_chk1 d0 v147), ∀ (k0_h87 : k0_cond87 d0 = 1#1), ∀ a, (k0_off82 v147) a + S1x128x128.size a ≤ S32x128x128.size a := fun d0 v147 k0_hw1 k0_h87 => k0_hw1.2.2.2.2.1.2.2.2.2.2.2.2.2.2.2.2.2.2.2.2.1 k0_h87
theorem k0_off82_wordsfp8e4m3 : ∀ (d0 : Dev nD) (v147 : BitVec 32) (k0_hw1 : k0_chk1 d0 v147), ∀ (k0_h87 : k0_cond87 d0 = 1#1), (Rect.unit (s := S32x128x128) (k0_off82 v147) S1x128x128.size (k0_off82_inb d0 v147 k0_hw1 k0_h87)).WholeWords (EltTy.packing .fp8e4m3) := fun d0 v147 k0_hw1 k0_h87 => k0_hw1.2.2.2.2.1.2.2.2.2.2.2.2.2.2.2.2.2.2.2.2.2.1 k0_h87 (k0_off82_inb d0 v147 k0_hw1 k0_h87)
theorem k0_off83_inb : ∀ (d0 : Dev nD) (v147 : BitVec 32) (k0_hw1 : k0_chk1 d0 v147), ∀ (k0_h88 : k0_cond88 d0 = 1#1), ∀ a, (k0_off83 v147) a + S1x128x128.size a ≤ S32x128x128.size a := fun d0 v147 k0_hw1 k0_h88 => k0_hw1.2.2.2.2.1.2.2.2.2.2.2.2.2.2.2.2.2.2.2.2.2.2.1 k0_h88
theorem k0_off83_wordsfp8e4m3 : ∀ (d0 : Dev nD) (v147 : BitVec 32) (k0_hw1 : k0_chk1 d0 v147), ∀ (k0_h88 : k0_cond88 d0 = 1#1), (Rect.unit (s := S32x128x128) (k0_off83 v147) S1x128x128.size (k0_off83_inb d0 v147 k0_hw1 k0_h88)).WholeWords (EltTy.packing .fp8e4m3) := fun d0 v147 k0_hw1 k0_h88 => k0_hw1.2.2.2.2.1.2.2.2.2.2.2.2.2.2.2.2.2.2.2.2.2.2.2.1 k0_h88 (k0_off83_inb d0 v147 k0_hw1 k0_h88)
theorem k0_off84_inb : ∀ (d0 : Dev nD) (v147 : BitVec 32) (k0_hw1 : k0_chk1 d0 v147), ∀ (k0_h89 : k0_cond89 d0 = 1#1), ∀ a, (k0_off84 v147) a + S1x128x128.size a ≤ S32x128x128.size a := fun d0 v147 k0_hw1 k0_h89 => k0_hw1.2.2.2.2.1.2.2.2.2.2.2.2.2.2.2.2.2.2.2.2.2.2.2.2.1 k0_h89
theorem k0_off84_wordsfp8e4m3 : ∀ (d0 : Dev nD) (v147 : BitVec 32) (k0_hw1 : k0_chk1 d0 v147), ∀ (k0_h89 : k0_cond89 d0 = 1#1), (Rect.unit (s := S32x128x128) (k0_off84 v147) S1x128x128.size (k0_off84_inb d0 v147 k0_hw1 k0_h89)).WholeWords (EltTy.packing .fp8e4m3) := fun d0 v147 k0_hw1 k0_h89 => k0_hw1.2.2.2.2.1.2.2.2.2.2.2.2.2.2.2.2.2.2.2.2.2.2.2.2.2.1 k0_h89 (k0_off84_inb d0 v147 k0_hw1 k0_h89)
theorem k0_off85_inb : ∀ (d0 : Dev nD) (v147 : BitVec 32) (k0_hw1 : k0_chk1 d0 v147), ∀ (k0_h90 : k0_cond90 d0 = 1#1), ∀ a, (k0_off85 v147) a + S1x128x128.size a ≤ S32x128x128.size a := fun d0 v147 k0_hw1 k0_h90 => k0_hw1.2.2.2.2.1.2.2.2.2.2.2.2.2.2.2.2.2.2.2.2.2.2.2.2.2.2.1 k0_h90
theorem k0_off85_wordsfp8e4m3 : ∀ (d0 : Dev nD) (v147 : BitVec 32) (k0_hw1 : k0_chk1 d0 v147), ∀ (k0_h90 : k0_cond90 d0 = 1#1), (Rect.unit (s := S32x128x128) (k0_off85 v147) S1x128x128.size (k0_off85_inb d0 v147 k0_hw1 k0_h90)).WholeWords (EltTy.packing .fp8e4m3) := fun d0 v147 k0_hw1 k0_h90 => k0_hw1.2.2.2.2.1.2.2.2.2.2.2.2.2.2.2.2.2.2.2.2.2.2.2.2.2.2.2.1 k0_h90 (k0_off85_inb d0 v147 k0_hw1 k0_h90)
theorem k0_off86_inb : ∀ (d0 : Dev nD) (v147 : BitVec 32) (k0_hw1 : k0_chk1 d0 v147), ∀ (k0_h91 : k0_cond91 d0 = 1#1), ∀ a, (k0_off86 v147) a + S1x128x128.size a ≤ S32x128x128.size a := fun d0 v147 k0_hw1 k0_h91 => k0_hw1.2.2.2.2.1.2.2.2.2.2.2.2.2.2.2.2.2.2.2.2.2.2.2.2.2.2.2.2.1 k0_h91
theorem k0_off86_wordsfp8e4m3 : ∀ (d0 : Dev nD) (v147 : BitVec 32) (k0_hw1 : k0_chk1 d0 v147), ∀ (k0_h91 : k0_cond91 d0 = 1#1), (Rect.unit (s := S32x128x128) (k0_off86 v147) S1x128x128.size (k0_off86_inb d0 v147 k0_hw1 k0_h91)).WholeWords (EltTy.packing .fp8e4m3) := fun d0 v147 k0_hw1 k0_h91 => k0_hw1.2.2.2.2.1.2.2.2.2.2.2.2.2.2.2.2.2.2.2.2.2.2.2.2.2.2.2.2.2.1 k0_h91 (k0_off86_inb d0 v147 k0_hw1 k0_h91)
theorem k0_off87_inb : ∀ (d0 : Dev nD) (v147 : BitVec 32) (k0_hw1 : k0_chk1 d0 v147), ∀ (k0_h92 : k0_cond92 d0 = 1#1), ∀ a, (k0_off87 v147) a + S1x128x128.size a ≤ S32x128x128.size a := fun d0 v147 k0_hw1 k0_h92 => k0_hw1.2.2.2.2.1.2.2.2.2.2.2.2.2.2.2.2.2.2.2.2.2.2.2.2.2.2.2.2.2.2.1 k0_h92
theorem k0_off87_wordsfp8e4m3 : ∀ (d0 : Dev nD) (v147 : BitVec 32) (k0_hw1 : k0_chk1 d0 v147), ∀ (k0_h92 : k0_cond92 d0 = 1#1), (Rect.unit (s := S32x128x128) (k0_off87 v147) S1x128x128.size (k0_off87_inb d0 v147 k0_hw1 k0_h92)).WholeWords (EltTy.packing .fp8e4m3) := fun d0 v147 k0_hw1 k0_h92 => k0_hw1.2.2.2.2.1.2.2.2.2.2.2.2.2.2.2.2.2.2.2.2.2.2.2.2.2.2.2.2.2.2.2.1 k0_h92 (k0_off87_inb d0 v147 k0_hw1 k0_h92)
theorem k0_off88_inb : ∀ (d0 : Dev nD) (v147 : BitVec 32) (k0_hw1 : k0_chk1 d0 v147), ∀ (k0_h93 : k0_cond93 d0 = 1#1), ∀ a, (k0_off88 v147) a + S1x128x128.size a ≤ S32x128x128.size a := fun d0 v147 k0_hw1 k0_h93 => k0_hw1.2.2.2.2.1.2.2.2.2.2.2.2.2.2.2.2.2.2.2.2.2.2.2.2.2.2.2.2.2.2.2.2.1 k0_h93
theorem k0_off88_wordsfp8e4m3 : ∀ (d0 : Dev nD) (v147 : BitVec 32) (k0_hw1 : k0_chk1 d0 v147), ∀ (k0_h93 : k0_cond93 d0 = 1#1), (Rect.unit (s := S32x128x128) (k0_off88 v147) S1x128x128.size (k0_off88_inb d0 v147 k0_hw1 k0_h93)).WholeWords (EltTy.packing .fp8e4m3) := fun d0 v147 k0_hw1 k0_h93 => k0_hw1.2.2.2.2.1.2.2.2.2.2.2.2.2.2.2.2.2.2.2.2.2.2.2.2.2.2.2.2.2.2.2.2.2.1 k0_h93 (k0_off88_inb d0 v147 k0_hw1 k0_h93)
theorem k0_off89_inb : ∀ (d0 : Dev nD) (v147 : BitVec 32) (k0_hw1 : k0_chk1 d0 v147), ∀ (k0_h94 : k0_cond94 d0 = 1#1), ∀ a, (k0_off89 v147) a + S1x128x128.size a ≤ S32x128x128.size a := fun d0 v147 k0_hw1 k0_h94 => k0_hw1.2.2.2.2.1.2.2.2.2.2.2.2.2.2.2.2.2.2.2.2.2.2.2.2.2.2.2.2.2.2.2.2.2.2.1 k0_h94
theorem k0_off89_wordsfp8e4m3 : ∀ (d0 : Dev nD) (v147 : BitVec 32) (k0_hw1 : k0_chk1 d0 v147), ∀ (k0_h94 : k0_cond94 d0 = 1#1), (Rect.unit (s := S32x128x128) (k0_off89 v147) S1x128x128.size (k0_off89_inb d0 v147 k0_hw1 k0_h94)).WholeWords (EltTy.packing .fp8e4m3) := fun d0 v147 k0_hw1 k0_h94 => k0_hw1.2.2.2.2.1.2.2.2.2.2.2.2.2.2.2.2.2.2.2.2.2.2.2.2.2.2.2.2.2.2.2.2.2.2.2.1 k0_h94 (k0_off89_inb d0 v147 k0_hw1 k0_h94)
theorem k0_off90_inb : ∀ (d0 : Dev nD) (v147 : BitVec 32) (k0_hw1 : k0_chk1 d0 v147), ∀ (k0_h95 : k0_cond95 d0 = 1#1), ∀ a, (k0_off90 v147) a + S1x128x128.size a ≤ S32x128x128.size a := fun d0 v147 k0_hw1 k0_h95 => k0_hw1.2.2.2.2.1.2.2.2.2.2.2.2.2.2.2.2.2.2.2.2.2.2.2.2.2.2.2.2.2.2.2.2.2.2.2.2 k0_h95
theorem k0_off90_wordsfp8e4m3 : ∀ (d0 : Dev nD) (v147 : BitVec 32) (k0_hw1 : k0_chk1 d0 v147), ∀ (k0_h95 : k0_cond95 d0 = 1#1), (Rect.unit (s := S32x128x128) (k0_off90 v147) S1x128x128.size (k0_off90_inb d0 v147 k0_hw1 k0_h95)).WholeWords (EltTy.packing .fp8e4m3) := fun d0 v147 k0_hw1 k0_h95 => k0_hw1.2.2.2.2.2.1 k0_h95 (k0_off90_inb d0 v147 k0_hw1 k0_h95)
theorem k0_off91_inb : ∀ (d0 : Dev nD) (v147 : BitVec 32) (k0_hw1 : k0_chk1 d0 v147), ∀ (k0_h96 : k0_cond96 d0 = 1#1), ∀ a, (k0_off91 v147) a + S1x128x128.size a ≤ S32x128x128.size a := fun d0 v147 k0_hw1 k0_h96 => k0_hw1.2.2.2.2.2.2.1 k0_h96
theorem k0_off91_wordsfp8e4m3 : ∀ (d0 : Dev nD) (v147 : BitVec 32) (k0_hw1 : k0_chk1 d0 v147), ∀ (k0_h96 : k0_cond96 d0 = 1#1), (Rect.unit (s := S32x128x128) (k0_off91 v147) S1x128x128.size (k0_off91_inb d0 v147 k0_hw1 k0_h96)).WholeWords (EltTy.packing .fp8e4m3) := fun d0 v147 k0_hw1 k0_h96 => k0_hw1.2.2.2.2.2.2.2 k0_h96 (k0_off91_inb d0 v147 k0_hw1 k0_h96)

abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Place.lean ====
/-
# The ring the thirty-two devices sit on

The kernel computes from a device's own number its place on the ring, and from that place its two neighbours, by
vector arithmetic on an iota. Here the ring is a table (`dev`, from place to device; `place`, its inverse), and the
words the kernel computes are shown to be the table's, device by device.
-/
module

public import proofs.«01_k».proof.Proof.Gen.KernelIdeal
public import proofs.«01_k».proof.Proof.Gen.KernelIdeal.Skeleton

@[expose] public section

noncomputable section

namespace Cert.KernelIdeal.Gather

open Cert.KernelIdeal Cert.KernelIdeal.Gen
open Idealize.ShloMosaic Idealize.ShloMosaic.TcCoe

/-- The device at a place of the ring. -/
def dev : Fin 32 → Dev nD :=
  ![0, 8, 16, 24, 27, 19, 11, 3, 4, 12, 20, 28, 31, 23, 15, 7, 6, 14, 22, 30, 29, 21, 13, 5, 2, 10, 18, 26, 25, 17, 9, 1]
/-- A device's place on the ring. -/
def place : Dev nD → Fin 32 :=
  ![0, 31, 24, 7, 8, 23, 16, 15, 1, 30, 25, 6, 9, 22, 17, 14, 2, 29, 26, 5, 10, 21, 18, 13, 3, 28, 27, 4, 11, 20, 19, 12]

@[simp] theorem dev_place : ∀ c : Dev nD, dev (place c) = c := by decide
@[simp] theorem place_dev : ∀ q : Fin 32, place (dev q) = q := by decide
theorem place_inj {c d : Dev nD} (h : place c = place d) : c = d := by rw [← dev_place c, h, dev_place]

/-- The devices after and before a device on the ring. -/
def nxt (c : Dev nD) : Dev nD := dev (place c + 1)
def prv (c : Dev nD) : Dev nD := dev (place c - 1)
@[simp] theorem place_nxt (c : Dev nD) : place (nxt c) = place c + 1 := place_dev _
@[simp] theorem place_prv (c : Dev nD) : place (prv c) = place c - 1 := place_dev _
theorem sub_one_add_one : ∀ q : Fin 32, q - 1 + 1 = q := by decide
theorem add_one_sub_one : ∀ q : Fin 32, q + 1 - 1 = q := by decide
@[simp] theorem nxt_prv (c : Dev nD) : nxt (prv c) = c := place_inj (by rw [place_nxt, place_prv]; exact sub_one_add_one _)
@[simp] theorem prv_nxt (c : Dev nD) : prv (nxt c) = c := place_inj (by rw [place_prv, place_nxt]; exact add_one_sub_one _)

/-! ## The words the kernel computes -/

/-- The word of a device's own number. -/
def meW (c : Dev nD) : BitVec 32 := Scalar.remsi (Scalar.divsi (Dev.word c) 1#32) 32#32
/-- The iota the kernel's table lookups run over. -/
def iotaW : IVec S1x32 32 := iota .tc S1x32 32 [1] iota_S1x32_d1_w32
/-- Intermediate vectors of the place computation, none depending on the device. -/
def w67 : IVec S1x32 32 := k0_pay5 k0_pay4
def w105 : IVec S1x32 32 := k0_pay8 k0_pay3 w67 (Scalar.select (Scalar.cmpi .eq 2#32 0#32) 1#32 2#32) k0_pay7
def w107 : IVec S1x32 32 := k0_pay9 w67
def w128 : IVec S1x32 32 := k0_pay10 k0_pay3 w67
def w130 : IVec S1x32 1 := k0_pay11 (k0_pay6 k0_pay4)
/-- The word of a device's place as the kernel computes it. -/
def placeW (c : Dev nD) : BitVec 32 :=
  extractAt ![0, 0, 0] (k0_pay14 (meW c) iotaW w67 w105 w107 w128 w130 k0_pay12) inpos_S1x1x1_p0_0_0

set_option maxRecDepth 100000 in
set_option maxHeartbeats 4000000 in
theorem placeW_eq : ∀ c : Dev nD, placeW c = BitVec.ofNat 32 (place c).val := by decide +kernel

/-- The word of a place. -/
def pw (q : Fin 32) : BitVec 32 := BitVec.ofNat 32 q.val

/-- The places one before and one after, as words, as the kernel computes them from the word of a place. -/
def succW (v147 : BitVec 32) : BitVec 32 :=
  Scalar.select (Scalar.andi (Scalar.xori (Scalar.cmpi .slt (Scalar.remsi (Scalar.addi v147 1#32) (Scalar.select (Scalar.cmpi .eq 32#32 0#32) 1#32 32#32)) 0#32)
      (Scalar.cmpi .slt (Scalar.select (Scalar.cmpi .eq 32#32 0#32) 1#32 32#32) 0#32))
      (Scalar.cmpi .ne (Scalar.remsi (Scalar.addi v147 1#32) (Scalar.select (Scalar.cmpi .eq 32#32 0#32) 1#32 32#32)) 0#32))
    (Scalar.addi (Scalar.remsi (Scalar.addi v147 1#32) (Scalar.select (Scalar.cmpi .eq 32#32 0#32) 1#32 32#32)) (Scalar.select (Scalar.cmpi .eq 32#32 0#32) 1#32 32#32))
    (Scalar.remsi (Scalar.addi v147 1#32) (Scalar.select (Scalar.cmpi .eq 32#32 0#32) 1#32 32#32))
def predW (v147 : BitVec 32) : BitVec 32 :=
  Scalar.select (Scalar.andi (Scalar.xori (Scalar.cmpi .slt (Scalar.remsi (Scalar.subi (Scalar.addi v147 32#32) 1#32) (Scalar.select (Scalar.cmpi .eq 32#32 0#32) 1#32 32#32)) 0#32)
      (Scalar.cmpi .slt (Scalar.select (Scalar.cmpi .eq 32#32 0#32) 1#32 32#32) 0#32))
      (Scalar.cmpi .ne (Scalar.remsi (Scalar.subi (Scalar.addi v147 32#32) 1#32) (Scalar.select (Scalar.cmpi .eq 32#32 0#32) 1#32 32#32)) 0#32))
    (Scalar.addi (Scalar.remsi (Scalar.subi (Scalar.addi v147 32#32) 1#32) (Scalar.select (Scalar.cmpi .eq 32#32 0#32) 1#32 32#32)) (Scalar.select (Scalar.cmpi .eq 32#32 0#32) 1#32 32#32))
    (Scalar.remsi (Scalar.subi (Scalar.addi v147 32#32) 1#32) (Scalar.select (Scalar.cmpi .eq 32#32 0#32) 1#32 32#32))

def w139 : IVec S1x32 32 := k0_pay13 w67 w105 w107 w128 w130 k0_pay12
def nxtW (c : Dev nD) : BitVec 32 :=
  extractAt ![0, 0, 0] (k0_pay16 iotaW w139 (k0_pay15 (meW c) iotaW w67 w105 w107 w128 w130 k0_pay12)) inpos_S1x1x1_p0_0_0
def prvW (c : Dev nD) : BitVec 32 := extractAt ![0, 0, 0] (k0_pay17 iotaW w139 (predW (placeW c))) inpos_S1x1x1_p0_0_0

set_option maxRecDepth 100000 in
theorem nxtW_eq : ∀ c : Dev nD, nxtW c = BitVec.ofNat 32 (nxt c).val := by decide +kernel
set_option maxRecDepth 100000 in
theorem prvW_eq : ∀ c : Dev nD, prvW c = BitVec.ofNat 32 (prv c).val := by decide +kernel
theorem meW_eq : ∀ c : Dev nD, meW c = BitVec.ofNat 32 c.val := by decide +kernel

set_option maxRecDepth 100000 in
theorem chk1_pw : ∀ c : Dev nD, k0_chk1 c (pw (place c)) := by decide +kernel
set_option maxRecDepth 100000 in
theorem chk2_dev : ∀ d : Dev nD, k0_chk2 (BitVec.ofNat 32 d.val) := by decide +kernel
theorem chk3_dev : ∀ d : Dev nD, k0_chk3 (BitVec.ofNat 32 d.val) := by decide +kernel

theorem chk1_ok (c : Dev nD) : k0_chk1 c (placeW c) := by rw [placeW_eq]; exact chk1_pw c
theorem chk2_ok (c : Dev nD) : k0_chk2 (nxtW c) := by rw [nxtW_eq]; exact chk2_dev _
theorem chk3_ok (c : Dev nD) : k0_chk3 (prvW c) := by rw [prvW_eq]; exact chk3_dev _

/-- The slot lane `l` of device `c` sends on its hop `h`: each lane starts at the device's own place; lanes 0 and 1 step
    down the ring's places, lanes 2 and 3 up. -/
def slot (l : Fin 4) (c : Dev nD) (h : ℕ) : Fin 32 :=
  if l.val < 2 then ⟨((place c).val + 31 * h) % 32, Nat.mod_lt _ (by decide)⟩ else ⟨((place c).val + h) % 32, Nat.mod_lt _ (by decide)⟩
/-- The device lane `l` of a device sends to, and the one it receives from. -/
def tgt (l : Fin 4) (c : Dev nD) : Dev nD := if l.val < 2 then nxt c else prv c
def frm (l : Fin 4) (c : Dev nD) : Dev nD := if l.val < 2 then prv c else nxt c

theorem tgt_frm (l : Fin 4) (c : Dev nD) : tgt l (frm l c) = c := by unfold tgt frm; split <;> simp
theorem frm_tgt (l : Fin 4) (c : Dev nD) : frm l (tgt l c) = c := by unfold tgt frm; split <;> simp
theorem slot_zero (l : Fin 4) (c : Dev nD) : slot l c 0 = place c := by
  unfold slot; split <;> · refine Fin.ext ?_; show ((place c).val + _) % 32 = _; have := (place c).isLt; omega
theorem val_add_one : ∀ q : Fin 32, (q + 1).val = (q.val + 1) % 32 := by decide
theorem val_sub_one : ∀ q : Fin 32, (q - 1).val = (q.val + 31) % 32 := by decide
/-- What a device sends at hop `h` its target sends at hop `h + 1`. -/
theorem slot_tgt (l : Fin 4) (c : Dev nD) (h : ℕ) : slot l (tgt l c) (h + 1) = slot l c h := by
  unfold slot tgt
  split
  · refine Fin.ext ?_
    show ((place (nxt c)).val + 31 * (h + 1)) % 32 = ((place c).val + 31 * h) % 32
    rw [place_nxt, val_add_one]; omega
  · refine Fin.ext ?_
    show ((place (prv c)).val + (h + 1)) % 32 = ((place c).val + h) % 32
    rw [place_prv, val_sub_one]; omega
theorem slot_inj (l : Fin 4) (c : Dev nD) {h h' : ℕ} (hh : h < 32) (hh' : h' < 32) (e : slot l c h = slot l c h') : h = h' := by
  unfold slot at e
  split at e <;> · have e := Fin.mk.inj e; omega
theorem slot_surj (l : Fin 4) (c : Dev nD) (q : Fin 32) : ∃ h < 32, slot l c h = q := by
  unfold slot
  have := q.isLt
  split
  · exact ⟨((place c).val + 31 * q.val) % 32, Nat.mod_lt _ (by decide), Fin.ext (by show _ % 32 = _; omega)⟩
  · exact ⟨(q.val + 31 * (place c).val) % 32, Nat.mod_lt _ (by decide), Fin.ext (by show _ % 32 = _; omega)⟩
theorem slot_ne_place (l : Fin 4) (c : Dev nD) {h : ℕ} (h0 : h ≠ 0) (hh : h < 32) : slot l c h ≠ place c := fun e =>
  h0 (slot_inj l c hh (by decide) (e.trans (slot_zero l c).symm))

/-! ## Loop bounds, devices, offsets -/

theorem trips1 : k0_t1_loop.trips = 32 := by decide
theorem trips2 : k0_t2_loop.trips = 30 := by decide
theorem dev1_eq : ∀ t, k0_dev1 t = t.val := by decide +kernel
theorem dev34_eq : ∀ d : Dev nD, k0_dev34 (BitVec.ofNat 32 d.val) = d.val := by decide +kernel
theorem dev35_eq : ∀ d : Dev nD, k0_dev35 (BitVec.ofNat 32 d.val) = d.val := by decide +kernel
theorem dev36_eq : ∀ d : Dev nD, k0_dev36 (BitVec.ofNat 32 d.val) = d.val := by decide +kernel
theorem dev37_eq : ∀ d : Dev nD, k0_dev37 (BitVec.ofNat 32 d.val) = d.val := by decide +kernel
theorem dev38_eq : ∀ d : Dev nD, k0_dev38 (BitVec.ofNat 32 d.val) = d.val := by decide +kernel
theorem dev39_eq : ∀ d : Dev nD, k0_dev39 (BitVec.ofNat 32 d.val) = d.val := by decide +kernel
theorem dev40_eq : ∀ d : Dev nD, k0_dev40 (BitVec.ofNat 32 d.val) = d.val := by decide +kernel
theorem dev41_eq : ∀ d : Dev nD, k0_dev41 (BitVec.ofNat 32 d.val) = d.val := by decide +kernel

theorem pw_toNat : ∀ q : Fin 32, (pw q).toNat = q.val := by decide
theorem off2_eq : ∀ c : Dev nD, k0_off2 c = ![128 * c.val, 0] := by decide +kernel
theorem off1_eq : ∀ q : Fin 32, k0_off1 (pw q) = ![q.val, 0, 0] := by decide +kernel
theorem off3_eq : ∀ q : Fin 32, k0_off3 (pw q) = ![q.val, 0, 0] := by decide +kernel
theorem off36_eq : ∀ q : Fin 32, k0_off36 (pw q) = ![q.val] := by decide +kernel
theorem off37_eq : ∀ q : Fin 32, k0_off37 (pw q) = ![q.val, 0, 0] := by decide +kernel
theorem off38_eq : ∀ q : Fin 32, k0_off38 (pw q) = ![q.val] := by decide +kernel
theorem off39_eq : ∀ q : Fin 32, k0_off39 (pw q) = ![q.val, 0, 0] := by decide +kernel
theorem off40_eq : ∀ q : Fin 32, k0_off40 (pw q) = ![q.val] := by decide +kernel
theorem off41_eq : ∀ q : Fin 32, k0_off41 (pw q) = ![q.val, 0, 0] := by decide +kernel
theorem off42_eq : ∀ q : Fin 32, k0_off42 (pw q) = ![q.val, 0, 0] := by decide +kernel
theorem off43_eq : ∀ q : Fin 32, k0_off43 (pw q) = ![q.val, 0, 0] := by decide +kernel
theorem off44_eq : ∀ (c : Dev nD) t, k0_off44 (pw (place c)) t = ![(slot 0 c (t.val + 1)).val] := by decide +kernel
theorem off45_eq : ∀ (c : Dev nD) t, k0_off45 (pw (place c)) t = ![(slot 0 c (t.val + 1)).val, 0, 0] := by decide +kernel
theorem off46_eq : ∀ (c : Dev nD) t, k0_off46 (pw (place c)) t = ![(slot 2 c (t.val + 1)).val] := by decide +kernel
theorem off47_eq : ∀ (c : Dev nD) t, k0_off47 (pw (place c)) t = ![(slot 2 c (t.val + 1)).val, 0, 0] := by decide +kernel
theorem off48_eq : ∀ (c : Dev nD) t, k0_off48 (pw (place c)) t = ![(slot 0 c (t.val + 1)).val, 0, 0] := by decide +kernel
theorem off49_eq : ∀ (c : Dev nD) t, k0_off49 (pw (place c)) t = ![(slot 0 c (t.val + 1)).val, 0, 0] := by decide +kernel
theorem off50_eq : ∀ (c : Dev nD) t, k0_off50 (pw (place c)) t = ![(slot 2 c (t.val + 1)).val, 0, 0] := by decide +kernel
theorem off51_eq : ∀ (c : Dev nD) t, k0_off51 (pw (place c)) t = ![(slot 2 c (t.val + 1)).val, 0, 0] := by decide +kernel
theorem off52_eq : ∀ c : Dev nD, k0_off52 (pw (place c)) = ![(slot 0 c 31).val] := by decide +kernel
theorem off53_eq : ∀ c : Dev nD, k0_off53 (pw (place c)) = ![(slot 0 c 31).val, 0, 0] := by decide +kernel
theorem off54_eq : ∀ c : Dev nD, k0_off54 (pw (place c)) = ![(slot 0 c 31).val, 0, 0] := by decide +kernel
theorem off55_eq : ∀ c : Dev nD, k0_off55 (pw (place c)) = ![(slot 0 c 31).val, 0, 0] := by decide +kernel
theorem off56_eq : ∀ c : Dev nD, k0_off56 (pw (place c)) = ![(slot 2 c 31).val] := by decide +kernel
theorem off57_eq : ∀ c : Dev nD, k0_off57 (pw (place c)) = ![(slot 2 c 31).val, 0, 0] := by decide +kernel
theorem off58_eq : ∀ c : Dev nD, k0_off58 (pw (place c)) = ![(slot 2 c 31).val, 0, 0] := by decide +kernel
theorem off59_eq : ∀ c : Dev nD, k0_off59 (pw (place c)) = ![(slot 2 c 31).val, 0, 0] := by decide +kernel

end Cert.KernelIdeal.Gather

end
-- ==== Proof.Steps.lean ====
/-
# Steps through owned memrefs

The rules for a load, a store, and a transfer, restated for memrefs owned at contents named by what is read through them
(`owns`): a slice of a memref read or written as a whole, and a transfer from one owned memref into another.
-/
module

public import Idealize.ShloMosaic.Lib.MemrefSat
public import Idealize.ShloMosaic.Lib.Rounds
public import Idealize.ShloMosaic.Lib.Tactic

@[expose] public section

noncomputable section

namespace Cert.Steps

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]
variable {Λ : Labels}

local notation "𝕄" => MT nD τ sig Ix Val Name U Lvl

/-- A memref squeezed, owned at `X`, is the memref owned at `X` carried to its shape. -/
theorem owns_squeeze (c : Thread nD τ) {sp : Space} {s s' : Shape} {e : EltTy} (m : Memref sig c.2.kind sp s e) (h : s.Squeezes s')
    (q : PosShare TreeShare) (X : s.Idx → Val e) :
    (owns c (m.squeeze s' h) q (fun i => X (Shape.reshapeEquiv h.numel_eq i)) : sProp 𝕄) = owns c m q X := by
  unfold owns
  have hset : (m.squeeze s' h).view.set = m.view.set := View.set_reshape (v := m.view) h.numel_eq
  have hread (f : m.view.ty.Contents Val) : (m.squeeze s' h).view.read Val f = fun i => m.view.read Val f (Shape.reshapeEquiv h.numel_eq i) := by
    funext i
    show (m.view.reshape s' h.numel_eq).read Val f i = _
    rfl
  have hiff (f : m.view.ty.Contents Val) :
      ((m.squeeze s' h).view.read Val f = fun i => X (Shape.reshapeEquiv h.numel_eq i)) ↔ m.view.read Val f = X := by
    rw [hread]
    constructor
    · intro hf; funext y
      have := congrFun hf ((Shape.reshapeEquiv h.numel_eq).symm y)
      simpa using this
    · intro hf; rw [hf]
  rw [show (iprop(∃ f, ⌜(m.squeeze s' h).view.read Val f = fun i => X (Shape.reshapeEquiv h.numel_eq i)⌝
      ∗ ((m.squeeze s' h).view.loc c ↦[(m.squeeze s' h).view.set]{q} f)) : sProp 𝕄)
    = iprop(∃ f : m.view.ty.Contents Val, ⌜m.view.read Val f = X⌝ ∗ (m.view.loc c ↦[(m.squeeze s' h).view.set]{q} f)) from
      congrArg (fun P : m.view.ty.Contents Val → sProp 𝕄 => iprop(∃ f, P f)) (funext fun f => by
        show iprop(⌜_⌝ ∗ _) = iprop(⌜_⌝ ∗ _)
        rw [propext (hiff f)])]
  rw [hset]

section Steps

variable {defs : Defs nD τ sig Val Λ} (𝒱 : Variants) (c : Thread nD τ) (bd : Option 𝒱.V) {Γ : PendingWaitsCtx sig Ix} (E : Set Name)
variable {α : Type} {Φ : α → sProp (MT nD τ sig Ix Val Name U Lvl)}

/-- A load of a slice owned at `X` reads `X`. -/
theorem wp_load_slice {cs : CoreSpace} {s : Shape} {e : EltTy} (m : Memref sig c.2.kind cs s e) (r : Rect s) (hr : ∀ a, r.stride a = 1)
    {hl : m.view.LoadsAt r.toLoadRect} {k : (r.shape.Idx → Val e) → Prog (TpuEff nD τ sig Val Λ c.2) α} {q : PosShare TreeShare}
    {X : r.shape.Idx → Val e} :
    (owns c (m.slice r hr) q X : sProp 𝕄)
      ⊢ iprop((owns c (m.slice r hr) q X -∗ wp frame (wpE' defs 𝒱 c bd Γ) E (k X) Φ)
        -∗ wp frame (wpE' defs 𝒱 c bd Γ) E (.op (.load m r.toLoadRect hl) k) Φ) := by
  unfold owns
  iintro ⟨%f, %hf, H⟩ Hk
  subst hf
  iapply (wp_load 𝒱 c bd E (m := m) (r := r.toLoadRect) (S := (m.slice r hr).view.set) (f := f) (by
    rw [show (m.slice r hr).view.set = r.set.map m.view.emb from View.set_slice m.view r]; exact le_of_eq rfl)) $$ H
  iintro H
  iapply Hk
  iexists f
  isplitr; · ipureintro; rfl
  iexact H

/-- A load through a rectangle of a memref owned at `X` reads `X` there. -/
theorem wp_load_part {cs : CoreSpace} {s : Shape} {e : EltTy} (m : Memref sig c.2.kind cs s e) (r : Rect s)
    {hl : m.view.LoadsAt r.toLoadRect} {k : (r.shape.Idx → Val e) → Prog (TpuEff nD τ sig Val Λ c.2) α} {q : PosShare TreeShare}
    {X : s.Idx → Val e} :
    (owns c m q X : sProp 𝕄)
      ⊢ iprop((owns c m q X -∗ wp frame (wpE' defs 𝒱 c bd Γ) E (k fun j => X (r.emb j)) Φ)
        -∗ wp frame (wpE' defs 𝒱 c bd Γ) E (.op (.load m r.toLoadRect hl) k) Φ) := by
  unfold owns
  iintro ⟨%f, %hf, H⟩ Hk
  subst hf
  iapply (wp_load 𝒱 c bd E (m := m) (r := r.toLoadRect) (S := m.view.set) (f := f) (View.setOn_subset_set _ _)) $$ H
  iintro H
  iapply Hk
  iexists f
  isplitr; · ipureintro; rfl
  iexact H

/-- A store of `w` over the whole of an owned slice leaves it owned at `w`. -/
theorem wp_store_slice {cs : CoreSpace} {s : Shape} {e : EltTy} (m : Memref sig c.2.kind cs s e) (r : Rect s) (hr : ∀ a, r.stride a = 1)
    {w : r.shape.Idx → Val e} {hx : (m.access r).Stores Finset.univ} {hm : Finset.univ = (Finset.univ : Finset r.shape.Idx) ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE' defs 𝒱 c bd Γ) E (k ⟨⟩) Φ)
        -∗ wp frame (wpE' defs 𝒱 c bd Γ) E (.op (.store m r w Finset.univ hx hm) k) Φ) := by
  unfold owns
  iintro ⟨%f, %hf, H⟩ Hk
  iapply (wp_store 𝒱 c bd E (m := m) (r := r) (Mk := Finset.univ) (S := (m.slice r hr).view.set) (f := f) subset_rfl) $$ H
  iintro H
  iapply Hk
  iexists _
  isplitr; · ipureintro; exact View.read_write_univ (v := m.access r) f w
  iexact H

variable {Dt : Type} [DecidableEq Dt] (EM : Emb (URounds (GSem nD τ sig) Dt) (MT nD τ sig Ix Val Name U Lvl))
variable (Rd : Rounds.Schedule (GSem nD τ sig) Dt (MT nD τ sig Ix Val Name U Lvl))
  [∀ g r d, BI.Storable (upEmb : UEmb _ (MT nD τ sig Ix Val Name U Lvl)) (Rd.payload g r d)]
variable {s : Shape} {e : EltTy} {sp sp' : Space}

/-- A transfer from a memref owned at `X` into one owned at any contents, paying a duty of the sender's cell with the source
    and a duty of the target's cell with the destination at `X`. -/
theorem wp_send_owns {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {r₁ r₂ : ℕ} {d₁ d₂ : Dt}
    {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : (owns (Ix := Ix) (Name := Name) (U := U) (Lvl := Lvl) c src q X) ⊢ Rd.payload (c, sS) r₁ d₁)
    (hpay₂ : (owns (Ix := Ix) (Name := Name) (U := U) (Lvl := Lvl) c' dst fullShare X) ⊢ Rd.payload (c', sem) r₂ d₂) {Es : Set Name} (hr : τ.routes c c' = true := by routes) :
    (iprop(cellInv EM Rd κ₁ (c, sS) ∗ cellInv EM Rd κ₂ (c', sem)
        ∗ owns c src q X ∗ (∃ Y : s.Idx → Val e, owns c' dst fullShare Y)
        ∗ owes c O₀ W
        ∗ dutyTok EM (c, sS) r₁ d₁ ∗ reached EM (c, sS) r₁
        ∗ dutyTok EM (c', sem) r₂ d₂ ∗ reached EM (c', sem) r₂) : sProp 𝕄)
      ⊢ iprop((((cred (tallyAt (c, sS) ι' N) ∗ owes c O W) : sProp 𝕄) -∗ wp frame (wpE' defs 𝒱 c bd Γ) Es (k ⟨⟩) Φ)
          -∗ wp frame (wpE' defs 𝒱 c bd Γ) Es (.op (.enqueueDma src (.remote c' dst sS hsc) sem hsrc hdst hsem) k) Φ) := by
  iintro ⟨HI, HI', Hs, ⟨%Y, Hd⟩, HO, Ht, Hr, Ht', Hr'⟩ Hk
  ihave Hs := (show (owns c src q X : sProp 𝕄) ⊢ iprop(∃ f, ⌜src.view.read Val f = X⌝ ∗ (src.view.loc c ↦[src.view.set]{q} f)) from .rfl) $$ Hs
  icases Hs with ⟨%fs, %hfs, Hs⟩
  ihave Hd := (show (owns c' dst fullShare Y : sProp 𝕄) ⊢ iprop(∃ f, ⌜dst.view.read Val f = Y⌝ ∗ (dst.view.loc c' ↦[dst.view.set]{fullShare} f)) from .rfl) $$ Hd
  icases Hd with ⟨%fd, -, Hd⟩
  iapply (Rounds.wp_send_pointsTo 𝒱 EM Rd c bd (q := q) (fs := fs) (fd := fd) (κ₁ := κ₁) (κ₂ := κ₂) hd₁ hd₂ ι ι' N hN hk₁ hk₂ O hO
    (.trans (by
      unfold owns; iintro H; iexists fs; isplitr; · ipureintro; exact hfs
      iexact H) hpay₁)
    (.trans (by
      unfold owns; iintro H; iexists _; isplitr
      · ipureintro; exact (View.read_write_univ (v := dst.view) fd _).trans hfs
      iexact H) hpay₂) hr) $$ [HI HI' Hs Hd HO Ht Hr Ht' Hr']
  · isplitl [HI]; · iexact HI
    isplitl [HI']; · iexact HI'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iexact Hk

end Steps

end Cert.Steps

end
-- ==== Proof.Slots.lean ====
/-
# The buffers, cut the way the kernel uses them

The gathered activations and the four weight lanes are stacks of thirty-two slots, the outgoing activations thirty-two
blocks of rows, the result four column quarters. Each cut is a family of rectangles that partitions its buffer; a buffer
owned is its pieces owned, and back.
-/
module

public import proofs.«01_k».proof.Proof.Place
public import proofs.«01_k».proof.Proof.Steps
public import Idealize.ShloMosaic.Lib.Pipeline.Launch
public import Idealize.ShloMosaic.Lib.Pipeline.Kit

@[expose] public section

noncomputable section

namespace Cert.Steps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
local notation "𝕄" => MT nD τ sig Ix Val Name U Lvl

section Sep
variable {I : Type} [DecidableEq I]

/-- One summand taken out of a separating conjunction; a part split off it; one put in. -/
theorem sep_take {s : Finset I} {i : I} (h : i ∈ s) (P : I → sProp 𝕄) : (bigSep s P : sProp 𝕄) = iprop(P i ∗ bigSep (s.erase i) P) :=
  bigSep_erase h
theorem sep_split {s t : Finset I} (h : t ⊆ s) (P : I → sProp 𝕄) : (bigSep s P : sProp 𝕄) = iprop(bigSep t P ∗ bigSep (s \ t) P) :=
  bigSep_sdiff_split h
theorem sep_put {s : Finset I} {i : I} (h : i ∉ s) (P : I → sProp 𝕄) : (bigSep (insert i s) P : sProp 𝕄) = iprop(P i ∗ bigSep s P) :=
  bigSep_insert h
theorem sep_nil (P : I → sProp 𝕄) : (bigSep ∅ P : sProp 𝕄) = iprop(emp) := bigSep_empty
theorem sep_both (s : Finset I) (P P' : I → sProp 𝕄) : (bigSep s (fun i => iprop(P i ∗ P' i)) : sProp 𝕄) = iprop(bigSep s P ∗ bigSep s P') :=
  bigSep_sep s P P'
/-- The first of a run of summands, and one more at its end. -/
theorem sep_first {a b : ℕ} (h : a < b) (P : ℕ → sProp 𝕄) : (bigSep (Finset.Ico a b) P : sProp 𝕄) = iprop(P a ∗ bigSep (Finset.Ico (a + 1) b) P) := by
  rw [← sep_put (by simp)]; congr 1; ext x; simp only [Finset.mem_insert, Finset.mem_Ico]; omega
theorem sep_last (n : ℕ) (P : ℕ → sProp 𝕄) : (bigSep (Finset.range (n + 1)) P : sProp 𝕄) = iprop(P n ∗ bigSep (Finset.range n) P) := by
  rw [← sep_put (by simp)]; congr 1; ext x; simp only [Finset.mem_insert, Finset.mem_range]; omega
/-- The four lanes (or quarters), one by one. -/
theorem sep_four (P : Fin 4 → sProp 𝕄) : (bigSep Finset.univ P : sProp 𝕄) = iprop(P 0 ∗ P 1 ∗ P 2 ∗ P 3) := by
  rw [show (Finset.univ : Finset (Fin 4)) = insert 0 (insert 1 (insert 2 (insert 3 ∅))) from by decide, sep_put (by decide), sep_put (by decide),
    sep_put (by decide), sep_put (by decide), sep_nil]
  exact congrArg (fun R : sProp 𝕄 => iprop(P 0 ∗ P 1 ∗ P 2 ∗ R)) (equiv_iff.mp sep_emp)

end Sep

/-- A memref owned at `X` is owned at something. -/
theorem owns_some (c : Thread nD τ) {sp : Space} {s : Shape} {e : EltTy} (m : Memref sig c.2.kind sp s e) (q : PosShare TreeShare) (X : s.Idx → Val e) :
    (owns c m q X : sProp 𝕄) ⊢ iprop(∃ Y, owns c m q Y) := by
  iintro H; iexists X; iexact H

/-- The pieces of a cut, each owned at something, are the memref owned at something. -/
theorem owns_gather [∀ e, Nonempty (Val e)] (c : Thread nD τ) {sp : Space} {s : Shape} {e : EltTy} (m : Memref sig c.2.kind sp s e)
    {T : Type} [Fintype T] [DecidableEq T] (r : T → Rect s) (hr : ∀ t a, (r t).stride a = 1)
    (hd : ∀ t t', t ≠ t' → Disjoint (r t).set (r t').set)
    (hcov : (Finset.univ : Finset T).biUnion (fun t => (r t).set) = Finset.univ) :
    (bigSep Finset.univ (fun t => iprop(∃ Y, owns c (m.slice (r t) (hr t)) fullShare Y)) : sProp 𝕄)
      ⊢ iprop(∃ X, owns c m fullShare X) := by
  refine (BI.bigSep_exists_pi Finset.univ (fun t Y => owns c (m.slice (r t) (hr t)) fullShare Y)).trans ?_
  iintro ⟨%Xs, H⟩
  iexists Rect.glue r hcov Xs
  refine .trans (Q := bigSep Finset.univ fun t => owns c (m.slice (r t) (hr t)) fullShare fun j => Rect.glue r hcov Xs ((r t).emb j)) ?_
    (owns_of_rects c m fullShare r hr hd hcov (Rect.glue r hcov Xs))
  refine BI.bigSep_mono fun t _ => ?_
  rw [show (fun j => Rect.glue r hcov Xs ((r t).emb j)) = Xs t from funext fun y => Rect.glue_emb r hcov hd Xs t y]
  exact .refl _

/-- and the cut of a memref owned at something. -/
theorem owns_cut [∀ e, Nonempty (Val e)] (c : Thread nD τ) {sp : Space} {s : Shape} {e : EltTy} (m : Memref sig c.2.kind sp s e)
    {T : Type} [Fintype T] [DecidableEq T] (r : T → Rect s) (hr : ∀ t a, (r t).stride a = 1)
    (hd : ∀ t t', t ≠ t' → Disjoint (r t).set (r t').set)
    (hcov : (Finset.univ : Finset T).biUnion (fun t => (r t).set) = Finset.univ) :
    (iprop(∃ X, owns c m fullShare X) : sProp 𝕄)
      ⊢ bigSep Finset.univ (fun t => iprop(∃ Y, owns c (m.slice (r t) (hr t)) fullShare Y)) := by
  iintro ⟨%X, H⟩
  ihave H := (owns_rects c m fullShare r hr hd hcov X) $$ H
  iapply (show (bigSep Finset.univ (fun t => owns c (m.slice (r t) (hr t)) fullShare fun j => X ((r t).emb j)) : sProp 𝕄)
      ⊢ bigSep Finset.univ (fun t => iprop(∃ Y, owns c (m.slice (r t) (hr t)) fullShare Y)) from BI.bigSep_mono fun t _ => by
    exact owns_some c (m.slice (r t) (hr t)) fullShare _)
  iexact H

end Cert.Steps

namespace Cert.KernelIdeal.Gather

open Cert.KernelIdeal Cert.KernelIdeal.Gen
open Idealize.ShloMosaic Idealize.ShloMosaic.TcCoe

abbrev xinM : Memref sig .tc .vmem S4096x128 .fp8e4m3 := Memref.whole cc0_stg0_0
abbrev winM : Memref sig .tc .vmem S128x8192 .fp8e4m3 := Memref.whole cc0_stg1_0
abbrev outM : Memref sig .tc .vmem S128x8192 .f32 := Memref.whole cc0_stg4_0
abbrev x8M : Memref sig .tc .vmem S4096x128 .fp8e4m3 := Memref.whole cc0_scratch0
abbrev xbM : Memref sig .tc .vmem S32x128x128 .fp8e4m3 := Memref.whole cc0_scratch1
/-- The four weight lanes. -/
@[reducible] def lnM : Fin 4 → Memref sig .tc .vmem S32x128x2048 .fp8e4m3
  | 0 => Memref.whole cc0_scratch2
  | 1 => Memref.whole cc0_scratch3
  | 2 => Memref.whole cc0_scratch4
  | 3 => Memref.whole cc0_scratch5

theorem inbR (j : Fin 32) : ∀ a, (![128 * j.val, 0] : Fin 2 → ℕ) a + S128x128.size a ≤ S4096x128.size a := by
  revert j; decide
theorem inbX (q : Fin 32) : ∀ a, (![q.val, 0, 0] : Fin 3 → ℕ) a + S1x128x128.size a ≤ S32x128x128.size a := by
  revert q; decide
theorem inbW (q : Fin 32) : ∀ a, (![q.val, 0, 0] : Fin 3 → ℕ) a + S1x128x2048.size a ≤ S32x128x2048.size a := by
  revert q; decide
theorem inbC (k : Fin 4) : ∀ a, (![0, 2048 * k.val] : Fin 2 → ℕ) a + S128x2048.size a ≤ S128x8192.size a := by
  revert k; decide

/-- Row block `j` of the outgoing activations; slot `q` of the gathered ones; slot `q` of a lane; quarter `k` of the columns. -/
abbrev rowR (j : Fin 32) : Rect S4096x128 := Rect.unit (s := S4096x128) ![128 * j.val, 0] S128x128.size (inbR j)
abbrev xR (q : Fin 32) : Rect S32x128x128 := Rect.unit (s := S32x128x128) ![q.val, 0, 0] S1x128x128.size (inbX q)
abbrev wR (q : Fin 32) : Rect S32x128x2048 := Rect.unit (s := S32x128x2048) ![q.val, 0, 0] S1x128x2048.size (inbW q)
abbrev cR (k : Fin 4) : Rect S128x8192 := Rect.unit (s := S128x8192) ![0, 2048 * k.val] S128x2048.size (inbC k)

theorem apart_or {a b w : ℕ} (h : a ≠ b) : w * a + w ≤ w * b ∨ w * b + w ≤ w * a := by
  rcases Nat.lt_or_gt_of_ne h with h | h
  · exact Or.inl (Nat.mul_succ w a ▸ Nat.mul_le_mul_left w h)
  · exact Or.inr (Nat.mul_succ w b ▸ Nat.mul_le_mul_left w h)

theorem rowR_disjoint (j j' : Fin 32) (h : j ≠ j') : Disjoint (rowR j).set (rowR j').set :=
  Rect.unit_disjoint (s := S4096x128) (0 : Fin 2) (apart_or (w := 128) fun e => h (Fin.ext e))
theorem xR_disjoint (q q' : Fin 32) (h : q ≠ q') : Disjoint (xR q).set (xR q').set :=
  Rect.unit_disjoint (s := S32x128x128) (0 : Fin 3) (by
    have := apart_or (w := 1) fun e : q.val = q'.val => h (Fin.ext e)
    simpa using this)
theorem wR_disjoint (q q' : Fin 32) (h : q ≠ q') : Disjoint (wR q).set (wR q').set :=
  Rect.unit_disjoint (s := S32x128x2048) (0 : Fin 3) (by
    have := apart_or (w := 1) fun e : q.val = q'.val => h (Fin.ext e)
    simpa using this)
theorem cR_disjoint (k k' : Fin 4) (h : k ≠ k') : Disjoint (cR k).set (cR k').set :=
  Rect.unit_disjoint (s := S128x8192) (1 : Fin 2) (apart_or (w := 2048) fun e => h (Fin.ext e))

theorem rowR_cover : (Finset.univ : Finset (Fin 32)).biUnion (fun j => (rowR j).set) = Finset.univ := by
  refine Finset.eq_univ_iff_forall.mpr fun i => Finset.mem_biUnion.mpr ?_
  have h0 : (i (0 : Fin 2)).val < 4096 := (i (0 : Fin 2)).isLt
  have h1 : (i (1 : Fin 2)).val < 128 := (i (1 : Fin 2)).isLt
  refine ⟨⟨(i (0 : Fin 2)).val / 128, by omega⟩, Finset.mem_univ _, Rect.mem_set_unit.mpr fun a => ?_⟩
  match a with
  | ⟨0, _⟩ => show 128 * ((i (0 : Fin 2)).val / 128) ≤ (i (0 : Fin 2)).val ∧ (i (0 : Fin 2)).val < 128 * ((i (0 : Fin 2)).val / 128) + 128; omega
  | ⟨1, _⟩ => show 0 ≤ (i (1 : Fin 2)).val ∧ (i (1 : Fin 2)).val < 0 + 128; omega
theorem xR_cover : (Finset.univ : Finset (Fin 32)).biUnion (fun j => (xR j).set) = Finset.univ := by
  refine Finset.eq_univ_iff_forall.mpr fun i => Finset.mem_biUnion.mpr ?_
  have h1 : (i (1 : Fin 3)).val < 128 := (i (1 : Fin 3)).isLt
  have h2 : (i (2 : Fin 3)).val < 128 := (i (2 : Fin 3)).isLt
  refine ⟨(i (0 : Fin 3) : Fin 32), Finset.mem_univ _, Rect.mem_set_unit.mpr fun a => ?_⟩
  match a with
  | ⟨0, _⟩ => show (i (0 : Fin 3)).val ≤ (i (0 : Fin 3)).val ∧ (i (0 : Fin 3)).val < (i (0 : Fin 3)).val + 1; omega
  | ⟨1, _⟩ => show 0 ≤ (i (1 : Fin 3)).val ∧ (i (1 : Fin 3)).val < 0 + 128; omega
  | ⟨2, _⟩ => show 0 ≤ (i (2 : Fin 3)).val ∧ (i (2 : Fin 3)).val < 0 + 128; omega
theorem wR_cover : (Finset.univ : Finset (Fin 32)).biUnion (fun j => (wR j).set) = Finset.univ := by
  refine Finset.eq_univ_iff_forall.mpr fun i => Finset.mem_biUnion.mpr ?_
  have h1 : (i (1 : Fin 3)).val < 128 := (i (1 : Fin 3)).isLt
  have h2 : (i (2 : Fin 3)).val < 2048 := (i (2 : Fin 3)).isLt
  refine ⟨(i (0 : Fin 3) : Fin 32), Finset.mem_univ _, Rect.mem_set_unit.mpr fun a => ?_⟩
  match a with
  | ⟨0, _⟩ => show (i (0 : Fin 3)).val ≤ (i (0 : Fin 3)).val ∧ (i (0 : Fin 3)).val < (i (0 : Fin 3)).val + 1; omega
  | ⟨1, _⟩ => show 0 ≤ (i (1 : Fin 3)).val ∧ (i (1 : Fin 3)).val < 0 + 128; omega
  | ⟨2, _⟩ => show 0 ≤ (i (2 : Fin 3)).val ∧ (i (2 : Fin 3)).val < 0 + 2048; omega
theorem cR_cover : (Finset.univ : Finset (Fin 4)).biUnion (fun j => (cR j).set) = Finset.univ := by
  refine Finset.eq_univ_iff_forall.mpr fun i => Finset.mem_biUnion.mpr ?_
  have h0 : (i (0 : Fin 2)).val < 128 := (i (0 : Fin 2)).isLt
  have h1 : (i (1 : Fin 2)).val < 8192 := (i (1 : Fin 2)).isLt
  refine ⟨⟨(i (1 : Fin 2)).val / 2048, by omega⟩, Finset.mem_univ _, Rect.mem_set_unit.mpr fun a => ?_⟩
  match a with
  | ⟨0, _⟩ => show 0 ≤ (i (0 : Fin 2)).val ∧ (i (0 : Fin 2)).val < 0 + 128; omega
  | ⟨1, _⟩ => show 2048 * ((i (1 : Fin 2)).val / 2048) ≤ (i (1 : Fin 2)).val ∧ (i (1 : Fin 2)).val < 2048 * ((i (1 : Fin 2)).val / 2048) + 2048; omega

/-- The pieces as memrefs: as the kernel loads and stores them, and squeezed, as its transfers name them. -/
abbrev rowM (j : Fin 32) : Memref sig .tc .vmem S128x128 .fp8e4m3 := x8M.slice (rowR j) (fun _ => rfl)
abbrev xM (q : Fin 32) : Memref sig .tc .vmem S1x128x128 .fp8e4m3 := xbM.slice (xR q) (fun _ => rfl)
abbrev xqM (q : Fin 32) : Memref sig .tc .vmem S128x128 .fp8e4m3 := (xM q).squeeze S128x128 squeezes_S1x128x128_S128x128
abbrev wM (l : Fin 4) (q : Fin 32) : Memref sig .tc .vmem S1x128x2048 .fp8e4m3 := (lnM l).slice (wR q) (fun _ => rfl)
abbrev wqM (l : Fin 4) (q : Fin 32) : Memref sig .tc .vmem S128x2048 .fp8e4m3 := (wM l q).squeeze S128x2048 squeezes_S1x128x2048_S128x2048
abbrev outQ (k : Fin 4) : Memref sig .tc .vmem S128x2048 .f32 := outM.slice (cR k) (fun _ => rfl)

/-- The credit of one activation block and of one weight block. -/
def NX : ℕ := (xqM 0).view.dmaCredit
def NW : ℕ := (wqM 0 0).view.dmaCredit
theorem NX_eq (q : Fin 32) : (xqM q).view.dmaCredit = NX := rfl
theorem NW_eq (l : Fin 4) (q : Fin 32) : (wqM l q).view.dmaCredit = NW := by
  match l with
  | 0 => rfl
  | 1 => rfl
  | 2 => rfl
  | 3 => rfl
theorem NX_row (j : Fin 32) : (rowM j).view.dmaCredit = NX := rfl
theorem NX_pos : 0 < NX := View.dmaCredit_pos _ (by decide)
theorem NW_pos : 0 < NW := View.dmaCredit_pos _ (by decide)

end Cert.KernelIdeal.Gather

end
-- ==== Proof.Protocol.lean ====
/-
# The protocol of the gather

Every device first signals every device, itself included: the signal says that the signaller has entered the kernel, and
hands over the places the receiver of the signal will write on it. Activation blocks then go straight to their
targets, one duty per pair of devices. Weight blocks travel the ring, lanes 0 and 1 one way and lanes 2 and 3 the other:
a device sends a slot on, its send cell coming back round by round, and receives each slot on a cell of its own.

A device owes what it has still to send; each receive cell stands above the ones it must wait for before it can be paid.
-/
module

public import proofs.«01_k».proof.Proof.Slots

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The cells -/

/-- What a transfer semaphore is for: a staging cell, the activation send and receive cells, a lane's send cell, a lane's
    receive cell of one slot. -/
inductive Kd where
  | st
  | xs
  | xr
  | ls (l : Fin 4)
  | lr (l : Fin 4) (q : Fin 32)

def kdN (n : ℕ) : Kd :=
  if n < 5 then .st else if n = 5 then .xs else if n = 6 then .xr
  else if (n - 7) % 33 = 0 then .ls (Fin.ofNat 4 ((n - 7) / 33)) else .lr (Fin.ofNat 4 ((n - 7) / 33)) (Fin.ofNat 32 ((n - 7) % 33 - 1))

theorem lsN_lt (l : Fin 4) : 7 + 33 * l.val < 139 := by omega
theorem lrN_lt (l : Fin 4) (q : Fin 32) : 8 + 33 * l.val + q.val < 139 := by omega
abbrev xsS : DmaSem sig := (5 : Fin 139)
abbrev xrS : DmaSem sig := (6 : Fin 139)
abbrev lsS (l : Fin 4) : DmaSem sig := (⟨7 + 33 * l.val, lsN_lt l⟩ : Fin 139)
abbrev lrS (l : Fin 4) (q : Fin 32) : DmaSem sig := (⟨8 + 33 * l.val + q.val, lrN_lt l q⟩ : Fin 139)
abbrev barS : Sem sig := (SemArray.scalar (sig.barrier 0 rfl) : Sems sig S_).sem

theorem kd_ls : ∀ l : Fin 4, kdN (7 + 33 * l.val) = .ls l := by
  intro l; unfold kdN
  rw [if_neg (by omega), if_neg (by omega), if_neg (by omega), if_pos (by omega)]
  exact congrArg Kd.ls (Fin.ext (by show (7 + 33 * l.val - 7) / 33 % 4 = l.val; omega))
theorem kd_lr (l : Fin 4) (q : Fin 32) : kdN (8 + 33 * l.val + q.val) = .lr l q := by
  unfold kdN
  rw [if_neg (by omega), if_neg (by omega), if_neg (by omega), if_neg (by omega)]
  exact congrArg₂ Kd.lr (Fin.ext (by show (8 + 33 * l.val + q.val - 7) / 33 % 4 = l.val; omega))
    (Fin.ext (by show ((8 + 33 * l.val + q.val - 7) % 33 - 1) % 32 = q.val; omega))

abbrev barC (c : Dev nD) : GSem nD τ sig := ((c : Thread nD τ), .reg barS)
abbrev xsC (c : Dev nD) : GSem nD τ sig := ((c : Thread nD τ), .dma xsS)
abbrev xrC (c : Dev nD) : GSem nD τ sig := ((c : Thread nD τ), .dma xrS)
abbrev lsC (l : Fin 4) (c : Dev nD) : GSem nD τ sig := ((c : Thread nD τ), .dma (lsS l))
abbrev lrC (l : Fin 4) (c : Dev nD) (q : Fin 32) : GSem nD τ sig := ((c : Thread nD τ), .dma (lrS l q))

/-! ## The resource algebra -/

abbrev UB : Type := URounds (GSem nD τ sig) (Dev nD)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-! ## Contents -/

/-- What the devices put into the gather: `xo c j` the rows device `c` sends to device `j`, `wb l d` the block of lane `l`
    device `d` puts on the ring. -/
structure Cts (F : FTy → Type) where
  xo : Dev nD → Dev nD → (S128x128.Idx → Elt F .fp8e4m3)
  wb : Fin 4 → Dev nD → (S1x128x2048.Idx → Elt F .fp8e4m3)

variable (V : Cts F)

/-- Slot `q` of device `c`'s gathered activations. -/
def Cts.xb (c : Dev nD) (q : Fin 32) : S1x128x128.Idx → Elt F .fp8e4m3 := k0_pay24 (V.xo (dev q) c)

/-- A block laid into a slot, read through the squeezed slot, is the block. -/
theorem xb_squeezed (v : S128x128.Idx → Elt F .fp8e4m3) :
    (fun i => (k0_pay24 v : S1x128x128.Idx → Elt F .fp8e4m3) (Shape.reshapeEquiv squeezes_S1x128x128_S128x128.numel_eq i)) = v := by
  funext i
  show v _ = v i
  congr 1
  simp [Shape.reshapeEquiv]

/-! ## The schedule -/

/-- The places of lane `l` device `c` writes on the next device of the lane. -/
def laneOut (c : Dev nD) (l : Fin 4) : sProp 𝕄 :=
  bigSep (Finset.range 31) fun h => iprop(∃ Y, owns (tgt l c : Thread nD τ) (wM l (slot l c h)) fullShare Y)
/-- What device `d`'s signal hands device `c`. -/
def barPay (c d : Dev nD) : sProp 𝕄 :=
  iprop((if d = c then iprop(emp) else iprop(∃ Y, owns (d : Thread nD τ) (xM (place c)) fullShare Y))
    ∗ bigSep Finset.univ fun l : Fin 4 => if d = tgt l c then laneOut c l else iprop(emp))

def dutiesK (c : Dev nD) (r : ℕ) : Kd → Finset (Dev nD)
  | .st => ∅
  | .xs => if r = 0 then Finset.univ.erase c else ∅
  | .xr => if r = 0 then Finset.univ.erase c else ∅
  | .ls _ => if r < 31 then {0} else ∅
  | .lr _ q => if r = 0 ∧ q ≠ place c then {0} else ∅
def amountK : Kd → ℕ
  | .st => NX
  | .xs => NX
  | .xr => NX
  | .ls _ => NW
  | .lr _ _ => NW
def payK (c : Dev nD) (r : ℕ) (d : Dev nD) : Kd → sProp 𝕄
  | .st => iprop(emp)
  | .xs => owns (c : Thread nD τ) (rowM d) fullShare (V.xo c d)
  | .xr => owns (c : Thread nD τ) (xM (place d)) fullShare (V.xb c (place d))
  | .ls l => owns (c : Thread nD τ) (wM l (slot l c r)) fullShare.right (V.wb l (dev (slot l c r)))
  | .lr l q => owns (c : Thread nD τ) (wM l q) fullShare (V.wb l (dev q))

def Rd : Rounds.Schedule (GSem nD τ sig) (Dev nD) 𝕄 where
  duties g r := if g.1.2 = .tc then (match g.2 with
    | .reg _ => if r = 0 then Finset.univ else ∅
    | .dma n => dutiesK g.1.1 r (kdN n.val)) else ∅
  unitless _ := False
  amount g _ _ := match g.2 with
    | .reg _ => 1
    | .dma n => amountK (kdN n.val)
  payload g r d := match g.2 with
    | .reg _ => barPay g.1.1 d
    | .dma n => payK V g.1.1 r d (kdN n.val)
  amount_pos g _ _ _ := by
    obtain ⟨t, sm⟩ := g
    cases sm with
    | reg _ => exact Nat.one_pos
    | dma n =>
      show 0 < amountK (kdN n.val)
      cases kdN n.val <;> first | exact NX_pos | exact NW_pos

instance laneOut_storable (c : Dev nD) (l : Fin 4) : BI.Storable (upEmb : UEmb _ 𝕄) (laneOut (F := F) c l) := by unfold laneOut; infer_instance
instance barPay_storable (c d : Dev nD) : BI.Storable (upEmb : UEmb _ 𝕄) (barPay (F := F) c d) := by
  unfold barPay
  have h1 : BI.Storable (upEmb : UEmb _ 𝕄) (if d = c then (iprop(emp) : sProp 𝕄) else iprop(∃ Y, owns (d : Thread nD τ) (xM (place c)) fullShare Y)) := by
    split <;> infer_instance
  have h2 : ∀ l : Fin 4, BI.Storable (upEmb : UEmb _ 𝕄) (if d = tgt l c then laneOut (F := F) c l else iprop(emp)) := fun l => by
    split <;> infer_instance
  infer_instance
instance payK_storable (c : Dev nD) (r : ℕ) (d : Dev nD) (k : Kd) : BI.Storable (upEmb : UEmb _ 𝕄) (payK V c r d k) := by
  cases k <;> (unfold payK; infer_instance)
instance Rd_storable (g : GSem nD τ sig) (r : ℕ) (d : Dev nD) : BI.Storable (upEmb : UEmb _ 𝕄) ((Rd V).payload g r d) := by
  obtain ⟨t, sm⟩ := g
  cases sm with
  | reg _ => show BI.Storable upEmb (barPay _ _); infer_instance
  | dma n => show BI.Storable upEmb (payK V _ _ _ _); infer_instance

theorem duties_bar (c : Dev nD) : (Rd V).duties (barC c) 0 = Finset.univ := rfl
theorem duties_xs (c : Dev nD) : (Rd V).duties (xsC c) 0 = Finset.univ.erase c := rfl
theorem duties_xr (c : Dev nD) : (Rd V).duties (xrC c) 0 = Finset.univ.erase c := rfl
theorem duties_ls (l : Fin 4) (c : Dev nD) (r : ℕ) : (Rd V).duties (lsC l c) r = if r < 31 then {0} else ∅ := by
  show dutiesK c r (kdN (7 + 33 * l.val)) = _; rw [kd_ls]; rfl
theorem duties_lr (l : Fin 4) (c : Dev nD) (q : Fin 32) (r : ℕ) : (Rd V).duties (lrC l c q) r = if r = 0 ∧ q ≠ place c then {0} else ∅ := by
  show dutiesK c r (kdN (8 + 33 * l.val + q.val)) = _; rw [kd_lr]; rfl
theorem amount_ls (l : Fin 4) (c : Dev nD) (r : ℕ) (d : Dev nD) : (Rd V).amount (lsC l c) r d = NW := by
  show amountK (kdN (7 + 33 * l.val)) = _; rw [kd_ls]; rfl
theorem amount_lr (l : Fin 4) (c : Dev nD) (q : Fin 32) (r : ℕ) (d : Dev nD) : (Rd V).amount (lrC l c q) r d = NW := by
  show amountK (kdN (8 + 33 * l.val + q.val)) = _; rw [kd_lr]; rfl
theorem payload_ls (l : Fin 4) (c : Dev nD) (r : ℕ) (d : Dev nD) :
    (Rd V).payload (lsC l c) r d = owns (c : Thread nD τ) (wM l (slot l c r)) fullShare.right (V.wb l (dev (slot l c r))) := by
  show payK V c r d (kdN (7 + 33 * l.val)) = _; rw [kd_ls]; rfl
theorem payload_lr (l : Fin 4) (c : Dev nD) (q : Fin 32) (r : ℕ) (d : Dev nD) :
    (Rd V).payload (lrC l c q) r d = owns (c : Thread nD τ) (wM l q) fullShare (V.wb l (dev q)) := by
  show payK V c r d (kdN (8 + 33 * l.val + q.val)) = _; rw [kd_lr]; rfl

theorem payload_bar (c d : Dev nD) : (Rd V).payload (barC c) 0 d = barPay c d := rfl
theorem payload_xs (c d : Dev nD) : (Rd V).payload (xsC c) 0 d = owns (c : Thread nD τ) (rowM d) fullShare (V.xo c d) := rfl
theorem payload_xr (c d : Dev nD) : (Rd V).payload (xrC c) 0 d = owns (c : Thread nD τ) (xM (place d)) fullShare (V.xb c (place d)) := rfl

theorem expect_bar (c : Dev nD) : (Rd V).expect (barC c) 0 = 32 := by
  unfold Schedule.expect Schedule.amountOf
  rw [duties_bar, Finset.sum_congr rfl (g := fun _ => 1) fun d _ => (rfl : (Rd V).amount (barC c) 0 d = 1), Finset.sum_const, Finset.card_univ, Fintype.card_fin, smul_eq_mul, Nat.mul_one]
theorem expect_ls (l : Fin 4) (c : Dev nD) {r : ℕ} (h : r < 31) : (Rd V).expect (lsC l c) r = NW := by
  unfold Schedule.expect Schedule.amountOf; rw [duties_ls, if_pos h, Finset.sum_singleton, amount_ls]
theorem expect_lr (l : Fin 4) (c : Dev nD) {q : Fin 32} (h : q ≠ place c) : (Rd V).expect (lrC l c q) 0 = NW := by
  unfold Schedule.expect Schedule.amountOf; rw [duties_lr, if_pos ⟨rfl, h⟩, Finset.sum_singleton, amount_lr]

/-! ## Levels and debts -/

/-- After how many hops a slot reaches a device on a lane. -/
def hops (l : Fin 4) (c : Dev nD) (q : Fin 32) : ℕ :=
  if l.val < 2 then ((place c).val + 32 - q.val) % 32 else (q.val + 32 - (place c).val) % 32
theorem hops_slot (l : Fin 4) (c : Dev nD) {h : ℕ} (hh : h < 32) : hops l c (slot l c h) = h := by
  unfold hops slot
  have := (place c).isLt
  split <;> simp only [Fin.val_mk] <;> omega

def L (g : GSem nD τ sig) : Finset Unit := if g.1.2 = .tc then {()} else ∅
def lvK (c : Dev nD) : Kd → ℕ
  | .st => 0
  | .xs => 0
  | .xr => 2
  | .ls _ => 0
  | .lr l q => 3 + hops l c q
def lv (g : GSem nD τ sig) (_ : Unit) : ℕ := match g.2 with
  | .reg _ => 1
  | .dma n => lvK g.1.1 (kdN n.val)
theorem L_of_ne (g : GSem nD τ sig) (h : g.1.2 ≠ .tc) : L g = ∅ := if_neg h
theorem L_tc (c : Dev nD) (sm : SemLoc sig) : L ((c : Thread nD τ), sm) = {()} := if_pos rfl
theorem lv_ls (l : Fin 4) (c : Dev nD) : lv (lsC l c) () = 0 := by show lvK c (kdN (7 + 33 * l.val)) = _; rw [kd_ls]; rfl
theorem lv_lr (l : Fin 4) (c : Dev nD) (q : Fin 32) : lv (lrC l c q) () = 3 + hops l c q := by
  show lvK c (kdN (8 + 33 * l.val + q.val)) = _; rw [kd_lr]; rfl

/-- Everything owed stands above level `n`. -/
def Above (n : ℕ) (O : CellTallies nD τ sig Unit) : Prop := ∀ g u, 0 < O g u → g.1.2 = .tc ∧ n < lv g u
theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} {c : Dev nD} {sm : SemLoc sig} (k : ℕ) (h : n < lv ((c : Thread nD τ), sm) ()) :
    Above n (tallyAt ((c : Thread nD τ), sm) () k) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)
theorem above_sum {n : ℕ} {ι : Type} (S : Finset ι) {f : ι → CellTallies nD τ sig Unit} (h : ∀ i ∈ S, Above n (f i)) : Above n (∑ i ∈ S, f i) := by
  classical
  induction S using Finset.induction_on with
  | empty => rw [Finset.sum_empty]; exact above_zero n
  | insert i S hi ih =>
    rw [Finset.sum_insert hi]
    exact above_add (h i (Finset.mem_insert_self i S)) (ih fun j hj => h j (Finset.mem_insert_of_mem hj))
theorem above_mono {n n' : ℕ} {O : CellTallies nD τ sig Unit} (h : Above n O) (hn : n' ≤ n) : Above n' O := fun g u hg =>
  ⟨(h g u hg).1, lt_of_le_of_lt hn (h g u hg).2⟩

/-- What is owed above a cell's level does not stand in the way of a wait there. -/
theorem mayWait_above {c : Dev nD} {sm : SemLoc sig} {O : CellTallies nD τ sig Unit} (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [L, if_pos (h g u hg).1]; exact Finset.mem_singleton_self _)
    (fun p hp => by rw [Finset.mem_singleton.mp hp])
    (fun g u hg => (h g u hg).2)

/-- Owed: signals to the devices of `S`; activation blocks to them; on each lane the hops from `H l` on. -/
def OB (S : Finset (Dev nD)) : CellTallies nD τ sig Unit := ∑ d ∈ S, tallyAt (barC d) () 1
def OX (S : Finset (Dev nD)) : CellTallies nD τ sig Unit := ∑ d ∈ S, tallyAt (xrC d) () NX
def OL (c : Dev nD) (H : Fin 4 → ℕ) : CellTallies nD τ sig Unit :=
  ∑ l : Fin 4, ∑ h ∈ Finset.Ico (H l) 31, tallyAt (lrC l (tgt l c) (slot l c h)) () NW

theorem OB_erase {S : Finset (Dev nD)} {d : Dev nD} (h : d ∈ S) : OB S = OB (S.erase d) + tallyAt (barC d) () 1 := by
  unfold OB; rw [Finset.sum_erase_add _ _ h]
theorem OX_erase {S : Finset (Dev nD)} {d : Dev nD} (h : d ∈ S) : OX S = OX (S.erase d) + tallyAt (xrC d) () NX := by
  unfold OX; rw [Finset.sum_erase_add _ _ h]
theorem OX_empty : OX ∅ = 0 := Finset.sum_empty
theorem OB_empty : OB ∅ = 0 := Finset.sum_empty
theorem OL_succ (c : Dev nD) (H : Fin 4 → ℕ) (l : Fin 4) {h : ℕ} (e : H l = h) (hh : h < 31) :
    OL c H = OL c (Function.update H l (h + 1)) + tallyAt (lrC l (tgt l c) (slot l c h)) () NW := by
  have hI : Finset.Ico h 31 = insert h (Finset.Ico (h + 1) 31) := by
    ext x; simp only [Finset.mem_insert, Finset.mem_Ico]; omega
  unfold OL
  rw [← Finset.add_sum_erase _ _ (Finset.mem_univ l), ← Finset.add_sum_erase (a := l) _ (fun l' => ∑ h ∈ Finset.Ico (Function.update H l (h + 1) l') 31, _) (Finset.mem_univ l),
    Function.update_self, e, hI, Finset.sum_insert (by simp),
    Finset.sum_congr (s₁ := Finset.univ.erase l) rfl fun l' hl' => by rw [← show Function.update H l (h + 1) l' = H l' from Function.update_of_ne (Finset.ne_of_mem_erase hl') _ _]]
  rw [add_assoc, add_comm]
theorem OL_done (c : Dev nD) {H : Fin 4 → ℕ} (hH : ∀ l, 31 ≤ H l) : OL c H = 0 := by
  unfold OL
  exact Finset.sum_eq_zero fun l _ => by rw [Finset.Ico_eq_empty (by have := hH l; omega), Finset.sum_empty]
theorem above_OX (S : Finset (Dev nD)) : Above 1 (OX S) := above_sum S fun d _ => above_tally NX (by show (1 : ℕ) < 2; decide)
/-- Hops still owed lead to cells above the ones already received on. -/
theorem above_OL (c : Dev nD) {H : Fin 4 → ℕ} {n : ℕ} (hH : ∀ l, n ≤ H l) : Above (3 + n) (OL c H) :=
  above_sum _ fun l _ => above_sum _ fun h hh => above_tally NW (by
    have h1 := Finset.mem_Ico.mp hh
    have h2 := hH l
    rw [lv_lr, ← slot_tgt, hops_slot _ _ (by omega)]; omega)
theorem above_OB (S : Finset (Dev nD)) : Above 0 (OB S) := above_sum S fun d _ => above_tally 1 (by show (0 : ℕ) < 1; decide)

/-- What a device owes at launch. -/
def O₀ (c : Dev nD) : CellTallies nD τ sig Unit := OB Finset.univ + (OX (Finset.univ.erase c) + OL c fun _ => 0)

/-! ## Invariants and marks every device shares -/

/-- The cells of the gather on a device: the barrier, then the transfer semaphores from the activation send cell on. -/
def csem (i : Fin 135) : SemLoc sig := if i.val = 0 then .reg barS else .dma (⟨4 + i.val, by omega⟩ : Fin 139)
abbrev kcell (ck : Dev nD × Fin 135) : GSem nD τ sig := ((ck.1 : Thread nD τ), csem ck.2)

def records (K : Dev nD × Fin 135 → ℕ) : sProp 𝕄 :=
  bigSep Finset.univ fun ck => iprop(cellInv ER (Rd V) (K ck) (kcell ck) ∗ reached ER (kcell ck) 0)
instance records_persistent (K : Dev nD × Fin 135 → ℕ) : BI.Persistent (records V K) := by unfold records; infer_instance

theorem record_at (K : Dev nD × Fin 135 → ℕ) (c : Dev nD) (i : Fin 135) {sm : SemLoc sig} (h : csem i = sm) :
    records V K ⊢ (iprop(∃ κ, cellInv ER (Rd V) κ ((c : Thread nD τ), sm) ∗ reached ER ((c : Thread nD τ), sm) 0) : sProp 𝕄) := by
  subst h
  iintro H
  ihave H := (show records V K ⊢ (iprop(cellInv ER (Rd V) (K (c, i)) (kcell (c, i)) ∗ reached ER (kcell (c, i)) 0) : sProp 𝕄) from
    bigSep_elim (Finset.mem_univ (c, i))) $$ H
  iexists (K (c, i)); iexact H
theorem record_bar (K) (c : Dev nD) : records V K ⊢ (iprop(∃ κ, cellInv ER (Rd V) κ (barC c) ∗ reached ER (barC c) 0) : sProp 𝕄) :=
  record_at V K c 0 rfl
theorem record_xs (K) (c : Dev nD) : records V K ⊢ (iprop(∃ κ, cellInv ER (Rd V) κ (xsC c) ∗ reached ER (xsC c) 0) : sProp 𝕄) :=
  record_at V K c 1 rfl
theorem record_xr (K) (c : Dev nD) : records V K ⊢ (iprop(∃ κ, cellInv ER (Rd V) κ (xrC c) ∗ reached ER (xrC c) 0) : sProp 𝕄) :=
  record_at V K c 2 rfl
theorem record_ls (K) (l : Fin 4) (c : Dev nD) : records V K ⊢ (iprop(∃ κ, cellInv ER (Rd V) κ (lsC l c) ∗ reached ER (lsC l c) 0) : sProp 𝕄) :=
  record_at V K c ⟨3 + 33 * l.val, by omega⟩ (by
    unfold csem; rw [if_neg (by simp only [Fin.val_mk]; omega)]; exact congrArg SemLoc.dma (Fin.ext (by simp only [Fin.val_mk]; omega)))
theorem record_lr (K) (l : Fin 4) (c : Dev nD) (q : Fin 32) :
    records V K ⊢ (iprop(∃ κ, cellInv ER (Rd V) κ (lrC l c q) ∗ reached ER (lrC l c q) 0) : sProp 𝕄) :=
  record_at V K c ⟨4 + 33 * l.val + q.val, by omega⟩ (by
    unfold csem; rw [if_neg (by simp only [Fin.val_mk]; omega)]; exact congrArg SemLoc.dma (Fin.ext (by simp only [Fin.val_mk]; omega)))

/-- A device owing `O`, whatever it has waited for. -/
def owing (c : Dev nD) (O : CellTallies nD τ sig Unit) : sProp 𝕄 := iprop(∃ W : Waits sig Unit, owes (c : Thread nD τ) O W)

end Cert.KernelIdeal.Gather

end
-- ==== Proof.Waits.lean ====
/-
# Signals and waits

One step of the kernel for each way it uses a semaphore: the entry signals, a wait that ends a cell's only round and
closes the cell, and the waits for the activation blocks, which come back one at a time in any order.
-/
module

public import proofs.«01_k».proof.Proof.Protocol

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
abbrev 𝒱₀ : Variants := Variants.none

/-- The weakest precondition of a piece of the kernel on device `c`. -/
abbrev wpc (c : Dev nD) {α : Type} (p : Prog (TpuEff nD τ sig (Elt F) Λ₀ .tc) α) (Φ : α → sProp (MT nD τ sig Unit (Elt F) ℕ UU ℕ)) :
    sProp (MT nD τ sig Unit (Elt F) ℕ UU ℕ) :=
  wp frame (wpE (defs₀ (F := F)) 𝒱₀ (c : Thread nD τ) none) Set.univ p Φ

variable (V : Cts F) (K : Dev nD × Fin 135 → ℕ)
variable {α : Type} {Φ : α → sProp (MT nD τ sig Unit (Elt F) ℕ UU ℕ)} {k : PUnit → Prog (TpuEff nD τ sig (Elt F) Λ₀ .tc) α}

/-- The signal to device `d`. -/
theorem bar_signal (c d : Dev nD) {S : Finset (Dev nD)} (hS : d ∈ S) (O : CellTallies nD τ sig Unit) {n : Dev nD} (hn : n = d) :
    (iprop(records V K ∗ owing c (OB S + O) ∗ dutyTok ER (barC d) 0 c ∗ barPay d c) : sProp 𝕄)
      ⊢ iprop((owing c (OB (S.erase d) + O) -∗ wpc c (k ⟨⟩) Φ) -∗ wpc c (.op (.semSignal (Dev.tc n : Thread nD τ) barS 1) k) Φ) := by
  subst hn
  unfold owing
  iintro ⟨#HR, ⟨%W, HO⟩, Ht, Hp⟩ Hk
  ihave HI := (record_bar V K n) $$ HR
  icases HI with ⟨%κ, #HI, #Hr⟩
  iapply (Rounds.wp_signal 𝒱₀ ER (Rd V) (c : Thread nD τ) none (dst := (n : Thread nD τ)) (κ := κ) (r := 0) (d := c) (k' := 1)
    (by rw [duties_bar]; exact Finset.mem_univ _) rfl () (O₀ := OB S + O) (OB (S.erase n) + O) (by rw [OB_erase hS, add_assoc, add_assoc, add_comm O]) (W := W)) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

variable {w : TpuEff nD τ sig (Elt F) Λ₀ .tc PUnit}

/-- A wait for all that is left of a cell's only round: the payloads not yet taken, and the cell closed at zero. -/
theorem wait_close (c : Dev nD) {sm : SemLoc sig} {N : ℕ}
    (hw : ∀ Kt : PUnit → sProp 𝕄, wpE (defs₀ (F := F)) 𝒱₀ (c : Thread nD τ) none Set.univ w Kt = waitSpec (c : Thread nD τ) Set.univ sm N Kt)
    {T : Finset (Dev nD)} {m : ℕ} (hexp : m + N = (Rd V).expect ((c : Thread nD τ), sm) 0)
    (hlast : ∀ r, 1 ≤ r → (Rd V).duties ((c : Thread nD τ), sm) r = ∅)
    {O : CellTallies nD τ sig Unit} (hO : Above (lv ((c : Thread nD τ), sm) ()) O) :
    (iprop((∃ κ, cellInv ER (Rd V) κ ((c : Thread nD τ), sm) ∗ reached ER ((c : Thread nD τ), sm) 0) ∗ levAts L lv
        ∗ cred (tallyAt ((c : Thread nD τ), sm) () N) ∗ owing c O ∗ atPos ER ((c : Thread nD τ), sm) 0 T m) : sProp 𝕄)
      ⊢ iprop(((semVal ((c : Thread nD τ), sm) 0 ∗ owing c O
            ∗ bigSep ((Rd V).duties ((c : Thread nD τ), sm) 0 \ T) (fun d => (Rd V).payload ((c : Thread nD τ), sm) 0 d)) -∗ wpc c (k ⟨⟩) Φ)
          -∗ wpc c (.op w k) Φ) := by
  unfold owing
  iintro ⟨⟨%κ, #HI, -⟩, Hlev, Hc, ⟨%W, HO⟩, Hat⟩ Hk
  iapply (Rounds.wp_wait_rest_token 𝒱₀ ER (Rd V) (c : Thread nD τ) none (κ := κ) hw (Set.mem_univ _) () (O := O) (W := W) (R := 0) (m := m) (T := T) hexp)
    $$ [Hlev Hc HO Hat]
  · isplitr; · iexact HI
    isplitl [Hc]; · iexact Hc
    isplitl [HO]; · iexact HO
    isplitl [Hlev]; · iapply (mayWait_above hO); iexact Hlev
    iexact Hat
  iintro ⟨HO, Hat, -, Hp⟩
  imod (cell_close ER (Rd V) (Set.mem_univ κ) (fun h => h) (R := 1) (g := ((c : Thread nD τ), sm)) hlast) $$ [Hat] with Hz
  · isplitr; · iexact HI
    iexact Hat
  iapply Hk
  isplitl [Hz]; · iexact Hz
  isplitl [HO]; · iexists _; iexact HO
  iexact Hp

/-- `n` of the thirty-one blocks of a cell waited for. -/
def Cnt (c : Dev nD) (sm : SemLoc sig) (n : ℕ) : sProp 𝕄 :=
  if n < 31 then
    iprop(∃ S : Finset (Dev nD), atPos ER ((c : Thread nD τ), sm) 0 S (n * NX) ∗ bigSep S (fun d => (Rd V).payload ((c : Thread nD τ), sm) 0 d)
      ∗ ⌜S ⊆ (Rd V).duties ((c : Thread nD τ), sm) 0⌝)
  else iprop(semVal ((c : Thread nD τ), sm) 0 ∗ bigSep ((Rd V).duties ((c : Thread nD τ), sm) 0) (fun d => (Rd V).payload ((c : Thread nD τ), sm) 0 d))

theorem cnt_start (c : Dev nD) (sm : SemLoc sig) : (atPos ER ((c : Thread nD τ), sm) 0 ∅ 0 : sProp 𝕄) ⊢ Cnt V c sm 0 := by
  unfold Cnt; rw [if_pos (by decide)]
  iintro H
  iexists ∅
  isplitl [H]; · rw [Nat.zero_mul]; iexact H
  isplitr; · rw [sep_nil]; iempintro
  ipureintro; exact Finset.empty_subset _

/-- One wait of the thirty-one. -/
theorem cnt_wait (c : Dev nD) {sm : SemLoc sig} {n : ℕ} (hn : n < 31)
    (hw : ∀ Kt : PUnit → sProp 𝕄, wpE (defs₀ (F := F)) 𝒱₀ (c : Thread nD τ) none Set.univ w Kt = waitSpec (c : Thread nD τ) Set.univ sm NX Kt)
    (hexp : (Rd V).expect ((c : Thread nD τ), sm) 0 = 31 * NX)
    (hlast : ∀ r, 1 ≤ r → (Rd V).duties ((c : Thread nD τ), sm) r = ∅)
    {O : CellTallies nD τ sig Unit} (hO : Above (lv ((c : Thread nD τ), sm) ()) O) :
    (iprop((∃ κ, cellInv ER (Rd V) κ ((c : Thread nD τ), sm) ∗ reached ER ((c : Thread nD τ), sm) 0) ∗ levAts L lv
        ∗ cred (tallyAt ((c : Thread nD τ), sm) () NX) ∗ owing c O ∗ Cnt V c sm n) : sProp 𝕄)
      ⊢ iprop(((owing c O ∗ Cnt V c sm (n + 1)) -∗ wpc c (k ⟨⟩) Φ) -∗ wpc c (.op w k) Φ) := by
  unfold Cnt
  rw [if_pos hn]
  by_cases hl : n + 1 < 31
  · rw [if_pos hl]
    unfold owing
    iintro ⟨⟨%κ, #HI, -⟩, Hlev, Hc, ⟨%W, HO⟩, ⟨%S, Hat, Hp, %hS⟩⟩ Hk
    iapply (Rounds.wp_wait 𝒱₀ ER (Rd V) (c : Thread nD τ) none (κ := κ) hw (Set.mem_univ _) (cr := Finsupp.single () NX) {(sm, ())} (O := O) (W := W) (R := 0)
      (m := n * NX) (T := S) (by rw [Util.total_single]) (image_single_subset sm () NX)) $$ [Hlev Hc HO Hat]
    · isplitr; · iexact HI
      isplitl [Hc]; · iexact Hc
      isplitl [HO]; · iexact HO
      isplitl [Hlev]; · iapply (mayWait_above hO); iexact Hlev
      iexact Hat
    iintro %S' ⟨%hS', HO, Hat, Hp'⟩
    iapply Hk
    isplitl [HO]; · iexists _; iexact HO
    iexists S'
    isplitl [Hat]; · rw [Nat.succ_mul]; iexact Hat
    isplitl [Hp Hp']
    · rw [sep_split hS'.1]
      isplitl [Hp]; · iexact Hp
      iexact Hp'
    ipureintro; exact hS'.2.1
  · rw [if_neg hl]
    have hn' : n = 30 := by omega
    iintro ⟨HI, Hlev, Hc, HO, ⟨%S, Hat, Hp, %hS⟩⟩ Hk
    iapply (wait_close V c hw (T := S) (m := n * NX) (by rw [hexp, hn', ← Nat.succ_mul]) hlast hO) $$ [HI Hlev Hc HO Hat]
    · isplitl [HI]; · iexact HI
      isplitl [Hlev]; · iexact Hlev
      isplitl [Hc]; · iexact Hc
      isplitl [HO]; · iexact HO
      iexact Hat
    iintro ⟨Hz, HO, Hp'⟩
    iapply Hk
    isplitl [HO]; · iexact HO
    isplitl [Hz]; · iexact Hz
    rw [sep_split hS]
    isplitl [Hp]; · iexact Hp
    iexact Hp'

theorem expect_x (c : Dev nD) {sm : SemLoc sig} (hd : (Rd V).duties ((c : Thread nD τ), sm) 0 = Finset.univ.erase c)
    (ha : ∀ d, (Rd V).amount ((c : Thread nD τ), sm) 0 d = NX) : (Rd V).expect ((c : Thread nD τ), sm) 0 = 31 * NX := by
  unfold Schedule.expect Schedule.amountOf
  rw [hd, Finset.sum_congr rfl (g := fun _ => NX) fun d _ => ha d, Finset.sum_const, Finset.card_erase_of_mem (Finset.mem_univ c), Finset.card_univ, Fintype.card_fin, smul_eq_mul]
  rfl

/-- The devices other than `c` from `J` on. -/
def rem (c : Dev nD) (J : ℕ) : Finset (Dev nD) := Finset.univ.filter fun j => j ≠ c ∧ J ≤ j.val
/-- How many of the devices before `J` are not `c`. -/
def cntN (c : Dev nD) (J : ℕ) : ℕ := if c.val < J then J - 1 else J
theorem mem_rem {c : Dev nD} {J : ℕ} {j : Dev nD} : j ∈ rem c J ↔ j ≠ c ∧ J ≤ j.val := by
  unfold rem; rw [Finset.mem_filter]; exact ⟨fun h => h.2, fun h => ⟨Finset.mem_univ _, h⟩⟩
theorem rem_self (c : Dev nD) : rem c (c.val + 1) = rem c c.val := by
  ext j; rw [mem_rem, mem_rem]
  exact ⟨fun h => ⟨h.1, by omega⟩, fun h => ⟨h.1, by have := Fin.val_ne_of_ne h.1; omega⟩⟩
theorem rem_erase {c j : Dev nD} (h : j ≠ c) : (rem c j.val).erase j = rem c (j.val + 1) := by
  ext i; rw [Finset.mem_erase, mem_rem, mem_rem]
  exact ⟨fun h' => ⟨h'.2.1, by have := Fin.val_ne_of_ne h'.1; omega⟩, fun h' => ⟨fun e => by subst e; omega, h'.1, by omega⟩⟩
theorem mem_rem_self {c j : Dev nD} (h : j ≠ c) : j ∈ rem c j.val := mem_rem.mpr ⟨h, le_rfl⟩
theorem rem_zero (c : Dev nD) : rem c 0 = Finset.univ.erase c := by
  ext j; rw [mem_rem, Finset.mem_erase]; exact ⟨fun h => ⟨h.1, Finset.mem_univ _⟩, fun h => ⟨h.1, Nat.zero_le _⟩⟩
theorem rem_end (c : Dev nD) : rem c 32 = ∅ := by
  ext j; rw [mem_rem]; exact ⟨fun h => absurd h.2 (by have := j.isLt; simp only [nD] at this; omega), fun h => absurd h (Finset.notMem_empty j)⟩
theorem cntN_self (c : Dev nD) : cntN c (c.val + 1) = cntN c c.val := by unfold cntN; rw [if_pos (by omega), if_neg (by omega)]; rfl
theorem cntN_succ {c j : Dev nD} (h : j ≠ c) : cntN c (j.val + 1) = cntN c j.val + 1 := by
  have := Fin.val_ne_of_ne h
  unfold cntN; split <;> split <;> omega
theorem cntN_lt {c j : Dev nD} (h : j ≠ c) : cntN c j.val < 31 := by
  have := Fin.val_ne_of_ne h
  have h1 : j.val < 32 := j.isLt
  have h2 : c.val < 32 := c.isLt
  unfold cntN; split <;> omega
theorem cntN_end (c : Dev nD) : cntN c 32 = 31 := by unfold cntN; rw [if_pos c.isLt]

/-- The waits for the blocks of the devices before `J` done, the rest to come. -/
def Wt (c : Dev nD) (sm : SemLoc sig) (J : ℕ) : sProp 𝕄 :=
  iprop(Cnt V c sm (cntN c J) ∗ bigSep (rem c J) fun _ => cred (tallyAt ((c : Thread nD τ), sm) () NX))

/-- The wait for device `j`'s block, when `j` is another device. -/
theorem wt_step (c j : Dev nD) {sm : SemLoc sig} (h : j ≠ c)
    (hw : ∀ Kt : PUnit → sProp 𝕄, wpE (defs₀ (F := F)) 𝒱₀ (c : Thread nD τ) none Set.univ w Kt = waitSpec (c : Thread nD τ) Set.univ sm NX Kt)
    (hexp : (Rd V).expect ((c : Thread nD τ), sm) 0 = 31 * NX)
    (hlast : ∀ r, 1 ≤ r → (Rd V).duties ((c : Thread nD τ), sm) r = ∅)
    {O : CellTallies nD τ sig Unit} (hO : Above (lv ((c : Thread nD τ), sm) ()) O) :
    (iprop((∃ κ, cellInv ER (Rd V) κ ((c : Thread nD τ), sm) ∗ reached ER ((c : Thread nD τ), sm) 0) ∗ levAts L lv ∗ owing c O ∗ Wt V c sm j.val) : sProp 𝕄)
      ⊢ iprop(((owing c O ∗ Wt V c sm (j.val + 1)) -∗ wpc c (k ⟨⟩) Φ) -∗ wpc c (.op w k) Φ) := by
  unfold Wt
  rw [cntN_succ h, ← rem_erase h, sep_take (mem_rem_self h)]
  iintro ⟨HI, Hlev, HO, HC, Hc, Hcs⟩ Hk
  iapply (cnt_wait V c (cntN_lt h) hw hexp hlast hO) $$ [HI Hlev HO HC Hc]
  · isplitl [HI]; · iexact HI
    isplitl [Hlev]; · iexact Hlev
    isplitl [Hc]; · iexact Hc
    isplitl [HO]; · iexact HO
    iexact HC
  iintro ⟨HO, HC⟩
  iapply Hk
  isplitl [HO]; · iexact HO
  isplitl [HC]; · iexact HC
  iexact Hcs
theorem wt_skip (c : Dev nD) (sm : SemLoc sig) : Wt V c sm (c.val + 1) = Wt V c sm c.val := by
  unfold Wt; rw [cntN_self, rem_self]

theorem last_xs (c : Dev nD) : ∀ r, 1 ≤ r → (Rd V).duties (xsC c) r = ∅ := fun r hr => if_neg (Nat.pos_iff_ne_zero.mp hr)
theorem last_xr (c : Dev nD) : ∀ r, 1 ≤ r → (Rd V).duties (xrC c) r = ∅ := fun r hr => if_neg (Nat.pos_iff_ne_zero.mp hr)
theorem last_bar (c : Dev nD) : ∀ r, 1 ≤ r → (Rd V).duties (barC c) r = ∅ := fun r hr => if_neg (Nat.pos_iff_ne_zero.mp hr)
theorem last_lr (l : Fin 4) (c : Dev nD) (q : Fin 32) : ∀ r, 1 ≤ r → (Rd V).duties (lrC l c q) r = ∅ := fun r hr => by
  rw [duties_lr, if_neg fun h => by omega]
theorem expect_xs (c : Dev nD) : (Rd V).expect (xsC c) 0 = 31 * NX := expect_x V c (duties_xs V c) fun _ => rfl
theorem expect_xr (c : Dev nD) : (Rd V).expect (xrC c) 0 = 31 * NX := expect_x V c (duties_xr V c) fun _ => rfl

/-- The wait of thirty-two at the barrier. -/
theorem bar_wait (c : Dev nD) {O : CellTallies nD τ sig Unit} (hO : Above 1 O) :
    (iprop(records V K ∗ levAts L lv ∗ cred (tallyAt (barC c) () 32) ∗ owing c O ∗ atPos ER (barC c) 0 ∅ 0) : sProp 𝕄)
      ⊢ iprop(((semVal (barC c) 0 ∗ owing c O ∗ bigSep Finset.univ fun d => barPay (F := F) c d) -∗ wpc c (k ⟨⟩) Φ)
          -∗ wpc c (.op (.semWait barS 32) k) Φ) := by
  iintro ⟨HR, Hlev, Hc, HO, Hat⟩ Hk
  ihave HI := (record_bar V K c) $$ HR
  iapply (wait_close V c (wpE_semWait_eq 𝒱₀ (c : Thread nD τ) none Set.univ) (T := ∅) (m := 0) (by rw [expect_bar]) (last_bar V c) hO) $$ [HI Hlev Hc HO Hat]
  · isplitl [HI]; · iexact HI
    isplitl [Hlev]; · iexact Hlev
    isplitl [Hc]; · iexact Hc
    isplitl [HO]; · iexact HO
    iexact Hat
  rw [Finset.sdiff_empty, duties_bar]
  iexact Hk

end Cert.KernelIdeal.Gather

end
-- ==== Proof.Hops.lean ====
/-
# Transfers

A device's activation blocks, sent one to each other device; and one lane of the ring: the first hop, a hop of the loop
(receive the next slot, get the previous one back, send the next one on), and the last receive.
-/
module

public import proofs.«01_k».proof.Proof.Waits

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (V : Cts F) (K : Dev nD × Fin 135 → ℕ)
variable {α : Type} {Φ : α → sProp (MT nD τ sig Unit (Elt F) ℕ UU ℕ)} {k : PUnit → Prog (TpuEff nD τ sig (Elt F) Λ₀ .tc) α}

/-- A wait names its cell's credit by the buffer it waits for. -/
theorem wait_spec (c : Dev nD) {sp sp' : Space} {s s' : Shape} {e e' : EltTy} {sem : DmaSem sig} (t : DmaSem sig) (hs : sem = t) {N : ℕ}
    {src : Memref sig .tc sp' s' e'} {dst : Memref sig .tc sp s e} {hsrc : src.view.WordExact} {hdst : dst.view.WordExact} (hN : dst.view.dmaCredit = N)
    (Kt : PUnit → sProp 𝕄) :
    wpE (defs₀ (F := F)) 𝒱₀ (c : Thread nD τ) none Set.univ (.waitDma2 sem src dst hsrc hdst) Kt = waitSpec (c : Thread nD τ) Set.univ (.dma t) N Kt := by
  subst hs hN
  exact wpE_waitDma2_eq 𝒱₀ (c : Thread nD τ) none Set.univ Kt

/-! ## Activations -/

/-- The devices other than `c` before `J`. -/
def don (c : Dev nD) (J : ℕ) : Finset (Dev nD) := Finset.univ.filter fun j => j ≠ c ∧ j.val < J
theorem mem_don {c : Dev nD} {J : ℕ} {j : Dev nD} : j ∈ don c J ↔ j ≠ c ∧ j.val < J := by
  unfold don; rw [Finset.mem_filter]; exact ⟨fun h => h.2, fun h => ⟨Finset.mem_univ _, h⟩⟩
theorem don_zero (c : Dev nD) : don c 0 = ∅ := by
  ext j; rw [mem_don]; exact ⟨fun h => absurd h.2 (Nat.not_lt_zero _), fun h => absurd h (Finset.notMem_empty j)⟩
theorem don_end (c : Dev nD) : don c 32 = rem c 0 := by
  ext j; rw [mem_don, mem_rem]; exact ⟨fun h => ⟨h.1, Nat.zero_le _⟩, fun h => ⟨h.1, j.isLt⟩⟩
theorem don_self (c : Dev nD) : don c (c.val + 1) = don c c.val := by
  ext j; rw [mem_don, mem_don]
  exact ⟨fun h => ⟨h.1, by have := Fin.val_ne_of_ne h.1; omega⟩, fun h => ⟨h.1, by omega⟩⟩
theorem don_succ {c j : Dev nD} (h : j ≠ c) : don c (j.val + 1) = insert j (don c j.val) := by
  ext i; rw [Finset.mem_insert, mem_don, mem_don]
  constructor
  · intro h'
    rcases eq_or_ne i j with e | e
    · exact .inl e
    · exact .inr ⟨h'.1, by have := Fin.val_ne_of_ne e; omega⟩
  · rintro (e | h')
    · subst e; exact ⟨h, by omega⟩
    · exact ⟨h'.1, by omega⟩
theorem not_don (c j : Dev nD) : j ∉ don c j.val := fun h => absurd (mem_don.mp h).2 (Nat.lt_irrefl _)

/-- What sending device `j` its block takes. -/
def xTodo (c j : Dev nD) : sProp 𝕄 :=
  iprop(owns (c : Thread nD τ) (rowM j) fullShare (V.xo c j) ∗ (∃ Y, owns (j : Thread nD τ) (xM (place c)) fullShare Y)
    ∗ dutyTok ER (xsC c) 0 j ∗ dutyTok ER (xrC j) 0 c)
/-- The blocks for the devices before `J` sent, the rest to go. -/
def XSt (c : Dev nD) (J : ℕ) : sProp 𝕄 :=
  iprop(bigSep (rem c J) (xTodo V c) ∗ bigSep (don c J) fun _ => cred (tallyAt (xsC c) () NX))

theorem xst_skip (c : Dev nD) : XSt V c (c.val + 1) = XSt V c c.val := by unfold XSt; rw [rem_self, don_self]

theorem some_squeezed (c : Dev nD) {s s' : Shape} {e : EltTy} {sp : Space} (m : Memref sig .tc sp s e) (h : s.Squeezes s') :
    (iprop(∃ Y, owns (c : Thread nD τ) m fullShare Y) : sProp 𝕄) ⊢ iprop(∃ Y, owns (c : Thread nD τ) (m.squeeze s' h) fullShare Y) := by
  iintro ⟨%Y, H⟩
  iexists (fun i => Y (Shape.reshapeEquiv h.numel_eq i))
  iapply (Entails.of_eq (owns_squeeze (c : Thread nD τ) m h fullShare Y).symm)
  iexact H

theorem amount_xs (c : Dev nD) (r : ℕ) (d : Dev nD) : (Rd V).amount (xsC c) r d = NX := rfl
theorem amount_xr (c : Dev nD) (r : ℕ) (d : Dev nD) : (Rd V).amount (xrC c) r d = NX := rfl

/-- The transfer of device `j`'s block. -/
theorem x_send (c j : Dev nD) (h : j ≠ c) (O : CellTallies nD τ sig Unit) {n : Dev nD} (hn : n = j)
    {offs : Fin 2 → ℕ} {inbs : ∀ a, offs a + S128x128.size a ≤ S4096x128.size a} (hoffs : offs = ![128 * j.val, 0])
    {offd : Fin 3 → ℕ} {inbd : ∀ a, offd a + S1x128x128.size a ≤ S32x128x128.size a} (hoffd : offd = ![(place c).val, 0, 0])
    {sS sR : DmaSem sig} (hsS : sS = xsS) (hsR : sR = xrS)
    {hsc} {hsrc} {hdst} {hsem} :
    (iprop(records V K ∗ owing c (OX (rem c j.val) + O) ∗ XSt V c j.val) : sProp 𝕄)
      ⊢ iprop(((owing c (OX (rem c (j.val + 1)) + O) ∗ XSt V c (j.val + 1)) -∗ wpc c (k ⟨⟩) Φ)
        -∗ wpc c (.op (.enqueueDma (x8M.slice (Rect.unit (s := S4096x128) offs S128x128.size inbs) (fun _ => rfl))
            (.remote (Dev.tc n : Thread nD τ) ((xbM.slice (Rect.unit (s := S32x128x128) offd S1x128x128.size inbd) (fun _ => rfl)).squeeze S128x128 squeezes_S1x128x128_S128x128)
              (.dma sS) hsc) (.dma sR) hsrc hdst hsem) k) Φ) := by
  subst hn hoffs hoffd hsS hsR
  unfold XSt xTodo owing
  rw [← rem_erase h, don_succ h, sep_put (not_don c n), sep_take (mem_rem_self h)]
  iintro ⟨#HR, ⟨%W, HO⟩, ⟨⟨Hs, Hd, HtS, HtR⟩, Hrest⟩, Hdone⟩ Hk
  ihave HIs := (record_xs V K c) $$ HR
  icases HIs with ⟨%κ₁, #HIs, #Hrs⟩
  ihave HIr := (record_xr V K n) $$ HR
  icases HIr with ⟨%κ₂, #HIr, #Hrr⟩
  ihave Hd := (some_squeezed n (xM (place c)) squeezes_S1x128x128_S128x128) $$ Hd
  iapply (wp_send_owns 𝒱₀ (c : Thread nD τ) none ER (Rd V) (c' := (n : Thread nD τ)) (q := fullShare) (X := V.xo c n) (r₁ := 0) (r₂ := 0) (d₁ := n) (d₂ := c)
    (κ₁ := κ₁) (κ₂ := κ₂) (sS := .dma xsS) (sem := .dma xrS)
    (by rw [duties_xs]; exact Finset.mem_erase.mpr ⟨h, Finset.mem_univ _⟩)
    (by rw [duties_xr]; exact Finset.mem_erase.mpr ⟨h.symm, Finset.mem_univ _⟩) () () NX (NX_eq (place c)) (amount_xs V c 0 n) (amount_xr V n 0 c)
    (O₀ := OX (rem c n.val) + O) (OX ((rem c n.val).erase n) + O)
    (by rw [OX_erase (mem_rem_self h), add_assoc, add_assoc, add_comm O]) (W := W)
    (by rw [payload_xs])
    (by
      rw [payload_xr]
      rw [← owns_squeeze (n : Thread nD τ) (xM (place c)) squeezes_S1x128x128_S128x128]
      unfold Cts.xb
      rw [xb_squeezed, dev_place])) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact Hrs
    isplitl [HtR]; · iexact HtR
    iexact Hrr
  iintro ⟨Hc, HO⟩
  iapply Hk
  isplitl [HO]; · iexists W; iexact HO
  isplitl [Hrest]; · iexact Hrest
  isplitl [Hc]; · iexact Hc
  iexact Hdone

/-! ## Weights -/

/-- The block lane `l` brings device `c` after `h` hops. -/
abbrev Cts.at (l : Fin 4) (c : Dev nD) (h : ℕ) : S1x128x2048.Idx → Elt F .fp8e4m3 := V.wb l (dev (slot l c h))
abbrev slotOwn (q : PosShare TreeShare) (l : Fin 4) (c : Dev nD) (h : ℕ) : sProp 𝕄 :=
  owns (c : Thread nD τ) (wM l (slot l c h)) q (V.at l c h)
/-- What receiving after `h + 1` hops takes, and what sending for the `h + 1`st time takes. -/
def lRcv (l : Fin 4) (c : Dev nD) (h : ℕ) : sProp 𝕄 :=
  iprop(cred (tallyAt (lrC l c (slot l c (h + 1))) () NW) ∗ atPos ER (lrC l c (slot l c (h + 1))) 0 ∅ 0)
def lTodo (l : Fin 4) (c : Dev nD) (h : ℕ) : sProp 𝕄 :=
  iprop((∃ Y, owns (tgt l c : Thread nD τ) (wM l (slot l c h)) fullShare Y) ∗ dutyTok ER (lrC l (tgt l c) (slot l c h)) 0 0 ∗ dutyTok ER (lsC l c) h 0)

/-- Before the first hop. -/
def Lane0 (l : Fin 4) (c : Dev nD) : sProp 𝕄 :=
  iprop(slotOwn V fullShare l c 0 ∗ atPos ER (lsC l c) 0 ∅ 0 ∗ bigSep (Finset.Ico 0 31) (lRcv l c) ∗ bigSep (Finset.Ico 0 31) (lTodo l c))
/-- After `n + 1` sends and `n` receives. -/
def Lane (l : Fin 4) (c : Dev nD) (n : ℕ) : sProp 𝕄 :=
  iprop(slotOwn V fullShare.left l c n
    ∗ bigSep (Finset.range n) (slotOwn V fullShare l c)
    ∗ bigSep (Finset.range n) (fun h => semVal (lrC l c (slot l c (h + 1))) 0)
    ∗ atPos ER (lsC l c) n ∅ 0 ∗ reached ER (lsC l c) n ∗ cred (tallyAt (lsC l c) () NW)
    ∗ bigSep (Finset.Ico n 31) (lRcv l c) ∗ bigSep (Finset.Ico (n + 1) 31) (lTodo l c))
/-- At the end: every slot, and every cell of the lane at zero. -/
def LaneEnd (l : Fin 4) (c : Dev nD) : sProp 𝕄 :=
  iprop(bigSep (Finset.range 32) (slotOwn V fullShare l c)
    ∗ bigSep (Finset.range 31) (fun h => semVal (lrC l c (slot l c (h + 1))) 0)
    ∗ semVal (lsC l c) 0)

theorem slot_succ_ne (l : Fin 4) (c : Dev nD) {h : ℕ} (hh : h < 31) : slot l c (h + 1) ≠ place c := slot_ne_place l c (Nat.succ_ne_zero h) (by omega)

/-- A send of a slot held at the right half share. -/
theorem lane_send (l : Fin 4) (c : Dev nD) {h : ℕ} (hh : h < 31) {H : Fin 4 → ℕ} (hH : H l = h) {n : Dev nD} (hn : n = tgt l c)
    {M : Memref sig .tc .vmem S32x128x2048 .fp8e4m3} (hM : M = lnM l)
    {off : Fin 3 → ℕ} {inb : ∀ a, off a + S1x128x2048.size a ≤ S32x128x2048.size a} (hoff : off = ![(slot l c h).val, 0, 0])
    {sS sR : DmaSem sig} (hsS : sS = lsS l) (hsR : sR = lrS l (slot l c h)) {hsc} {hsrc} {hdst} {hsem} :
    (iprop(records V K ∗ owing c (OL c H) ∗ slotOwn V fullShare.right l c h ∗ reached ER (lsC l c) h ∗ lTodo l c h) : sProp 𝕄)
      ⊢ iprop(((owing c (OL c (Function.update H l (h + 1))) ∗ cred (tallyAt (lsC l c) () NW)) -∗ wpc c (k ⟨⟩) Φ)
        -∗ wpc c (.op (.enqueueDma ((M.slice (Rect.unit (s := S32x128x2048) off S1x128x2048.size inb) (fun _ => rfl)).squeeze S128x2048 squeezes_S1x128x2048_S128x2048)
            (.remote (Dev.tc n : Thread nD τ) ((M.slice (Rect.unit (s := S32x128x2048) off S1x128x2048.size inb) (fun _ => rfl)).squeeze S128x2048 squeezes_S1x128x2048_S128x2048)
              (.dma sS) hsc) (.dma sR) hsrc hdst hsem) k) Φ) := by
  subst hn hM hoff hsS hsR
  unfold owing lTodo
  iintro ⟨#HR, ⟨%W, HO⟩, Hs, #Hrs, ⟨Hd, HtR, HtS⟩⟩ Hk
  ihave HIs := (record_ls V K l c) $$ HR
  icases HIs with ⟨%κ₁, #HIs, -⟩
  ihave HIr := (record_lr V K l (tgt l c) (slot l c h)) $$ HR
  icases HIr with ⟨%κ₂, #HIr, #Hrr⟩
  ihave Hd := (some_squeezed (tgt l c) (wM l (slot l c h)) squeezes_S1x128x2048_S128x2048) $$ Hd
  ihave Hs := (Entails.of_eq (owns_squeeze (c : Thread nD τ) (wM l (slot l c h)) squeezes_S1x128x2048_S128x2048 fullShare.right (V.at l c h)).symm) $$ Hs
  iapply (wp_send_owns 𝒱₀ (c : Thread nD τ) none ER (Rd V) (c' := (tgt l c : Thread nD τ)) (q := fullShare.right)
    (X := fun i => V.at l c h (Shape.reshapeEquiv squeezes_S1x128x2048_S128x2048.numel_eq i)) (r₁ := h) (r₂ := 0) (d₁ := 0) (d₂ := 0)
    (κ₁ := κ₁) (κ₂ := κ₂) (sS := .dma (lsS l)) (sem := .dma (lrS l (slot l c h)))
    (by rw [duties_ls, if_pos hh]; exact Finset.mem_singleton_self _)
    (by rw [duties_lr, if_pos ⟨rfl, by rw [← slot_tgt]; exact slot_succ_ne l _ hh⟩]; exact Finset.mem_singleton_self _) () () NW (NW_eq l (slot l c h))
    (amount_ls V l c h 0) (amount_lr V l (tgt l c) (slot l c h) 0 0)
    (O₀ := OL c H) (OL c (Function.update H l (h + 1))) (OL_succ c H l hH hh) (W := W)
    (by rw [payload_ls, owns_squeeze])
    (by rw [payload_lr, owns_squeeze])) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact Hrs
    isplitl [HtR]; · iexact HtR
    iexact Hrr
  iintro ⟨Hc, HO⟩
  iapply Hk
  isplitl [HO]; · iexists W; iexact HO
  iexact Hc

variable {w : TpuEff nD τ sig (Elt F) Λ₀ .tc PUnit}

/-- The receive after `h + 1` hops. -/
theorem lane_recv (l : Fin 4) (c : Dev nD) {h : ℕ} (hh : h < 31) {O : CellTallies nD τ sig Unit} (hO : Above (3 + (h + 1)) O)
    (hw : ∀ Kt : PUnit → sProp 𝕄, wpE (defs₀ (F := F)) 𝒱₀ (c : Thread nD τ) none Set.univ w Kt = waitSpec (c : Thread nD τ) Set.univ (.dma (lrS l (slot l c (h + 1)))) NW Kt) :
    (iprop(records V K ∗ levAts L lv ∗ owing c O ∗ lRcv l c h) : sProp 𝕄)
      ⊢ iprop(((owing c O ∗ slotOwn V fullShare l c (h + 1) ∗ semVal (lrC l c (slot l c (h + 1))) 0) -∗ wpc c (k ⟨⟩) Φ) -∗ wpc c (.op w k) Φ) := by
  unfold lRcv
  iintro ⟨HR, Hlev, HO, Hc, Hat⟩ Hk
  ihave HI := (record_lr V K l c (slot l c (h + 1))) $$ HR
  iapply (wait_close V c hw (T := ∅) (m := 0) (by rw [expect_lr V l c (slot_succ_ne l c hh), Nat.zero_add]) (last_lr V l c _) (by rw [lv_lr, hops_slot _ _ (by omega)]; exact hO)) $$ [HI Hlev Hc HO Hat]
  · isplitl [HI]; · iexact HI
    isplitl [Hlev]; · iexact Hlev
    isplitl [Hc]; · iexact Hc
    isplitl [HO]; · iexact HO
    iexact Hat
  rw [Finset.sdiff_empty, duties_lr, if_pos ⟨rfl, slot_succ_ne l c hh⟩, bigSep_singleton, payload_lr]
  iintro ⟨Hz, HO, Hp⟩
  iapply Hk
  isplitl [HO]; · iexact HO
  isplitl [Hp]; · iexact Hp
  iexact Hz

/-- The wait for the send of slot `h` to have been read. -/
theorem lane_back (l : Fin 4) (c : Dev nD) {h : ℕ} (hh : h < 31) {O : CellTallies nD τ sig Unit} (hO : Above 0 O)
    (hw : ∀ Kt : PUnit → sProp 𝕄, wpE (defs₀ (F := F)) 𝒱₀ (c : Thread nD τ) none Set.univ w Kt = waitSpec (c : Thread nD τ) Set.univ (.dma (lsS l)) NW Kt) :
    (iprop(records V K ∗ levAts L lv ∗ owing c O ∗ cred (tallyAt (lsC l c) () NW) ∗ atPos ER (lsC l c) h ∅ 0 ∗ slotOwn V fullShare.left l c h) : sProp 𝕄)
      ⊢ iprop(((owing c O ∗ slotOwn V fullShare l c h ∗ atPos ER (lsC l c) (h + 1) ∅ 0 ∗ reached ER (lsC l c) (h + 1)) -∗ wpc c (k ⟨⟩) Φ) -∗ wpc c (.op w k) Φ) := by
  unfold owing
  iintro ⟨HR, Hlev, ⟨%W, HO⟩, Hc, Hat, Hl⟩ Hk
  ihave HI := (record_ls V K l c) $$ HR
  icases HI with ⟨%κ, #HI, -⟩
  iapply (Rounds.wp_wait_rest_token 𝒱₀ ER (Rd V) (c : Thread nD τ) none (κ := κ) hw (Set.mem_univ _) () (O := O) (W := W) (R := h) (m := 0) (T := ∅)
    (by rw [expect_ls V l c hh, Nat.zero_add])) $$ [Hlev Hc HO Hat]
  · isplitr; · iexact HI
    isplitl [Hc]; · iexact Hc
    isplitl [HO]; · iexact HO
    isplitl [Hlev]; · iapply (mayWait_above (by rw [lv_ls]; exact hO)); iexact Hlev
    iexact Hat
  rw [Finset.sdiff_empty, duties_ls, if_pos hh, bigSep_singleton, payload_ls]
  iintro ⟨HO, Hat, Hr, Hp⟩
  iapply Hk
  isplitl [HO]; · iexists _; iexact HO
  isplitl [Hl Hp]
  · iapply (owns_halves (c : Thread nD τ) (wM l (slot l c h)) fullShare (V.at l c h)).2
    isplitl [Hl]; · iexact Hl
    iexact Hp
  isplitl [Hat]; · iexact Hat
  iexact Hr

/-- The first hop. -/
theorem lane_first (l : Fin 4) (c : Dev nD) {H : Fin 4 → ℕ} (hH : H l = 0) {n : Dev nD} (hn : n = tgt l c)
    {M : Memref sig .tc .vmem S32x128x2048 .fp8e4m3} (hM : M = lnM l)
    {off : Fin 3 → ℕ} {inb : ∀ a, off a + S1x128x2048.size a ≤ S32x128x2048.size a} (hoff : off = ![(slot l c 0).val, 0, 0])
    {sS sR : DmaSem sig} (hsS : sS = lsS l) (hsR : sR = lrS l (slot l c 0)) {hsc} {hsrc} {hdst} {hsem} :
    (iprop(records V K ∗ owing c (OL c H) ∗ Lane0 V l c) : sProp 𝕄)
      ⊢ iprop(((owing c (OL c (Function.update H l 1)) ∗ Lane V l c 0) -∗ wpc c (k ⟨⟩) Φ)
        -∗ wpc c (.op (.enqueueDma ((M.slice (Rect.unit (s := S32x128x2048) off S1x128x2048.size inb) (fun _ => rfl)).squeeze S128x2048 squeezes_S1x128x2048_S128x2048)
            (.remote (Dev.tc n : Thread nD τ) ((M.slice (Rect.unit (s := S32x128x2048) off S1x128x2048.size inb) (fun _ => rfl)).squeeze S128x2048 squeezes_S1x128x2048_S128x2048)
              (.dma sS) hsc) (.dma sR) hsrc hdst hsem) k) Φ) := by
  unfold Lane0 Lane
  rw [sep_first (show 0 < 31 by decide) (lTodo l c)]
  iintro ⟨#HR, HO, ⟨Hs, Hat, Hrcv, Ht, Hts⟩⟩ Hk
  ihave Hh := (owns_halves (c : Thread nD τ) (wM l (slot l c 0)) fullShare (V.at l c 0)).1 $$ Hs
  icases Hh with ⟨Hl, Hr⟩
  ihave HI := (record_ls V K l c) $$ HR
  icases HI with ⟨%κ, -, #Hrs⟩
  iapply (lane_send V K l c (h := 0) (by decide) hH hn hM hoff hsS hsR) $$ [HO Hr Ht]
  · isplitr; · iexact HR
    isplitl [HO]; · iexact HO
    isplitl [Hr]; · iexact Hr
    isplitr; · iexact Hrs
    iexact Ht
  iintro ⟨HO, Hc⟩
  iapply Hk
  isplitl [HO]; · iexact HO
  isplitl [Hl]; · iexact Hl
  isplitr; · rw [Finset.range_zero, sep_nil]; iempintro
  isplitr; · rw [Finset.range_zero, sep_nil]; iempintro
  isplitl [Hat]; · iexact Hat
  isplitr; · iexact Hrs
  isplitl [Hc]; · iexact Hc
  isplitl [Hrcv]; · iexact Hrcv
  iexact Hts

/-- After `n + 1` sends and `n + 1` receives, the slot just received still whole. -/
def LaneR (l : Fin 4) (c : Dev nD) (n : ℕ) : sProp 𝕄 :=
  iprop(slotOwn V fullShare.left l c n ∗ slotOwn V fullShare l c (n + 1)
    ∗ bigSep (Finset.range n) (slotOwn V fullShare l c)
    ∗ bigSep (Finset.range (n + 1)) (fun h => semVal (lrC l c (slot l c (h + 1))) 0)
    ∗ atPos ER (lsC l c) n ∅ 0 ∗ cred (tallyAt (lsC l c) () NW)
    ∗ bigSep (Finset.Ico (n + 1) 31) (lRcv l c) ∗ bigSep (Finset.Ico (n + 1) 31) (lTodo l c))

/-- The next slot received. -/
theorem lane_get (l : Fin 4) (c : Dev nD) {t : ℕ} (ht : t < 31) {O : CellTallies nD τ sig Unit} (hO : Above (3 + (t + 1)) O)
    (hw : ∀ Kt : PUnit → sProp 𝕄, wpE (defs₀ (F := F)) 𝒱₀ (c : Thread nD τ) none Set.univ w Kt = waitSpec (c : Thread nD τ) Set.univ (.dma (lrS l (slot l c (t + 1)))) NW Kt) :
    (iprop(records V K ∗ levAts L lv ∗ owing c O ∗ Lane V l c t) : sProp 𝕄)
      ⊢ iprop(((owing c O ∗ LaneR V l c t) -∗ wpc c (k ⟨⟩) Φ) -∗ wpc c (.op w k) Φ) := by
  unfold Lane LaneR
  rw [sep_first ht (lRcv l c), sep_last t (fun h => semVal (lrC l c (slot l c (h + 1))) 0)]
  iintro ⟨HR, Hlev, HO, ⟨Hl, Hfull, Hz, Hat, -, Hc, ⟨Hrcv, Hrcvs⟩, Hts⟩⟩ Hk
  iapply (lane_recv V K l c (h := t) ht hO hw) $$ [HR Hlev HO Hrcv]
  · isplitl [HR]; · iexact HR
    isplitl [Hlev]; · iexact Hlev
    isplitl [HO]; · iexact HO
    iexact Hrcv
  iintro ⟨HO, Hnew, Hz'⟩
  iapply Hk
  isplitl [HO]; · iexact HO
  isplitl [Hl]; · iexact Hl
  isplitl [Hnew]; · iexact Hnew
  isplitl [Hfull]; · iexact Hfull
  isplitl [Hz' Hz]
  · isplitl [Hz']; · iexact Hz'
    iexact Hz
  isplitl [Hat]; · iexact Hat
  isplitl [Hc]; · iexact Hc
  isplitl [Hrcvs]; · iexact Hrcvs
  iexact Hts

/-- The previous slot back, and the one received sent on. -/
theorem lane_pass (l : Fin 4) (c : Dev nD) {t : ℕ} (ht : t < 30) {H : Fin 4 → ℕ} (hH : H l = t + 1)
    (hw : ∀ Kt : PUnit → sProp 𝕄, wpE (defs₀ (F := F)) 𝒱₀ (c : Thread nD τ) none Set.univ w Kt = waitSpec (c : Thread nD τ) Set.univ (.dma (lsS l)) NW Kt)
    {n : Dev nD} (hn : n = tgt l c) {M : Memref sig .tc .vmem S32x128x2048 .fp8e4m3} (hM : M = lnM l)
    {off : Fin 3 → ℕ} {inb : ∀ a, off a + S1x128x2048.size a ≤ S32x128x2048.size a} (hoff : off = ![(slot l c (t + 1)).val, 0, 0])
    {sS sR : DmaSem sig} (hsS : sS = lsS l) (hsR : sR = lrS l (slot l c (t + 1))) {hsc} {hsrc} {hdst} {hsem} :
    (iprop(records V K ∗ levAts L lv ∗ owing c (OL c H) ∗ LaneR V l c t) : sProp 𝕄)
      ⊢ iprop(((owing c (OL c (Function.update H l (t + 2))) ∗ Lane V l c (t + 1)) -∗ wpc c (k ⟨⟩) Φ)
        -∗ wpc c (.op w fun _ =>
            .op (.enqueueDma ((M.slice (Rect.unit (s := S32x128x2048) off S1x128x2048.size inb) (fun _ => rfl)).squeeze S128x2048 squeezes_S1x128x2048_S128x2048)
            (.remote (Dev.tc n : Thread nD τ) ((M.slice (Rect.unit (s := S32x128x2048) off S1x128x2048.size inb) (fun _ => rfl)).squeeze S128x2048 squeezes_S1x128x2048_S128x2048)
              (.dma sS) hsc) (.dma sR) hsrc hdst hsem) k) Φ) := by
  unfold Lane LaneR
  rw [sep_first (show t + 1 < 31 by omega) (lTodo l c), sep_last t (slotOwn V fullShare l c)]
  iintro ⟨#HR, #Hlev, HO, ⟨Hl, Hnew, Hfull, Hz, Hat, Hc, Hrcvs, ⟨Ht, Hts⟩⟩⟩ Hk
  iapply (lane_back V K l c (h := t) (by omega) (above_mono (above_OL c (n := 0) fun _ => Nat.zero_le _) (Nat.zero_le _)) hw) $$ [HO Hc Hat Hl]
  · isplitr; · iexact HR
    isplitr; · iexact Hlev
    isplitl [HO]; · iexact HO
    isplitl [Hc]; · iexact Hc
    isplitl [Hat]; · iexact Hat
    iexact Hl
  iintro ⟨HO, Hold, Hat, #Hrs⟩
  ihave Hh := (owns_halves (c : Thread nD τ) (wM l (slot l c (t + 1))) fullShare (V.at l c (t + 1))).1 $$ Hnew
  icases Hh with ⟨Hl, Hr⟩
  iapply (lane_send V K l c (h := t + 1) (by omega) hH hn hM hoff hsS hsR) $$ [HO Hr Ht]
  · isplitr; · iexact HR
    isplitl [HO]; · iexact HO
    isplitl [Hr]; · iexact Hr
    isplitr; · iexact Hrs
    iexact Ht
  iintro ⟨HO, Hc⟩
  iapply Hk
  isplitl [HO]; · iexact HO
  isplitl [Hl]; · iexact Hl
  isplitl [Hold Hfull]
  · isplitl [Hold]; · iexact Hold
    iexact Hfull
  isplitl [Hz]; · iexact Hz
  isplitl [Hat]; · iexact Hat
  isplitr; · iexact Hrs
  isplitl [Hc]; · iexact Hc
  isplitl [Hrcvs]; · iexact Hrcvs
  iexact Hts

/-- The last send read, after the last receive. -/
theorem lane_last (l : Fin 4) (c : Dev nD)
    (hw : ∀ Kt : PUnit → sProp 𝕄, wpE (defs₀ (F := F)) 𝒱₀ (c : Thread nD τ) none Set.univ w Kt = waitSpec (c : Thread nD τ) Set.univ (.dma (lsS l)) NW Kt) :
    (iprop(records V K ∗ levAts L lv ∗ owing c 0 ∗ LaneR V l c 30) : sProp 𝕄)
      ⊢ iprop(((owing c 0 ∗ LaneEnd V l c) -∗ wpc c (k ⟨⟩) Φ) -∗ wpc c (.op w k) Φ) := by
  unfold LaneR LaneEnd
  rw [sep_last 31 (slotOwn V fullShare l c), sep_last 30 (slotOwn V fullShare l c)]
  iintro ⟨#HR, #Hlev, HO, ⟨Hl, Hnew, Hfull, Hz, Hat, Hc, -, -⟩⟩ Hk
  iapply (lane_back V K l c (h := 30) (by decide) (above_zero _) hw) $$ [HO Hc Hat Hl]
  · isplitr; · iexact HR
    isplitr; · iexact Hlev
    isplitl [HO]; · iexact HO
    isplitl [Hc]; · iexact Hc
    isplitl [Hat]; · iexact Hat
    iexact Hl
  iintro ⟨HO, Hold, Hat, -⟩
  ihave HI := (record_ls V K l c) $$ HR
  icases HI with ⟨%κ, #HI, -⟩
  imod (cell_close ER (Rd V) (Set.mem_univ κ) (fun h => h) (R := 31) (g := lsC l c) (fun r hr => by rw [duties_ls, if_neg (by omega)])) $$ [Hat] with Hs
  · isplitr; · iexact HI
    iexact Hat
  iapply Hk
  isplitl [HO]; · iexact HO
  isplitl [Hnew Hold Hfull]
  · isplitl [Hnew]; · iexact Hnew
    isplitl [Hold]; · iexact Hold
    iexact Hfull
  isplitl [Hz]; · iexact Hz
  iexact Hs

end Cert.KernelIdeal.Gather

end
-- ==== Proof.Access.lean ====
/-
# Loads and stores of the pieces

The kernel names a slot, a row block or a quarter of the columns by offsets it computes; these lemmas take the offsets by
an equation.  With them: what the kernel's branch conditions say, which semaphore of an array a slot's is, and the step
through a branch that transfers to, or waits for, one other device.
-/
module

public import proofs.«01_k».proof.Proof.Hops

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Words -/

set_option maxRecDepth 100000 in
/-- A branch on the device's own word differing from `j`. -/
theorem ne_cond : ∀ c j : Fin 32,
    (Scalar.cmpi .ne (Scalar.extui (Scalar.cmpi .ne (meW c) (BitVec.ofNat 32 j.val)) : BitVec 32) 0#32 = 1#1) ↔ j ≠ c := by decide +kernel
theorem off_pw (q : Fin 32) : (![(pw q).toNat, 0, 0] : Fin 3 → ℕ) = ![q.val, 0, 0] := by rw [pw_toNat]

/-- Slot `q`'s receive semaphore, of the lane's array. -/
theorem arr0 {off : Fin 1 → ℕ} {inb : ∀ a, off a + S1.size a ≤ S32.size a} (q : Fin 32) (h : off = ![q.val]) :
    ((cc0_scratch9.slice (Rect.unit (s := S32) off S1.size inb)).squeeze S_ squeezes_S1_S_).sem = lrS 0 q := by
  subst h; revert q; decide +kernel
theorem arr1 {off : Fin 1 → ℕ} {inb : ∀ a, off a + S1.size a ≤ S32.size a} (q : Fin 32) (h : off = ![q.val]) :
    ((cc0_scratch11.slice (Rect.unit (s := S32) off S1.size inb)).squeeze S_ squeezes_S1_S_).sem = lrS 1 q := by
  subst h; revert q; decide +kernel
theorem arr2 {off : Fin 1 → ℕ} {inb : ∀ a, off a + S1.size a ≤ S32.size a} (q : Fin 32) (h : off = ![q.val]) :
    ((cc0_scratch13.slice (Rect.unit (s := S32) off S1.size inb)).squeeze S_ squeezes_S1_S_).sem = lrS 2 q := by
  subst h; revert q; decide +kernel
theorem arr3 {off : Fin 1 → ℕ} {inb : ∀ a, off a + S1.size a ≤ S32.size a} (q : Fin 32) (h : off = ![q.val]) :
    ((cc0_scratch15.slice (Rect.unit (s := S32) off S1.size inb)).squeeze S_ squeezes_S1_S_).sem = lrS 3 q := by
  subst h; revert q; decide +kernel

/-! ## Memory -/

variable {α : Type} {Φ : α → sProp (MT nD τ sig Unit (Elt F) ℕ UU ℕ)}

theorem slot_load (c : Dev nD) (l : Fin 4) (q : Fin 32) {M : Memref sig .tc .vmem S32x128x2048 .fp8e4m3} (hM : M = lnM l)
    {off : Fin 3 → ℕ} {inb : ∀ a, off a + S1x128x2048.size a ≤ S32x128x2048.size a} (h : off = ![q.val, 0, 0]) {hl}
    {k : (S1x128x2048.Idx → Elt F .fp8e4m3) → Prog (TpuEff nD τ sig (Elt F) Λ₀ .tc) α} {sh : PosShare TreeShare} {X : S1x128x2048.Idx → Elt F .fp8e4m3} :
    (owns (c : Thread nD τ) (wM l q) sh X : sProp 𝕄)
      ⊢ iprop((owns (c : Thread nD τ) (wM l q) sh X -∗ wpc c (k X) Φ)
        -∗ wpc c (.op (.load M (Rect.unit (s := S32x128x2048) off S1x128x2048.size inb).toLoadRect hl) k) Φ) := by
  subst hM h
  exact wp_load_slice 𝒱₀ (c : Thread nD τ) none Set.univ (lnM l) (wR q) (fun _ => rfl)

theorem slot_store (c : Dev nD) (l : Fin 4) (q : Fin 32) {M : Memref sig .tc .vmem S32x128x2048 .fp8e4m3} (hM : M = lnM l)
    {off : Fin 3 → ℕ} {inb : ∀ a, off a + S1x128x2048.size a ≤ S32x128x2048.size a} (h : off = ![q.val, 0, 0])
    {w : S1x128x2048.Idx → Elt F .fp8e4m3} {hx hm}
    {k : PUnit → Prog (TpuEff nD τ sig (Elt F) Λ₀ .tc) α} {X : S1x128x2048.Idx → Elt F .fp8e4m3} :
    (owns (c : Thread nD τ) (wM l q) fullShare X : sProp 𝕄)
      ⊢ iprop((owns (c : Thread nD τ) (wM l q) fullShare w -∗ wpc c (k ⟨⟩) Φ)
        -∗ wpc c (.op (.store M (Rect.unit (s := S32x128x2048) off S1x128x2048.size inb) w Finset.univ hx hm) k) Φ) := by
  subst hM h
  exact wp_store_slice 𝒱₀ (c : Thread nD τ) none Set.univ (lnM l) (wR q) (fun _ => rfl)

theorem blk_load (c : Dev nD) (q : Fin 32) {off : Fin 3 → ℕ} {inb : ∀ a, off a + S1x128x128.size a ≤ S32x128x128.size a} (h : off = ![q.val, 0, 0]) {hl}
    {k : (S1x128x128.Idx → Elt F .fp8e4m3) → Prog (TpuEff nD τ sig (Elt F) Λ₀ .tc) α} {sh : PosShare TreeShare} {X : S1x128x128.Idx → Elt F .fp8e4m3} :
    (owns (c : Thread nD τ) (xM q) sh X : sProp 𝕄)
      ⊢ iprop((owns (c : Thread nD τ) (xM q) sh X -∗ wpc c (k X) Φ)
        -∗ wpc c (.op (.load xbM (Rect.unit (s := S32x128x128) off S1x128x128.size inb).toLoadRect hl) k) Φ) := by
  subst h
  exact wp_load_slice 𝒱₀ (c : Thread nD τ) none Set.univ xbM (xR q) (fun _ => rfl)

theorem blk_store (c : Dev nD) (q : Fin 32) {off : Fin 3 → ℕ} {inb : ∀ a, off a + S1x128x128.size a ≤ S32x128x128.size a} (h : off = ![q.val, 0, 0])
    {w : S1x128x128.Idx → Elt F .fp8e4m3} {hx hm}
    {k : PUnit → Prog (TpuEff nD τ sig (Elt F) Λ₀ .tc) α} {X : S1x128x128.Idx → Elt F .fp8e4m3} :
    (owns (c : Thread nD τ) (xM q) fullShare X : sProp 𝕄)
      ⊢ iprop((owns (c : Thread nD τ) (xM q) fullShare w -∗ wpc c (k ⟨⟩) Φ)
        -∗ wpc c (.op (.store xbM (Rect.unit (s := S32x128x128) off S1x128x128.size inb) w Finset.univ hx hm) k) Φ) := by
  subst h
  exact wp_store_slice 𝒱₀ (c : Thread nD τ) none Set.univ xbM (xR q) (fun _ => rfl)

theorem row_load (c : Dev nD) (j : Fin 32) {off : Fin 2 → ℕ} {inb : ∀ a, off a + S128x128.size a ≤ S4096x128.size a} (h : off = ![128 * j.val, 0]) {hl}
    {k : (S128x128.Idx → Elt F .fp8e4m3) → Prog (TpuEff nD τ sig (Elt F) Λ₀ .tc) α} {sh : PosShare TreeShare} {X : S128x128.Idx → Elt F .fp8e4m3} :
    (owns (c : Thread nD τ) (rowM j) sh X : sProp 𝕄)
      ⊢ iprop((owns (c : Thread nD τ) (rowM j) sh X -∗ wpc c (k X) Φ)
        -∗ wpc c (.op (.load x8M (Rect.unit (s := S4096x128) off S128x128.size inb).toLoadRect hl) k) Φ) := by
  subst h
  exact wp_load_slice 𝒱₀ (c : Thread nD τ) none Set.univ x8M (rowR j) (fun _ => rfl)

theorem out_load (c : Dev nD) (j : Fin 4) {off : Fin 2 → ℕ} {inb : ∀ a, off a + S128x2048.size a ≤ S128x8192.size a} (h : off = ![0, 2048 * j.val]) {hl}
    {k : (S128x2048.Idx → Elt F .f32) → Prog (TpuEff nD τ sig (Elt F) Λ₀ .tc) α} {sh : PosShare TreeShare} {X : S128x2048.Idx → Elt F .f32} :
    (owns (c : Thread nD τ) (outQ j) sh X : sProp 𝕄)
      ⊢ iprop((owns (c : Thread nD τ) (outQ j) sh X -∗ wpc c (k X) Φ)
        -∗ wpc c (.op (.load outM (Rect.unit (s := S128x8192) off S128x2048.size inb).toLoadRect hl) k) Φ) := by
  subst h
  exact wp_load_slice 𝒱₀ (c : Thread nD τ) none Set.univ outM (cR j) (fun _ => rfl)

theorem out_store (c : Dev nD) (j : Fin 4) {off : Fin 2 → ℕ} {inb : ∀ a, off a + S128x2048.size a ≤ S128x8192.size a} (h : off = ![0, 2048 * j.val])
    {w : S128x2048.Idx → Elt F .f32} {hx hm}
    {k : PUnit → Prog (TpuEff nD τ sig (Elt F) Λ₀ .tc) α} {X : S128x2048.Idx → Elt F .f32} :
    (owns (c : Thread nD τ) (outQ j) fullShare X : sProp 𝕄)
      ⊢ iprop((owns (c : Thread nD τ) (outQ j) fullShare w -∗ wpc c (k ⟨⟩) Φ)
        -∗ wpc c (.op (.store outM (Rect.unit (s := S128x8192) off S128x2048.size inb) w Finset.univ hx hm) k) Φ) := by
  subst h
  exact wp_store_slice 𝒱₀ (c : Thread nD τ) none Set.univ outM (cR j) (fun _ => rfl)

/-- The rectangle of a whole activation buffer. -/
theorem emb_all {β : Type} (X : S4096x128.Idx → β) (inb : ∀ a, (![0, 0] : Fin 2 → ℕ) a + S4096x128.size a ≤ S4096x128.size a) :
    (fun j => X ((Rect.unit (s := S4096x128) ![0, 0] S4096x128.size inb).emb j)) = X := by
  funext j
  refine congrArg X (funext fun a => Fin.ext ?_)
  rw [Rect.emb_apply]
  match a with
  | ⟨0, _⟩ => show 0 + 1 * (j (0 : Fin 2)).val = (j (0 : Fin 2)).val; omega
  | ⟨1, _⟩ => show 0 + 1 * (j (1 : Fin 2)).val = (j (1 : Fin 2)).val; omega

theorem x_load (c : Dev nD) {M : Memref sig .tc .vmem S4096x128 .fp8e4m3} {inb} {hl}
    {k : (S4096x128.Idx → Elt F .fp8e4m3) → Prog (TpuEff nD τ sig (Elt F) Λ₀ .tc) α} {sh : PosShare TreeShare} {X : S4096x128.Idx → Elt F .fp8e4m3} :
    (owns (c : Thread nD τ) M sh X : sProp 𝕄)
      ⊢ iprop((owns (c : Thread nD τ) M sh X -∗ wpc c (k X) Φ)
        -∗ wpc c (.op (.load M (Rect.unit (s := S4096x128) ![0, 0] S4096x128.size inb).toLoadRect hl) k) Φ) := by
  iintro H Hk
  iapply (wp_load_part 𝒱₀ (c : Thread nD τ) none Set.univ M (Rect.unit (s := S4096x128) ![0, 0] S4096x128.size inb) (X := X)) $$ H
  rw [emb_all]
  iexact Hk

theorem x_store (c : Dev nD) {M : Memref sig .tc .vmem S4096x128 .fp8e4m3} {inb} {w : S4096x128.Idx → Elt F .fp8e4m3} {hx hm}
    {k : PUnit → Prog (TpuEff nD τ sig (Elt F) Λ₀ .tc) α} {X : S4096x128.Idx → Elt F .fp8e4m3} :
    (owns (c : Thread nD τ) M fullShare X : sProp 𝕄)
      ⊢ iprop((owns (c : Thread nD τ) M fullShare w -∗ wpc c (k ⟨⟩) Φ)
        -∗ wpc c (.op (.store M (Rect.unit (s := S4096x128) ![0, 0] S4096x128.size inb) w Finset.univ hx hm) k) Φ) := by
  have hcov : (Finset.univ : Finset Unit).biUnion (fun _ => (Rect.unit (s := S4096x128) ![0, 0] S4096x128.size inb).set) = Finset.univ := by
    refine Finset.eq_univ_iff_forall.mpr fun i => Finset.mem_biUnion.mpr ⟨(), Finset.mem_univ _, Rect.mem_set_unit.mpr fun a => ?_⟩
    have h := (i a).isLt
    match a with
    | ⟨0, _⟩ => exact ⟨Nat.zero_le _, (Nat.zero_add _).symm ▸ h⟩
    | ⟨1, _⟩ => exact ⟨Nat.zero_le _, (Nat.zero_add _).symm ▸ h⟩
  have h1 := owns_rects (c : Thread nD τ) M fullShare (fun _ : Unit => Rect.unit (s := S4096x128) ![0, 0] S4096x128.size inb) (fun _ _ => rfl)
    (fun t t' h => absurd rfl h) hcov X (Val := Elt F) (Ix := Unit) (Name := ℕ) (U := UU) (Lvl := ℕ)
  have h2 := owns_of_rects (c : Thread nD τ) M fullShare (fun _ : Unit => Rect.unit (s := S4096x128) ![0, 0] S4096x128.size inb) (fun _ _ => rfl)
    (fun t t' h => absurd rfl h) hcov w (Val := Elt F) (Ix := Unit) (Name := ℕ) (U := UU) (Lvl := ℕ)
  rw [emb_all] at h1 h2
  rw [show (Finset.univ : Finset Unit) = {()} from rfl, BI.bigSep_singleton] at h1 h2
  iintro H Hk
  ihave H := (show (owns (c : Thread nD τ) M fullShare X : sProp 𝕄)
    ⊢ owns (c : Thread nD τ) (M.slice (Rect.unit (s := S4096x128) ![0, 0] S4096x128.size inb) (fun _ => rfl)) fullShare X from h1) $$ H
  iapply (wp_store_slice 𝒱₀ (c : Thread nD τ) none Set.univ M (Rect.unit (s := S4096x128) ![0, 0] S4096x128.size inb) (fun _ => rfl)) $$ H
  iintro H
  iapply Hk
  iapply (show (owns (c : Thread nD τ) (M.slice (Rect.unit (s := S4096x128) ![0, 0] S4096x128.size inb) (fun _ => rfl)) fullShare w : sProp 𝕄)
    ⊢ owns (c : Thread nD τ) M fullShare w from h2)
  iexact H

/-! ## Branches -/

/-- A branch taken on every device but `j`: one operation there, nothing on `j`. -/
theorem if_step (c : Dev nD) (m m' : ℕ) (hm : m < 32) (hm' : m + 1 = m') (St : ℕ → sProp 𝕄) (hs : St (c.val + 1) = St c.val) {C : Prop} [Decidable C]
    (hC : C ↔ (Scalar.cmpi .ne (Scalar.extui (Scalar.cmpi .ne (meW c) (BitVec.ofNat 32 m)) : BitVec 32) 0#32 = 1#1))
    {T : C → Prog (TpuEff nD τ sig (Elt F) Λ₀ .tc) α} {N : ¬C → Prog (TpuEff nD τ sig (Elt F) Λ₀ .tc) α}
    {J : Prog (TpuEff nD τ sig (Elt F) Λ₀ .tc) α} (hN : ∀ h, N h = J)
    {e : C → TpuEff nD τ sig (Elt F) Λ₀ .tc PUnit} (hT : ∀ h, T h = (Bind.bind (Prog.lift (e h)) fun _ => J)) {R : sProp 𝕄}
    (hop : ∀ h, (⟨m, hm⟩ : Dev nD) ≠ c → ∀ k : PUnit → Prog (TpuEff nD τ sig (Elt F) Λ₀ .tc) α,
      St m ⊢ iprop((St (m + 1) -∗ wpc c (k ⟨⟩) Φ) -∗ wpc c (.op (e h) k) Φ))
    (hk : iprop(St m' ∗ R) ⊢ wpc c J Φ) :
    iprop(St m ∗ R) ⊢ wpc c (dite C T N) Φ := by
  subst hm'
  replace hC := hC.trans (ne_cond c ⟨m, hm⟩)
  by_cases h : C
  · rw [dif_pos h, hT]
    simp only [Prog.lift, Prog.bind_op, Prog.bind_ret, Prog.pure_eq_ret]
    iintro ⟨HS, HR⟩
    iapply (hop h (hC.mp h) fun _ => J) $$ HS
    iintro HS
    iapply hk
    isplitl [HS]; · iexact HS
    iexact HR
  · rw [dif_neg h, hN]
    have e : (⟨m, hm⟩ : Dev nD) = c := by
      by_contra e; exact h (hC.mpr e)
    have e' : m = c.val := congrArg Fin.val e
    subst e'
    rw [← hs]
    exact hk

end Cert.KernelIdeal.Gather

end
-- ==== Proof.Sends.lean ====
/-
# The activation transfers

The parts of the kernel's body that send an activation block to each other device, wait for the blocks from the others,
and wait for its own to have been read.
-/
module

public import proofs.«01_k».proof.Proof.Access
public import proofs.«01_k».proof.Proof.Gen.KernelIdeal.Skeleton

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

abbrev sxM : Memref sig .tc .smem S1 .f32 := Memref.whole cc0_stg2_0
abbrev swM : Memref sig .tc .smem S1 .f32 := Memref.whole cc0_stg3_0

universe u
/-- A part of the body on the kernel's buffers and semaphores. -/
abbrev app {β : Sort u} (f : (arg0 : Memref sig .tc .vmem S4096x128 .fp8e4m3) → arg0.IsWhole → (arg1 : Memref sig .tc .vmem S128x8192 .fp8e4m3) → arg1.IsWhole →
    (arg2 : Memref sig .tc .smem S1 .f32) → arg2.IsWhole → (arg3 : Memref sig .tc .smem S1 .f32) → arg3.IsWhole → (arg4 : Memref sig .tc .vmem S128x8192 .f32) → arg4.IsWhole →
    (arg5 : Memref sig .tc .vmem S4096x128 .fp8e4m3) → arg5.IsWhole → (arg6 : Memref sig .tc .vmem S32x128x128 .fp8e4m3) → arg6.IsWhole →
    (arg7 : Memref sig .tc .vmem S32x128x2048 .fp8e4m3) → arg7.IsWhole → (arg8 : Memref sig .tc .vmem S32x128x2048 .fp8e4m3) → arg8.IsWhole →
    (arg9 : Memref sig .tc .vmem S32x128x2048 .fp8e4m3) → arg9.IsWhole → (arg10 : Memref sig .tc .vmem S32x128x2048 .fp8e4m3) → arg10.IsWhole →
    (arg11 arg12 arg13 : DmaSems sig S_) → (arg14 : DmaSems sig S32) → (arg15 : DmaSems sig S_) → (arg16 : DmaSems sig S32) → (arg17 : DmaSems sig S_) → (arg18 : DmaSems sig S32) →
    (arg19 : DmaSems sig S_) → (arg20 : DmaSems sig S32) → β) : β :=
  f xinM (Memref.isWhole_whole _) winM (Memref.isWhole_whole _) sxM (Memref.isWhole_whole _) swM (Memref.isWhole_whole _) outM (Memref.isWhole_whole _)
    x8M (Memref.isWhole_whole _) xbM (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13 cc0_scratch14 cc0_scratch15

variable (V : Cts F) (K : Dev nD × Fin 135 → ℕ)
variable {α : Type} {Φ : α → sProp (MT nD τ sig Unit (Elt F) ℕ UU ℕ)} {J : PUnit → Prog (TpuEff nD τ sig (Elt F) Λ₀ .tc) α} {R : sProp (MT nD τ sig Unit (Elt F) ℕ UU ℕ)}

/-- While the blocks for the devices from `J` are to be sent. -/
def SendSt (c : Dev nD) (O : CellTallies nD τ sig Unit) (J : ℕ) : sProp 𝕄 := iprop(records V K ∗ owing c (OX (rem c J) + O) ∗ XSt V c J)

/-- A part that ends hands its state on. -/
theorem ret_step (c : Dev nD) {β : Type} (S : sProp 𝕄) (a : β) {Φ : β → sProp 𝕄} : iprop(S ∗ (S -∗ Φ a)) ⊢ wpc c (.ret a) Φ := by
  show iprop(S ∗ (S -∗ Φ a)) ⊢ wp _ _ _ (Prog.ret a) Φ
  show iprop(S ∗ (S -∗ Φ a)) ⊢ wp _ _ _ (Prog.ret a) Φ
  rw [wp_ret]
  iintro ⟨HS, Hk⟩
  imodintro
  iapply Hk
  iexact HS

theorem wpc_ret (c : Dev nD) {β : Type} (a : β) {Φ : β → sProp 𝕄} : Φ a ⊢ wpc c (.ret a) Φ := by
  show Φ a ⊢ wp _ _ _ (Prog.ret a) Φ
  rw [wp_ret]
  iintro H
  imodintro
  iexact H
theorem wpc_bind (c : Dev nD) {β γ : Type} (m : Prog (TpuEff nD τ sig (Elt F) Λ₀ .tc) β) (f : β → Prog (TpuEff nD τ sig (Elt F) Λ₀ .tc) γ) {Φ : γ → sProp 𝕄} :
    wpc c m (fun a => wpc c (f a) Φ) ⊢ wpc c (m >>= f) Φ := by
  show wp _ _ _ m (fun a => wp _ _ _ (f a) Φ) ⊢ wp _ _ _ (m >>= f) Φ
  rw [wp_bind]

theorem send_skip (c : Dev nD) (O : CellTallies nD τ sig Unit) : SendSt V K c O (c.val + 1) = SendSt V K c O c.val := by
  unfold SendSt
  rw [rem_self, xst_skip]

theorem send_op (c j : Dev nD) (O : CellTallies nD τ sig Unit) (hj : j ≠ c) {n : Dev nD} (hn : n = j)
    {offs : Fin 2 → ℕ} {inbs : ∀ a, offs a + S128x128.size a ≤ S4096x128.size a} (hoffs : offs = ![128 * j.val, 0])
    {offd : Fin 3 → ℕ} {inbd : ∀ a, offd a + S1x128x128.size a ≤ S32x128x128.size a} (hoffd : offd = ![(place c).val, 0, 0])
    {hsc hsrc hdst hsem} (k : PUnit → Prog (TpuEff nD τ sig (Elt F) Λ₀ .tc) α) :
    SendSt V K c O j.val
      ⊢ iprop((SendSt V K c O (j.val + 1) -∗ wpc c (k ⟨⟩) Φ) -∗ wpc c (.op (.enqueueDma (x8M.slice (Rect.unit (s := S4096x128) offs S128x128.size inbs) (fun _ => rfl))
            (.remote (Dev.tc n : Thread nD τ) ((xbM.slice (Rect.unit (s := S32x128x128) offd S1x128x128.size inbd) (fun _ => rfl)).squeeze S128x128 squeezes_S1x128x128_S128x128)
              (.dma cc0_scratch6.sem) hsc) (.dma cc0_scratch7.sem) hsrc hdst hsem) k) Φ) := by
  unfold SendSt
  iintro ⟨#HR, HO, HX⟩ Hk
  iapply (x_send V K c j hj O hn hoffs hoffd (by decide) (by decide)) $$ [HO HX]
  · isplitr; · iexact HR
    isplitl [HO]; · iexact HO
    iexact HX
  iintro ⟨HO, HX⟩
  iapply Hk
  isplitr; · iexact HR
  isplitl [HO]; · iexact HO
  iexact HX

/-- While the waits of a cell from device `J` on are to come. -/
def WaitSt (c : Dev nD) (sm : SemLoc sig) (O : CellTallies nD τ sig Unit) (J : ℕ) : sProp 𝕄 := iprop(records V K ∗ levAts L lv ∗ owing c O ∗ Wt V c sm J)

theorem wait_skip (c : Dev nD) (sm : SemLoc sig) (O : CellTallies nD τ sig Unit) : WaitSt V K c sm O (c.val + 1) = WaitSt V K c sm O c.val := by
  unfold WaitSt
  rw [wt_skip]

theorem recv_op (c j : Dev nD) {O : CellTallies nD τ sig Unit} (hO : Above 2 O) (hj : j ≠ c)
    {off : Fin 3 → ℕ} {inb : ∀ a, off a + S1x128x128.size a ≤ S32x128x128.size a} (hoff : off = ![j.val, 0, 0])
    {src : Memref sig .tc .vmem S128x128 .fp8e4m3} {hsrc hdst} (k : PUnit → Prog (TpuEff nD τ sig (Elt F) Λ₀ .tc) α) :
    WaitSt V K c (.dma xrS) O j.val
      ⊢ iprop((WaitSt V K c (.dma xrS) O (j.val + 1) -∗ wpc c (k ⟨⟩) Φ) -∗ wpc c (.op (.waitDma2 cc0_scratch7.sem src
          ((xbM.slice (Rect.unit (s := S32x128x128) off S1x128x128.size inb) (fun _ => rfl)).squeeze S128x128 squeezes_S1x128x128_S128x128) hsrc hdst) k) Φ) := by
  subst hoff
  unfold WaitSt
  iintro ⟨#HR, #Hlev, HO, HW⟩ Hk
  ihave HI := (record_xr V K c) $$ HR
  iapply (wt_step V c j (sm := .dma xrS) hj (wait_spec c xrS rfl (NX_eq j)) (expect_xr V c) (last_xr V c) hO) $$ [HI HO HW]
  · isplitl [HI]; · iexact HI
    isplitr; · iexact Hlev
    isplitl [HO]; · iexact HO
    iexact HW
  iintro ⟨HO, HW⟩
  iapply Hk
  isplitr; · iexact HR
  isplitr; · iexact Hlev
  isplitl [HO]; · iexact HO
  iexact HW

theorem sent_op (c j : Dev nD) {O : CellTallies nD τ sig Unit} (hO : Above 0 O) (hj : j ≠ c)
    {off : Fin 2 → ℕ} {inb : ∀ a, off a + S128x128.size a ≤ S4096x128.size a} (hoff : off = ![128 * j.val, 0])
    {src : Memref sig .tc .vmem S128x128 .fp8e4m3} {hsrc hdst} (k : PUnit → Prog (TpuEff nD τ sig (Elt F) Λ₀ .tc) α) :
    WaitSt V K c (.dma xsS) O j.val
      ⊢ iprop((WaitSt V K c (.dma xsS) O (j.val + 1) -∗ wpc c (k ⟨⟩) Φ) -∗ wpc c (.op (.waitDma2 cc0_scratch6.sem src
          (x8M.slice (Rect.unit (s := S4096x128) off S128x128.size inb) (fun _ => rfl)) hsrc hdst) k) Φ) := by
  subst hoff
  unfold WaitSt
  iintro ⟨#HR, #Hlev, HO, HW⟩ Hk
  ihave HI := (record_xs V K c) $$ HR
  iapply (wt_step V c j (sm := .dma xsS) hj (wait_spec c xsS rfl (NX_row j)) (expect_xs V c) (last_xs V c) hO) $$ [HI HO HW]
  · isplitl [HI]; · iexact HI
    isplitr; · iexact Hlev
    isplitl [HO]; · iexact HO
    iexact HW
  iintro ⟨HO, HW⟩
  iapply Hk
  isplitr; · iexact HR
  isplitr; · iexact Hlev
  isplitl [HO]; · iexact HO
  iexact HW

attribute [local irreducible] instDecidableEqBitVec

theorem part11 (c : Dev nD) (O : CellTallies nD τ sig Unit) {v2 v147 : BitVec 32} (hv : v147 = pw (place c)) (hw1 : k0_chk1 c v147) {Φ : PUnit → sProp 𝕄} :
    iprop(SendSt V K c O 3 ∗ (SendSt V K c O 13 -∗ Φ ⟨⟩)) ⊢ wpc c (app (k0_part11 (F := F)) c v2 v147 hw1) Φ := by
  subst hv
  rw [k0_part11_eq_skeleton]
  delta app k0_part11_skel
  beta_reduce
  extract_lets
  iterate 10
    refine if_step c _ _ (by decide) rfl (SendSt V K c O) (send_skip V K c O) (by exact Iff.rfl) (by exact fun _ => rfl) (by exact fun _ => rfl)
      (by exact fun _ hj k => send_op V K c _ O hj rfl rfl (off_pw (place c)) k) ?_
  exact ret_step c _ _

theorem part12 (c : Dev nD) (O : CellTallies nD τ sig Unit) {v2 v147 : BitVec 32} (hv : v147 = pw (place c)) (hw1 : k0_chk1 c v147) {Φ : PUnit → sProp 𝕄} :
    iprop(SendSt V K c O 13 ∗ (SendSt V K c O 23 -∗ Φ ⟨⟩)) ⊢ wpc c (app (k0_part12 (F := F)) c v2 v147 hw1) Φ := by
  subst hv
  rw [k0_part12_eq_skeleton]
  delta app k0_part12_skel
  beta_reduce
  extract_lets
  iterate 10
    refine if_step c _ _ (by decide) rfl (SendSt V K c O) (send_skip V K c O) (by exact Iff.rfl) (by exact fun _ => rfl) (by exact fun _ => rfl)
      (by exact fun _ hj k => send_op V K c _ O hj rfl rfl (off_pw (place c)) k) ?_
  exact ret_step c _ _

theorem part13 (c : Dev nD) (O : CellTallies nD τ sig Unit) {v2 v147 : BitVec 32} (hv : v147 = pw (place c)) (hw1 : k0_chk1 c v147) (v178 : BitVec 32) {Φ : PUnit → sProp 𝕄} :
    iprop(SendSt V K c O 23 ∗ (SendSt V K c O 32 -∗ Φ ⟨⟩)) ⊢ wpc c (app (k0_part13 (F := F)) c v2 v147 hw1 v178) Φ := by
  subst hv
  rw [k0_part13_eq_skeleton]
  delta app k0_part13_skel
  beta_reduce
  extract_lets
  iterate 9
    refine if_step c _ _ (by decide) rfl (SendSt V K c O) (send_skip V K c O) (by exact Iff.rfl) (by exact fun _ => rfl) (by exact fun _ => rfl)
      (by exact fun _ hj k => send_op V K c _ O hj rfl rfl (off_pw (place c)) k) ?_
  exact ret_step c _ _

theorem part16 (c : Dev nD) {O : CellTallies nD τ sig Unit} (hO : Above 2 O) {v2 : BitVec 32} (hv2 : v2 = meW c) {Φ : BitVec 32 → sProp 𝕄} :
    iprop(WaitSt V K c (.dma xrS) O 1 ∗ (WaitSt V K c (.dma xrS) O 11 -∗ Φ 11#32)) ⊢ wpc c (app (k0_part16 (F := F)) v2 1#32) Φ := by
  subst hv2
  rw [k0_part16_eq_skeleton]
  delta app k0_part16_skel
  beta_reduce
  extract_lets
  iterate 10
    refine if_step c _ _ (by decide) rfl (WaitSt V K c (.dma xrS) O) (wait_skip V K c _ O) (by exact Iff.rfl) (by exact fun _ => rfl) (by exact fun _ => rfl)
      (by exact fun _ hj k => recv_op V K c _ hO hj rfl k) ?_
  exact ret_step c _ _

theorem part17 (c : Dev nD) {O : CellTallies nD τ sig Unit} (hO : Above 2 O) {v2 : BitVec 32} (hv2 : v2 = meW c) {Φ : BitVec 32 → sProp 𝕄} :
    iprop(WaitSt V K c (.dma xrS) O 11 ∗ (WaitSt V K c (.dma xrS) O 21 -∗ Φ 21#32)) ⊢ wpc c (app (k0_part17 (F := F)) v2 11#32) Φ := by
  subst hv2
  rw [k0_part17_eq_skeleton]
  delta app k0_part17_skel
  beta_reduce
  extract_lets
  iterate 10
    refine if_step c _ _ (by decide) rfl (WaitSt V K c (.dma xrS) O) (wait_skip V K c _ O) (by exact Iff.rfl) (by exact fun _ => rfl) (by exact fun _ => rfl)
      (by exact fun _ hj k => recv_op V K c _ hO hj rfl k) ?_
  exact ret_step c _ _

theorem part18 (c : Dev nD) {O : CellTallies nD τ sig Unit} (hO : Above 2 O) {v2 : BitVec 32} (hv2 : v2 = meW c) {Φ : BitVec 32 → sProp 𝕄} :
    iprop(WaitSt V K c (.dma xrS) O 21 ∗ (WaitSt V K c (.dma xrS) O 31 -∗ Φ 31#32)) ⊢ wpc c (app (k0_part18 (F := F)) v2 21#32) Φ := by
  subst hv2
  rw [k0_part18_eq_skeleton]
  delta app k0_part18_skel
  beta_reduce
  extract_lets
  iterate 10
    refine if_step c _ _ (by decide) rfl (WaitSt V K c (.dma xrS) O) (wait_skip V K c _ O) (by exact Iff.rfl) (by exact fun _ => rfl) (by exact fun _ => rfl)
      (by exact fun _ hj k => recv_op V K c _ hO hj rfl k) ?_
  exact ret_step c _ _

theorem part23 (c : Dev nD) {O : CellTallies nD τ sig Unit} (hO : Above 0 O) {v2 v147 : BitVec 32} (hv : v147 = pw (place c)) (hw1 : k0_chk1 c v147) (v : BitVec 1) {Φ : BitVec 1 → sProp 𝕄} :
    iprop(WaitSt V K c (.dma xsS) O 5 ∗ (WaitSt V K c (.dma xsS) O 15 -∗ Φ (Scalar.cmpi .ne v2 15#32))) ⊢ wpc c (app (k0_part23 (F := F)) c v2 v147 hw1 v) Φ := by
  subst hv
  rw [k0_part23_eq_skeleton]
  delta app k0_part23_skel
  beta_reduce
  extract_lets
  iterate 10
    refine if_step c _ _ (by decide) rfl (WaitSt V K c (.dma xsS) O) (wait_skip V K c _ O) (by exact Iff.rfl) (by exact fun _ => rfl) (by exact fun _ => rfl)
      (by exact fun _ hj k => sent_op V K c _ hO hj rfl k) ?_
  exact ret_step c _ _

theorem part24 (c : Dev nD) {O : CellTallies nD τ sig Unit} (hO : Above 0 O) {v2 v147 : BitVec 32} (hv : v147 = pw (place c)) (hw1 : k0_chk1 c v147) (v : BitVec 1) {Φ : BitVec 1 → sProp 𝕄} :
    iprop(WaitSt V K c (.dma xsS) O 15 ∗ (WaitSt V K c (.dma xsS) O 25 -∗ Φ (Scalar.cmpi .ne v2 25#32))) ⊢ wpc c (app (k0_part24 (F := F)) c v2 v147 hw1 v) Φ := by
  subst hv
  rw [k0_part24_eq_skeleton]
  delta app k0_part24_skel
  beta_reduce
  extract_lets
  iterate 10
    refine if_step c _ _ (by decide) rfl (WaitSt V K c (.dma xsS) O) (wait_skip V K c _ O) (by exact Iff.rfl) (by exact fun _ => rfl) (by exact fun _ => rfl)
      (by exact fun _ hj k => sent_op V K c _ hO hj rfl k) ?_
  exact ret_step c _ _

end Cert.KernelIdeal.Gather

end
-- ==== Proof.Trip.lean ====
/-
# The ring's trips

The first hop of each lane, one trip of the main loop, and the last hop: each lane's slot received, the previous send
taken back, the slot sent on, and the products added into the four quarters of the result.
-/
module

public import proofs.«01_k».proof.Proof.Sends

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (V : Cts F) (K : Dev nD × Fin 135 → ℕ)
variable {α : Type} {Φ : α → sProp (MT nD τ sig Unit (Elt F) ℕ UU ℕ)}

/-! ## Values -/

/-- Quarter `l` of the result after `n` hops. -/
def AQ (c : Dev nD) (l : Fin 4) : ℕ → S128x2048.Idx → Elt F .f32
  | 0 => k0_pay28 (V.xb c (slot l c 0)) (V.at l c 0)
  | n + 1 => k0_pay1 (AQ c l n) (V.xb c (slot l c (n + 1))) (V.at l c (n + 1))
/-- Quarter `l` of the result. -/
def fin (s : F .f32) (c : Dev nD) (l : Fin 4) : S128x2048.Idx → Elt F .f32 :=
  k0_pay35 s (AQ V c l 30) (V.xb c (slot l c 31)) (V.at l c 31)

/-! ## States -/

/-- Every device's activation block. -/
def XB (c : Dev nD) : sProp 𝕄 := bigSep Finset.univ fun q => owns (c : Thread nD τ) (xM q) fullShare (V.xb c q)

theorem xb_load (c : Dev nD) (q : Fin 32) {off : Fin 3 → ℕ} {inb : ∀ a, off a + S1x128x128.size a ≤ S32x128x128.size a} (h : off = ![q.val, 0, 0]) {hl}
    {k : (S1x128x128.Idx → Elt F .fp8e4m3) → Prog (TpuEff nD τ sig (Elt F) Λ₀ .tc) α} :
    XB V c ⊢ iprop((XB V c -∗ wpc c (k (V.xb c q)) Φ)
        -∗ wpc c (.op (.load xbM (Rect.unit (s := S32x128x128) off S1x128x128.size inb).toLoadRect hl) k) Φ) := by
  unfold XB
  rw [sep_take (Finset.mem_univ q)]
  iintro ⟨H, HX⟩ Hk
  iapply (blk_load c q h) $$ H
  iintro H
  iapply Hk
  isplitl [H]; · iexact H
  iexact HX

/-- How many hops each lane has sent when the lanes before `m` are one ahead. -/
def Hm (a b m : ℕ) : Fin 4 → ℕ := fun l => if l.val < m then b else a
theorem Hm_at (a b : ℕ) (l : Fin 4) : Hm a b l.val l = a := if_neg (Nat.lt_irrefl _)
theorem Hm_update (a b : ℕ) (l : Fin 4) : Function.update (Hm a b l.val) l b = Hm a b (l.val + 1) := by
  funext i
  by_cases h : i = l
  · subst h; rw [Function.update_self]; exact (if_pos (Nat.lt_succ_self _)).symm
  · rw [Function.update_of_ne h]
    have := Fin.val_ne_of_ne h
    unfold Hm
    by_cases h' : i.val < l.val
    · rw [if_pos h', if_pos (by omega)]
    · rw [if_neg h', if_neg (by omega)]
theorem Hm_zero (a b : ℕ) : Hm a b 0 = fun _ => a := funext fun l => if_neg (Nat.not_lt_zero _)
theorem Hm_four (a b : ℕ) : Hm a b 4 = fun _ => b := funext fun l => if_pos l.isLt
theorem Hm_le (a m : ℕ) (l : Fin 4) : a ≤ Hm a (a + 1) m l := by unfold Hm; split <;> omega

/-! ## Lane steps as the kernel writes them -/

theorem lane_spec (c : Dev nD) (l : Fin 4) (q : Fin 32) {sem t : DmaSem sig} (hsem : sem = t)
    {M : Memref sig .tc .vmem S32x128x2048 .fp8e4m3} (hM : M = lnM l)
    {off : Fin 3 → ℕ} {inb : ∀ a, off a + S1x128x2048.size a ≤ S32x128x2048.size a} (hoff : off = ![q.val, 0, 0])
    {src : Memref sig .tc .vmem S128x2048 .fp8e4m3} {hsrc hdst} (Kt : PUnit → sProp 𝕄) :
    wpE (defs₀ (F := F)) 𝒱₀ (c : Thread nD τ) none Set.univ (.waitDma2 sem src
      ((M.slice (Rect.unit (s := S32x128x2048) off S1x128x2048.size inb) (fun _ => rfl)).squeeze S128x2048 squeezes_S1x128x2048_S128x2048) hsrc hdst) Kt
      = waitSpec (c : Thread nD τ) Set.univ (.dma t) NW Kt := by
  subst hM hoff
  exact wait_spec c t hsem (NW_eq l q) Kt

theorem get_op (l : Fin 4) (c : Dev nD) {t : ℕ} (ht : t < 31) {O : CellTallies nD τ sig Unit} (hO : Above (3 + (t + 1)) O)
    {sem : DmaSem sig} (hsem : sem = lrS l (slot l c (t + 1))) {M : Memref sig .tc .vmem S32x128x2048 .fp8e4m3} (hM : M = lnM l)
    {off : Fin 3 → ℕ} {inb : ∀ a, off a + S1x128x2048.size a ≤ S32x128x2048.size a} (hoff : off = ![(slot l c (t + 1)).val, 0, 0])
    {src : Memref sig .tc .vmem S128x2048 .fp8e4m3} {hsrc hdst} {k : PUnit → Prog (TpuEff nD τ sig (Elt F) Λ₀ .tc) α} :
    (iprop(records V K ∗ levAts L lv ∗ owing c O ∗ Lane V l c t) : sProp 𝕄)
      ⊢ iprop(((owing c O ∗ LaneR V l c t) -∗ wpc c (k ⟨⟩) Φ)
        -∗ wpc c (.op (.waitDma2 sem src
            ((M.slice (Rect.unit (s := S32x128x2048) off S1x128x2048.size inb) (fun _ => rfl)).squeeze S128x2048 squeezes_S1x128x2048_S128x2048) hsrc hdst) k) Φ) :=
  lane_get V K l c ht hO (lane_spec c l _ hsem hM hoff)

theorem pass_op (l : Fin 4) (c : Dev nD) {t : ℕ} (ht : t < 30)
    {s1 : DmaSem sig} (hs1 : s1 = lsS l) {n : Dev nD} (hn : n = tgt l c) {M : Memref sig .tc .vmem S32x128x2048 .fp8e4m3} (hM : M = lnM l)
    {off : Fin 3 → ℕ} {inb : ∀ a, off a + S1x128x2048.size a ≤ S32x128x2048.size a} (hoff : off = ![(slot l c (t + 1)).val, 0, 0])
    {sR : DmaSem sig} (hsR : sR = lrS l (slot l c (t + 1))) {src : Memref sig .tc .vmem S128x2048 .fp8e4m3} {hsrc' hdst' hsc hsrc hdst hsem}
    {k : PUnit → Prog (TpuEff nD τ sig (Elt F) Λ₀ .tc) α} :
    (iprop(records V K ∗ levAts L lv ∗ owing c (OL c (Hm (t + 1) (t + 2) l.val)) ∗ LaneR V l c t) : sProp 𝕄)
      ⊢ iprop(((owing c (OL c (Hm (t + 1) (t + 2) (l.val + 1))) ∗ Lane V l c (t + 1)) -∗ wpc c (k ⟨⟩) Φ)
        -∗ wpc c (.op (.waitDma2 s1 src
            ((M.slice (Rect.unit (s := S32x128x2048) off S1x128x2048.size inb) (fun _ => rfl)).squeeze S128x2048 squeezes_S1x128x2048_S128x2048) hsrc' hdst') fun _ =>
            .op (.enqueueDma ((M.slice (Rect.unit (s := S32x128x2048) off S1x128x2048.size inb) (fun _ => rfl)).squeeze S128x2048 squeezes_S1x128x2048_S128x2048)
            (.remote (Dev.tc n : Thread nD τ) ((M.slice (Rect.unit (s := S32x128x2048) off S1x128x2048.size inb) (fun _ => rfl)).squeeze S128x2048 squeezes_S1x128x2048_S128x2048)
              (.dma s1) hsc) (.dma sR) hsrc hdst hsem) k) Φ) := by
  rw [← Hm_update]
  exact lane_pass V K l c ht (Hm_at _ _ l) (lane_spec c l _ hs1 hM hoff) hn hM hoff hs1 hsR

theorem first_op (l : Fin 4) (c : Dev nD) {n : Dev nD} (hn : n = tgt l c) {M : Memref sig .tc .vmem S32x128x2048 .fp8e4m3} (hM : M = lnM l)
    {off : Fin 3 → ℕ} {inb : ∀ a, off a + S1x128x2048.size a ≤ S32x128x2048.size a} (hoff : off = ![(slot l c 0).val, 0, 0])
    {sS sR : DmaSem sig} (hsS : sS = lsS l) (hsR : sR = lrS l (slot l c 0)) {hsc} {hsrc} {hdst} {hsem}
    {k : PUnit → Prog (TpuEff nD τ sig (Elt F) Λ₀ .tc) α} :
    (iprop(records V K ∗ owing c (OL c (Hm 0 1 l.val)) ∗ Lane0 V l c) : sProp 𝕄)
      ⊢ iprop(((owing c (OL c (Hm 0 1 (l.val + 1))) ∗ Lane V l c 0) -∗ wpc c (k ⟨⟩) Φ)
        -∗ wpc c (.op (.enqueueDma ((M.slice (Rect.unit (s := S32x128x2048) off S1x128x2048.size inb) (fun _ => rfl)).squeeze S128x2048 squeezes_S1x128x2048_S128x2048)
            (.remote (Dev.tc n : Thread nD τ) ((M.slice (Rect.unit (s := S32x128x2048) off S1x128x2048.size inb) (fun _ => rfl)).squeeze S128x2048 squeezes_S1x128x2048_S128x2048)
              (.dma sS) hsc) (.dma sR) hsrc hdst hsem) k) Φ) := by
  rw [← Hm_update]
  exact lane_first V K l c (Hm_at _ _ l) hn hM hoff hsS hsR

theorem last_op (l : Fin 4) (c : Dev nD) {s1 : DmaSem sig} (hs1 : s1 = lsS l) {M : Memref sig .tc .vmem S32x128x2048 .fp8e4m3} (hM : M = lnM l)
    {off : Fin 3 → ℕ} {inb : ∀ a, off a + S1x128x2048.size a ≤ S32x128x2048.size a} (q : Fin 32) (hoff : off = ![q.val, 0, 0])
    {src : Memref sig .tc .vmem S128x2048 .fp8e4m3} {hsrc hdst} {k : PUnit → Prog (TpuEff nD τ sig (Elt F) Λ₀ .tc) α} :
    (iprop(records V K ∗ levAts L lv ∗ owing c 0 ∗ LaneR V l c 30) : sProp 𝕄)
      ⊢ iprop(((owing c 0 ∗ LaneEnd V l c) -∗ wpc c (k ⟨⟩) Φ)
        -∗ wpc c (.op (.waitDma2 s1 src
            ((M.slice (Rect.unit (s := S32x128x2048) off S1x128x2048.size inb) (fun _ => rfl)).squeeze S128x2048 squeezes_S1x128x2048_S128x2048) hsrc hdst) k) Φ) :=
  lane_last V K l c (lane_spec c l q hs1 hM hoff)

/-- A lane lends the slot received last. -/
theorem lane_open (l : Fin 4) (c : Dev nD) (n : ℕ) :
    Lane V l c n ⊢ iprop(slotOwn V fullShare.left l c n ∗ (slotOwn V fullShare.left l c n -∗ Lane V l c n)) := by
  unfold Lane
  iintro ⟨H, HR⟩
  isplitl [H]; · iexact H
  iintro H
  isplitl [H]; · iexact H
  iexact HR
theorem end_open (l : Fin 4) (c : Dev nD) :
    LaneEnd V l c ⊢ iprop(slotOwn V fullShare l c 31 ∗ (slotOwn V fullShare l c 31 -∗ LaneEnd V l c)) := by
  unfold LaneEnd
  rw [sep_last 31 (slotOwn V fullShare l c)]
  iintro ⟨⟨H, HS⟩, HR⟩
  isplitl [H]; · iexact H
  iintro H
  isplitr [HR]
  · isplitl [H]; · iexact H
    iexact HS
  iexact HR

/-- The loads of an activation block and of a lane's slot. -/
theorem two_loads (c : Dev nD) (l : Fin 4) (n : ℕ) {P : sProp 𝕄} {sh : PosShare TreeShare}
    (hP : P ⊢ iprop(slotOwn V sh l c n ∗ (slotOwn V sh l c n -∗ P)))
    {M : Memref sig .tc .vmem S32x128x2048 .fp8e4m3} (hM : M = lnM l)
    {off1 off2 : Fin 3 → ℕ} {inb1 : ∀ a, off1 a + S1x128x128.size a ≤ S32x128x128.size a} {inb2 : ∀ a, off2 a + S1x128x2048.size a ≤ S32x128x2048.size a}
    (h1 : off1 = ![(slot l c n).val, 0, 0]) (h2 : off2 = ![(slot l c n).val, 0, 0]) {hl1 hl2}
    {k : (S1x128x128.Idx → Elt F .fp8e4m3) → (S1x128x2048.Idx → Elt F .fp8e4m3) → Prog (TpuEff nD τ sig (Elt F) Λ₀ .tc) α} :
    iprop(XB V c ∗ P) ⊢ iprop(((XB V c ∗ P) -∗ wpc c (k (V.xb c (slot l c n)) (V.at l c n)) Φ)
      -∗ wpc c (.op (.load xbM (Rect.unit (s := S32x128x128) off1 S1x128x128.size inb1).toLoadRect hl1) fun x =>
          .op (.load M (Rect.unit (s := S32x128x2048) off2 S1x128x2048.size inb2).toLoadRect hl2) fun w => k x w) Φ) := by
  iintro ⟨HX, HP⟩ Hk
  iapply (xb_load V c (slot l c n) h1) $$ HX
  iintro HX
  ihave HP := hP $$ HP
  icases HP with ⟨HS, HP⟩
  iapply (slot_load c l (slot l c n) hM h2) $$ HS
  iintro HS
  iapply Hk
  isplitl [HX]; · iexact HX
  iapply HP
  iexact HS

/-- A quarter of the result read and written. -/
theorem out_update (c : Dev nD) (l : Fin 4) {off : Fin 2 → ℕ} {inb inb' : ∀ a, off a + S128x2048.size a ≤ S128x8192.size a} (h : off = ![0, 2048 * l.val]) {hl hx hm}
    {A B : S128x2048.Idx → Elt F .f32} {k : PUnit → Prog (TpuEff nD τ sig (Elt F) Λ₀ .tc) α} :
    (owns (c : Thread nD τ) (outQ l) fullShare A : sProp 𝕄)
      ⊢ iprop((owns (c : Thread nD τ) (outQ l) fullShare B -∗ wpc c (k ⟨⟩) Φ)
        -∗ wpc c (.op (.load outM (Rect.unit (s := S128x8192) off S128x2048.size inb).toLoadRect hl) fun _ =>
          .op (.store outM (Rect.unit (s := S128x8192) off S128x2048.size inb') B Finset.univ hx hm) k) Φ) := by
  iintro H Hk
  iapply (out_load c l h) $$ H
  iintro H
  iapply (out_store c l h) $$ H
  iexact Hk

/-- A product added into a quarter of the result. -/
theorem acc_run (c : Dev nD) (l : Fin 4) (n : ℕ) {P : sProp 𝕄} {sh : PosShare TreeShare}
    (hP : P ⊢ iprop(slotOwn V sh l c n ∗ (slotOwn V sh l c n -∗ P)))
    {M : Memref sig .tc .vmem S32x128x2048 .fp8e4m3} (hM : M = lnM l)
    {off : Fin 2 → ℕ} {inb inb' inb'' : ∀ a, off a + S128x2048.size a ≤ S128x8192.size a} (h : off = ![0, 2048 * l.val])
    {off1 off2 : Fin 3 → ℕ} {inb1 : ∀ a, off1 a + S1x128x128.size a ≤ S32x128x128.size a} {inb2 : ∀ a, off2 a + S1x128x2048.size a ≤ S32x128x2048.size a}
    (h1 : off1 = ![(slot l c n).val, 0, 0]) (h2 : off2 = ![(slot l c n).val, 0, 0]) {hl hl' hl1 hl2 hx hm}
    {f : (S128x2048.Idx → Elt F .f32) → (S1x128x128.Idx → Elt F .fp8e4m3) → (S1x128x2048.Idx → Elt F .fp8e4m3) → S128x2048.Idx → Elt F .f32}
    {A : S128x2048.Idx → Elt F .f32} {k : PUnit → Prog (TpuEff nD τ sig (Elt F) Λ₀ .tc) α} :
    iprop(owns (c : Thread nD τ) (outQ l) fullShare A ∗ XB V c ∗ P)
      ⊢ iprop(((owns (c : Thread nD τ) (outQ l) fullShare (f A (V.xb c (slot l c n)) (V.at l c n)) ∗ XB V c ∗ P) -∗ wpc c (k ⟨⟩) Φ)
        -∗ wpc c (.op (.load outM (Rect.unit (s := S128x8192) off S128x2048.size inb).toLoadRect hl) fun a =>
          .op (.load xbM (Rect.unit (s := S32x128x128) off1 S1x128x128.size inb1).toLoadRect hl1) fun x =>
          .op (.load M (Rect.unit (s := S32x128x2048) off2 S1x128x2048.size inb2).toLoadRect hl2) fun w =>
          .op (.load outM (Rect.unit (s := S128x8192) off S128x2048.size inb').toLoadRect hl') fun _ =>
          .op (.store outM (Rect.unit (s := S128x8192) off S128x2048.size inb'') (f a x w) Finset.univ hx hm) k) Φ) := by
  iintro ⟨HA, HX, HP⟩ Hk
  iapply (out_load c l h) $$ HA
  iintro HA
  iapply (two_loads V c l n hP hM h1 h2) $$ [HX HP]
  · isplitl [HX]; · iexact HX
    iexact HP
  iintro ⟨HX, HP⟩
  iapply (out_update c l h) $$ HA
  iintro HA
  iapply Hk
  isplitl [HA]; · iexact HA
  isplitl [HX]; · iexact HX
  iexact HP

/-! ## A trip -/

variable (c : Dev nD) (t : Fin k0_t2_loop.trips) {v147 v178 v186 : BitVec 32} (hw1 : k0_chk1 c v147) (hw2 : k0_chk2 v178) (hw3 : k0_chk3 v186)

theorem trip_lt (t : Fin k0_t2_loop.trips) : t.val < 30 := lt_of_lt_of_le t.isLt (le_of_eq trips2)

theorem part1 (hv : v147 = pw (place c)) {a b : BitVec 32} {Φ : (Σ' (_ : BitVec 32), BitVec 32) → sProp 𝕄} :
    iprop(records V K ∗ levAts L lv ∗ (owing c (OL c (Hm (t.val + 1) (t.val + 2) 0)) ∗ Lane V 0 c t.val)
        ∗ (∀ x y, (owing c (OL c (Hm (t.val + 1) (t.val + 2) 0)) ∗ LaneR V 0 c t.val) -∗ Φ ⟨x, y⟩))
      ⊢ wpc c (app (k0_part1 (F := F)) c v147 hw1 v178 a b t) Φ := by
  subst hv
  rw [k0_part1_eq_skeleton]
  delta app k0_part1_skel
  beta_reduce
  simp only [Prog.lift, Prog.bind_op, Prog.bind_ret, Prog.pure_eq_ret]
  iintro ⟨#HR, #Hlev, ⟨HO, HL⟩, Hk⟩
  iapply (get_op V K 0 c (by have := trip_lt t; omega) (above_OL c fun l => Hm_le _ _ l) (arr0 _ (off44_eq c t)) rfl (off45_eq c t)) $$ [HO HL]
  · isplitr; · iexact HR
    isplitr; · iexact Hlev
    isplitl [HO]; · iexact HO
    iexact HL
  iintro H
  iapply (wpc_ret c)
  iapply Hk $$ H

theorem part2 (hv : v147 = pw (place c)) (hd : v178 = BitVec.ofNat 32 (nxt c).val) {Φ : (Σ' (_ : BitVec 32), BitVec 32) → sProp 𝕄} :
    iprop(records V K ∗ levAts L lv ∗ (owing c (OL c (Hm (t.val + 1) (t.val + 2) 0)) ∗ LaneR V 0 c t.val ∗ Lane V 1 c t.val)
        ∗ (∀ x y, (owing c (OL c (Hm (t.val + 1) (t.val + 2) 2)) ∗ Lane V 0 c (t.val + 1) ∗ Lane V 1 c (t.val + 1)) -∗ Φ ⟨x, y⟩))
      ⊢ wpc c (app (k0_part2 (F := F)) c v147 hw1 v178 hw2 v186 t) Φ := by
  subst hv hd
  rw [k0_part2_eq_skeleton]
  delta app k0_part2_skel
  beta_reduce
  simp only [Prog.lift, Prog.bind_op, Prog.bind_ret, Prog.pure_eq_ret]
  iintro ⟨#HR, #Hlev, ⟨HO, H0, H1⟩, Hk⟩
  iapply (pass_op V K 0 c (trip_lt t) rfl (Fin.ext (dev38_eq (nxt c))) rfl (off45_eq c t) (arr0 _ (off44_eq c t))) $$ [HO H0]
  · isplitr; · iexact HR
    isplitr; · iexact Hlev
    isplitl [HO]; · iexact HO
    iexact H0
  iintro ⟨HO, H0⟩
  iapply (get_op V K 1 c (by have := trip_lt t; omega) (above_OL c fun l => Hm_le _ _ l) (arr1 _ (off44_eq c t)) rfl (off45_eq c t)) $$ [HO H1]
  · isplitr; · iexact HR
    isplitr; · iexact Hlev
    isplitl [HO]; · iexact HO
    iexact H1
  iintro ⟨HO, H1⟩
  iapply (pass_op V K 1 c (trip_lt t) rfl (Fin.ext (dev39_eq (nxt c))) rfl (off45_eq c t) (arr1 _ (off44_eq c t))) $$ [HO H1]
  · isplitr; · iexact HR
    isplitr; · iexact Hlev
    isplitl [HO]; · iexact HO
    iexact H1
  iintro ⟨HO, H1⟩
  iapply (wpc_ret c)
  iapply Hk
  isplitl [HO]; · iexact HO
  isplitl [H0]; · iexact H0
  iexact H1

theorem part3 (hv : v147 = pw (place c)) (hd : v186 = BitVec.ofNat 32 (prv c).val) {a b : BitVec 32} {Φ : PUnit → sProp 𝕄} :
    iprop(records V K ∗ levAts L lv ∗ (owing c (OL c (Hm (t.val + 1) (t.val + 2) 2)) ∗ Lane V 2 c t.val ∗ Lane V 3 c t.val)
        ∗ ((owing c (OL c (Hm (t.val + 1) (t.val + 2) 3)) ∗ Lane V 2 c (t.val + 1) ∗ LaneR V 3 c t.val) -∗ Φ ⟨⟩))
      ⊢ wpc c (app (k0_part3 (F := F)) c v147 hw1 v186 hw3 t a b) Φ := by
  subst hv hd
  rw [k0_part3_eq_skeleton]
  delta app k0_part3_skel
  beta_reduce
  simp only [Prog.lift, Prog.bind_op, Prog.bind_ret, Prog.pure_eq_ret]
  iintro ⟨#HR, #Hlev, ⟨HO, H2, H3⟩, Hk⟩
  iapply (get_op V K 2 c (by have := trip_lt t; omega) (above_OL c fun l => Hm_le _ _ l) (arr2 _ (off46_eq c t)) rfl (off47_eq c t)) $$ [HO H2]
  · isplitr; · iexact HR
    isplitr; · iexact Hlev
    isplitl [HO]; · iexact HO
    iexact H2
  iintro ⟨HO, H2⟩
  iapply (pass_op V K 2 c (trip_lt t) rfl (Fin.ext (dev40_eq (prv c))) rfl (off47_eq c t) (arr2 _ (off46_eq c t))) $$ [HO H2]
  · isplitr; · iexact HR
    isplitr; · iexact Hlev
    isplitl [HO]; · iexact HO
    iexact H2
  iintro ⟨HO, H2⟩
  iapply (get_op V K 3 c (by have := trip_lt t; omega) (above_OL c fun l => Hm_le _ _ l) (arr3 _ (off46_eq c t)) rfl (off47_eq c t)) $$ [HO H3]
  · isplitr; · iexact HR
    isplitr; · iexact Hlev
    isplitl [HO]; · iexact HO
    iexact H3
  iintro ⟨HO, H3⟩
  iapply (wpc_ret c)
  iapply Hk
  isplitl [HO]; · iexact HO
  isplitl [H2]; · iexact H2
  iexact H3

theorem part4 (hv : v147 = pw (place c)) (hd : v186 = BitVec.ofNat 32 (prv c).val) {a : BitVec 32} {Φ : PUnit → sProp 𝕄} :
    iprop(records V K ∗ levAts L lv ∗ (owing c (OL c (Hm (t.val + 1) (t.val + 2) 3)) ∗ LaneR V 3 c t.val ∗ XB V c ∗ Lane V 0 c (t.val + 1) ∗ Lane V 1 c (t.val + 1)
          ∗ owns (c : Thread nD τ) (outQ 0) fullShare (AQ V c 0 t.val) ∗ owns (c : Thread nD τ) (outQ 1) fullShare (AQ V c 1 t.val))
        ∗ ((owing c (OL c (Hm (t.val + 1) (t.val + 2) 4)) ∗ Lane V 3 c (t.val + 1) ∗ XB V c ∗ Lane V 0 c (t.val + 1) ∗ Lane V 1 c (t.val + 1)
          ∗ owns (c : Thread nD τ) (outQ 0) fullShare (AQ V c 0 (t.val + 1)) ∗ owns (c : Thread nD τ) (outQ 1) fullShare (AQ V c 1 (t.val + 1))) -∗ Φ ⟨⟩))
      ⊢ wpc c (app (k0_part4 (F := F)) c v147 hw1 v186 hw3 t a) Φ := by
  subst hv hd
  rw [k0_part4_eq_skeleton]
  delta app k0_part4_skel
  beta_reduce
  simp only [Prog.lift, Prog.bind_op, Prog.bind_ret, Prog.pure_eq_ret]
  iintro ⟨#HR, #Hlev, ⟨HO, H3, HX, H0, H1, A0, A1⟩, Hk⟩
  iapply (pass_op V K 3 c (trip_lt t) rfl (Fin.ext (dev41_eq (prv c))) rfl (off47_eq c t) (arr3 _ (off46_eq c t))) $$ [HO H3]
  · isplitr; · iexact HR
    isplitr; · iexact Hlev
    isplitl [HO]; · iexact HO
    iexact H3
  iintro ⟨HO, H3⟩
  iapply (acc_run V c 0 (t.val + 1) (lane_open V 0 c (t.val + 1)) rfl rfl (off48_eq c t) (off49_eq c t)) $$ [A0 HX H0]
  · isplitl [A0]; · iexact A0
    isplitl [HX]; · iexact HX
    iexact H0
  iintro ⟨A0, HX, H0⟩
  iapply (acc_run V c 1 (t.val + 1) (lane_open V 1 c (t.val + 1)) rfl rfl (off48_eq c t) (off49_eq c t)) $$ [A1 HX H1]
  · isplitl [A1]; · iexact A1
    isplitl [HX]; · iexact HX
    iexact H1
  iintro ⟨A1, HX, H1⟩
  iapply (wpc_ret c)
  iapply Hk
  isplitl [HO]; · iexact HO
  isplitl [H3]; · iexact H3
  isplitl [HX]; · iexact HX
  isplitl [H0]; · iexact H0
  isplitl [H1]; · iexact H1
  isplitl [A0]; · iexact A0
  iexact A1

/-- Before trip `t` of the main loop. -/
def TripSt (c : Dev nD) (t : ℕ) : sProp 𝕄 :=
  iprop(owing c (OL c fun _ => t + 1) ∗ XB V c
    ∗ (Lane V 0 c t ∗ Lane V 1 c t ∗ Lane V 2 c t ∗ Lane V 3 c t)
    ∗ owns (c : Thread nD τ) (outQ 0) fullShare (AQ V c 0 t) ∗ owns (c : Thread nD τ) (outQ 1) fullShare (AQ V c 1 t)
    ∗ owns (c : Thread nD τ) (outQ 2) fullShare (AQ V c 2 t) ∗ owns (c : Thread nD τ) (outQ 3) fullShare (AQ V c 3 t))

theorem trip (hv : v147 = pw (place c)) (hd : v178 = BitVec.ofNat 32 (nxt c).val) (hd' : v186 = BitVec.ofNat 32 (prv c).val)
    {v2 v158 c31 : BitVec 32} {Φ : Unit → sProp 𝕄} :
    iprop(records V K ∗ levAts L lv ∗ TripSt V c t.val ∗ (TripSt V c (t.val + 1) -∗ Φ ⟨⟩))
      ⊢ wpc c (app (k0_t2_body (F := F)) c v2 v147 hw1 v158 v178 hw2 v186 hw3 c31 t ⟨⟩) Φ := by
  delta app k0_t2_body
  beta_reduce
  unfold TripSt
  rw [← Hm_zero (t.val + 1) (t.val + 2), ← Hm_four (t.val + 1) (t.val + 2)]
  iintro ⟨#HR, #Hlev, ⟨HO, HX, ⟨H0, H1, H2, H3⟩, A0, A1, A2, A3⟩, Hk⟩
  iapply (wpc_bind c)
  iapply (part1 V K c t hw1 hv)
  isplitr; · iexact HR
  isplitr; · iexact Hlev
  isplitl [HO H0]
  · isplitl [HO]; · iexact HO
    iexact H0
  iintro %x %y ⟨HO, H0⟩
  iapply (wpc_bind c)
  iapply (part2 V K c t hw1 hw2 hv hd)
  isplitr; · iexact HR
  isplitr; · iexact Hlev
  isplitl [HO H0 H1]
  · isplitl [HO]; · iexact HO
    isplitl [H0]; · iexact H0
    iexact H1
  iintro %x %y ⟨HO, H0, H1⟩
  iapply (wpc_bind c)
  iapply (part3 V K c t hw1 hw3 hv hd')
  isplitr; · iexact HR
  isplitr; · iexact Hlev
  isplitl [HO H2 H3]
  · isplitl [HO]; · iexact HO
    isplitl [H2]; · iexact H2
    iexact H3
  iintro ⟨HO, H2, H3⟩
  iapply (wpc_bind c)
  iapply (part4 V K c t hw1 hw3 hv hd')
  isplitr; · iexact HR
  isplitr; · iexact Hlev
  isplitl [HO H0 H1 H3 HX A0 A1]
  · isplitl [HO]; · iexact HO
    isplitl [H3]; · iexact H3
    isplitl [HX]; · iexact HX
    isplitl [H0]; · iexact H0
    isplitl [H1]; · iexact H1
    isplitl [A0]; · iexact A0
    iexact A1
  iintro ⟨HO, H3, HX, H0, H1, A0, A1⟩
  subst hv
  simp only [Prog.lift, Prog.bind_op, Prog.bind_ret, Prog.pure_eq_ret]
  iapply (acc_run V c 2 (t.val + 1) (lane_open V 2 c (t.val + 1)) rfl rfl (off50_eq c t) (off51_eq c t)) $$ [A2 HX H2]
  · isplitl [A2]; · iexact A2
    isplitl [HX]; · iexact HX
    iexact H2
  iintro ⟨A2, HX, H2⟩
  iapply (acc_run V c 3 (t.val + 1) (lane_open V 3 c (t.val + 1)) rfl rfl (off50_eq c t) (off51_eq c t)) $$ [A3 HX H3]
  · isplitl [A3]; · iexact A3
    isplitl [HX]; · iexact HX
    iexact H3
  iintro ⟨A3, HX, H3⟩
  iapply (wpc_ret c)
  iapply Hk
  isplitl [HO]; · iexact HO
  isplitl [HX]; · iexact HX
  isplitl [H0 H1 H2 H3]
  · isplitl [H0]; · iexact H0
    isplitl [H1]; · iexact H1
    isplitl [H2]; · iexact H2
    iexact H3
  isplitl [A0]; · iexact A0
  isplitl [A1]; · iexact A1
  isplitl [A2]; · iexact A2
  iexact A3

end Cert.KernelIdeal.Gather

end
-- ==== Proof.Ends.lean ====
/-
# The ring's first hop and its end

The lanes' first sends and the products of the device's own blocks; the main loop; the last hop of each lane, whose products
are added and scaled into the quarters of the result.
-/
module

public import proofs.«01_k».proof.Proof.Trip

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (V : Cts F) (K : Dev nD × Fin 135 → ℕ)
variable {α : Type} {Φ : α → sProp (MT nD τ sig Unit (Elt F) ℕ UU ℕ)}

/-! ## Rules -/

/-- A conditional step of a count, as a rule for what comes after it. -/
theorem if_wand (c : Dev nD) (m m' : ℕ) (hm : m < 32) (hm' : m + 1 = m') (St : ℕ → sProp 𝕄) (hs : St (c.val + 1) = St c.val) {C : Prop} [Decidable C]
    (hC : C ↔ (Scalar.cmpi .ne (Scalar.extui (Scalar.cmpi .ne (meW c) (BitVec.ofNat 32 m)) : BitVec 32) 0#32 = 1#1))
    {T : C → Prog (TpuEff nD τ sig (Elt F) Λ₀ .tc) α} {N : ¬C → Prog (TpuEff nD τ sig (Elt F) Λ₀ .tc) α}
    {J : Prog (TpuEff nD τ sig (Elt F) Λ₀ .tc) α} (hN : ∀ h, N h = J)
    {e : C → TpuEff nD τ sig (Elt F) Λ₀ .tc PUnit} (hT : ∀ h, T h = (Bind.bind (Prog.lift (e h)) fun _ => J))
    (hop : ∀ h, (⟨m, hm⟩ : Dev nD) ≠ c → ∀ k : PUnit → Prog (TpuEff nD τ sig (Elt F) Λ₀ .tc) α,
      St m ⊢ iprop((St (m + 1) -∗ wpc c (k ⟨⟩) Φ) -∗ wpc c (.op (e h) k) Φ)) :
    St m ⊢ iprop((St m' -∗ wpc c J Φ) -∗ wpc c (dite C T N) Φ) := by
  iintro HS Hk
  iapply (if_step c m m' hm hm' St hs hC hN hT (R := iprop(St m' -∗ wpc c J Φ)) hop (by
    iintro ⟨HS, Hk⟩
    iapply Hk
    iexact HS))
  isplitl [HS]; · iexact HS
  iexact Hk

/-- The device's own block of activations. -/
abbrev ownX (c : Dev nD) : sProp 𝕄 := owns (c : Thread nD τ) (xM (place c)) fullShare (V.xb c (place c))

/-- The product of the device's own blocks, written into a quarter of the result. -/
theorem own_run (c : Dev nD) (l : Fin 4) {M : Memref sig .tc .vmem S32x128x2048 .fp8e4m3} (hM : M = lnM l)
    {off : Fin 2 → ℕ} {inb inb' : ∀ a, off a + S128x2048.size a ≤ S128x8192.size a} (h : off = ![0, 2048 * l.val])
    {off1 off2 : Fin 3 → ℕ} {inb1 : ∀ a, off1 a + S1x128x128.size a ≤ S32x128x128.size a} {inb2 : ∀ a, off2 a + S1x128x2048.size a ≤ S32x128x2048.size a}
    (h1 : off1 = ![(place c).val, 0, 0]) (h2 : off2 = ![(place c).val, 0, 0]) {hl hl1 hl2 hx hm}
    {f : (S1x128x128.Idx → Elt F .fp8e4m3) → (S1x128x2048.Idx → Elt F .fp8e4m3) → S128x2048.Idx → Elt F .f32}
    {A : S128x2048.Idx → Elt F .f32} {k : PUnit → Prog (TpuEff nD τ sig (Elt F) Λ₀ .tc) α} :
    iprop(owns (c : Thread nD τ) (outQ l) fullShare A ∗ ownX V c ∗ Lane V l c 0)
      ⊢ iprop(((owns (c : Thread nD τ) (outQ l) fullShare (f (V.xb c (slot l c 0)) (V.at l c 0)) ∗ ownX V c ∗ Lane V l c 0) -∗ wpc c (k ⟨⟩) Φ)
        -∗ wpc c (.op (.load xbM (Rect.unit (s := S32x128x128) off1 S1x128x128.size inb1).toLoadRect hl1) fun x =>
          .op (.load M (Rect.unit (s := S32x128x2048) off2 S1x128x2048.size inb2).toLoadRect hl2) fun w =>
          .op (.load outM (Rect.unit (s := S128x8192) off S128x2048.size inb).toLoadRect hl) fun _ =>
          .op (.store outM (Rect.unit (s := S128x8192) off S128x2048.size inb') (f x w) Finset.univ hx hm) k) Φ) := by
  have e : V.xb c (slot l c 0) = V.xb c (place c) := by rw [slot_zero]
  rw [e]
  iintro ⟨HA, HX, HL⟩ Hk
  iapply (blk_load c (place c) h1) $$ HX
  iintro HX
  ihave HP := (lane_open V l c 0) $$ HL
  icases HP with ⟨HS, HP⟩
  iapply (slot_load c l (slot l c 0) hM (h2.trans (by rw [slot_zero]))) $$ HS
  iintro HS
  iapply (out_update c l h) $$ HA
  iintro HA
  iapply Hk
  isplitl [HA]; · iexact HA
  isplitl [HX]; · iexact HX
  iapply HP
  iexact HS

/-- The one word of a scalar's buffer. -/
theorem word_load (c : Dev nD) {M : Memref sig .tc .smem S1 .f32} (x : Elt F .f32) {inb : ∀ a : Fin 1, (![0] : Fin 1 → ℕ) a + S1.size a ≤ S1.size a}
    {h1 : (Rect.unit (s := S1) ![0] S1.size inb).shape.numel = 1} {hp : EltTy.packing .f32 = 1}
    {kk : Elt F .f32 → Prog (TpuEff nD τ sig (Elt F) Λ₀ .tc) α} {X : S1.Idx → Elt F .f32} (hX : X = fun _ => x) :
    (owns (c : Thread nD τ) M fullShare X : sProp 𝕄)
      ⊢ iprop((owns (c : Thread nD τ) M fullShare X -∗ wpc c (kk x) Φ)
        -∗ wpc c (Bind.bind (smemLoad M (Rect.unit (s := S1) ![0] S1.size inb) h1 hp : Prog (TpuEff nD τ sig (Elt F) Λ₀ .tc) (Elt F .f32)) kk) Φ) := by
  subst hX
  unfold smemLoad smemLoadElt
  simp only [Prog.bind_op, Prog.bind_ret]
  iintro H Hk
  iapply (wp_load_part 𝒱₀ (c : Thread nD τ) none Set.univ M (Rect.unit (s := S1) ![0] S1.size inb) (X := fun _ => x)) $$ H
  iexact Hk

/-- The device's own block and the blocks received are all of them. -/
theorem xb_whole (c : Dev nD) :
    (iprop(ownX V c ∗ bigSep (Finset.univ.erase c) fun d => (Rd V).payload (xrC c) 0 d) : sProp 𝕄) ⊢ XB V c := by
  have h : XB V c = (bigSep Finset.univ fun d : Dev nD => owns (c : Thread nD τ) (xM (place d)) fullShare (V.xb c (place d)) : sProp 𝕄) :=
    bigSep_univ_equiv (⟨place, dev, dev_place, place_dev⟩ : Dev nD ≃ Fin 32) fun q => owns (c : Thread nD τ) (xM q) fullShare (V.xb c q)
  rw [h, sep_take (Finset.mem_univ c)]
  iintro ⟨H, HS⟩
  isplitl [H]; · iexact H
  iexact HS

/-- A count ended, opened. -/
theorem wt_end (c : Dev nD) (sm : SemLoc sig) :
    Wt V c sm 32 ⊢ iprop(semVal ((c : Thread nD τ), sm) 0 ∗ bigSep ((Rd V).duties ((c : Thread nD τ), sm) 0) fun d => (Rd V).payload ((c : Thread nD τ), sm) 0 d) := by
  unfold Wt Cnt
  rw [cntN_end, if_neg (by decide)]
  iintro ⟨H, -⟩
  iexact H

/-! ## The first hop -/

theorem part14 (c : Dev nD) {v147 v178 v186 : BitVec 32} (hw1 : k0_chk1 c v147) (hw2 : k0_chk2 v178) (hw3 : k0_chk3 v186)
    (hv : v147 = pw (place c)) (hd : v178 = BitVec.ofNat 32 (nxt c).val) (hd' : v186 = BitVec.ofNat 32 (prv c).val)
    {Φ : (Σ' (_ : FVec F S128x128 .fp8e4m3) (_ : FVec F S128x2048 .fp8e4m3), FVec F S128x2048 .f32) → sProp 𝕄} :
    iprop(records V K ∗ (owing c (OL c fun _ => 0) ∗ (Lane0 V 0 c ∗ Lane0 V 1 c ∗ Lane0 V 2 c ∗ Lane0 V 3 c) ∗ ownX V c)
        ∗ ((owing c (OL c fun _ => 1) ∗ (Lane V 0 c 0 ∗ Lane V 1 c 0 ∗ Lane V 2 c 0 ∗ Lane V 3 c 0) ∗ ownX V c)
          -∗ Φ ⟨k0_pay25 (V.xb c (slot 0 c 0)), k0_pay26 (V.at 0 c 0), constant S128x2048 .f32 0x00000000#32⟩))
      ⊢ wpc c (app (k0_part14 (F := F)) c v147 hw1 v178 hw2 v186 hw3) Φ := by
  subst hv hd hd'
  rw [k0_part14_eq_skeleton]
  delta app k0_part14_skel
  beta_reduce
  simp only [Prog.lift, Prog.bind_op, Prog.bind_ret, Prog.pure_eq_ret]
  rw [← Hm_zero 0 1, ← Hm_four 0 1]
  have e : V.xb c (slot 0 c 0) = V.xb c (place c) := by rw [slot_zero]
  rw [e]
  iintro ⟨#HR, ⟨HO, ⟨H0, H1, H2, H3⟩, HX⟩, Hk⟩
  iapply (first_op V K 0 c (Fin.ext (dev34_eq (nxt c))) rfl ((off37_eq (place c)).trans (by rw [slot_zero])) rfl (arr0 _ ((off36_eq (place c)).trans (by rw [slot_zero])))) $$ [HO H0]
  · isplitr; · iexact HR
    isplitl [HO]; · iexact HO
    iexact H0
  iintro ⟨HO, H0⟩
  iapply (first_op V K 1 c (Fin.ext (dev35_eq (nxt c))) rfl ((off39_eq (place c)).trans (by rw [slot_zero])) rfl (arr1 _ ((off38_eq (place c)).trans (by rw [slot_zero])))) $$ [HO H1]
  · isplitr; · iexact HR
    isplitl [HO]; · iexact HO
    iexact H1
  iintro ⟨HO, H1⟩
  iapply (first_op V K 2 c (Fin.ext (dev36_eq (prv c))) rfl ((off39_eq (place c)).trans (by rw [slot_zero])) rfl (arr2 _ ((off38_eq (place c)).trans (by rw [slot_zero])))) $$ [HO H2]
  · isplitr; · iexact HR
    isplitl [HO]; · iexact HO
    iexact H2
  iintro ⟨HO, H2⟩
  iapply (first_op V K 3 c (Fin.ext (dev37_eq (prv c))) rfl ((off41_eq (place c)).trans (by rw [slot_zero])) rfl (arr3 _ ((off40_eq (place c)).trans (by rw [slot_zero])))) $$ [HO H3]
  · isplitr; · iexact HR
    isplitl [HO]; · iexact HO
    iexact H3
  iintro ⟨HO, H3⟩
  iapply (blk_load c (place c) (off42_eq (place c))) $$ HX
  iintro HX
  ihave HP := (lane_open V 0 c 0) $$ H0
  icases HP with ⟨HS, HP⟩
  iapply (slot_load c 0 (slot 0 c 0) rfl ((off43_eq (place c)).trans (by rw [slot_zero]))) $$ HS
  iintro HS
  iapply (wpc_ret c)
  iapply Hk
  isplitl [HO]; · iexact HO
  isplitr [HX]
  · isplitl [HS HP]
    · iapply HP
      iexact HS
    isplitl [H1]; · iexact H1
    isplitl [H2]; · iexact H2
    iexact H3
  iexact HX

attribute [local irreducible] instDecidableEqBitVec

theorem part15 (c : Dev nD) {O : CellTallies nD τ sig Unit} (hO : Above 2 O) {v2 v147 : BitVec 32} (hv2 : v2 = meW c) (hw1 : k0_chk1 c v147) (hv : v147 = pw (place c))
    {A0 A1 A2 A3 : S128x2048.Idx → Elt F .f32} {Φ : BitVec 32 → sProp 𝕄} :
    iprop(WaitSt V K c (.dma xrS) O 0 ∗ ((Lane V 1 c 0 ∗ Lane V 2 c 0 ∗ Lane V 3 c 0) ∗ ownX V c
        ∗ owns (c : Thread nD τ) (outQ 0) fullShare A0 ∗ owns (c : Thread nD τ) (outQ 1) fullShare A1
        ∗ owns (c : Thread nD τ) (outQ 2) fullShare A2 ∗ owns (c : Thread nD τ) (outQ 3) fullShare A3)
        ∗ ((WaitSt V K c (.dma xrS) O 1 ∗ (Lane V 1 c 0 ∗ Lane V 2 c 0 ∗ Lane V 3 c 0) ∗ ownX V c
        ∗ owns (c : Thread nD τ) (outQ 0) fullShare (AQ V c 0 0) ∗ owns (c : Thread nD τ) (outQ 1) fullShare (AQ V c 1 0)
        ∗ owns (c : Thread nD τ) (outQ 2) fullShare (AQ V c 2 0) ∗ owns (c : Thread nD τ) (outQ 3) fullShare (AQ V c 3 0)) -∗ Φ 1#32))
      ⊢ wpc c (app (k0_part15 (F := F)) c v2 v147 hw1 (k0_pay25 (V.xb c (slot 0 c 0))) (k0_pay26 (V.at 0 c 0)) (constant S128x2048 .f32 0x00000000#32)) Φ := by
  subst hv hv2
  rw [k0_part15_eq_skeleton]
  delta app k0_part15_skel
  beta_reduce
  simp only [Prog.lift, Prog.bind_op, Prog.bind_ret, Prog.pure_eq_ret]
  iintro ⟨HW, ⟨⟨H1, H2, H3⟩, HX, A0, A1, A2, A3⟩, Hk⟩
  iapply (out_update c 0 rfl) $$ A0
  iintro A0
  iapply (own_run V c 1 rfl rfl (off42_eq (place c)) (off43_eq (place c))) $$ [A1 HX H1]
  · isplitl [A1]; · iexact A1
    isplitl [HX]; · iexact HX
    iexact H1
  iintro ⟨A1, HX, H1⟩
  iapply (own_run V c 2 rfl rfl (off42_eq (place c)) (off43_eq (place c))) $$ [A2 HX H2]
  · isplitl [A2]; · iexact A2
    isplitl [HX]; · iexact HX
    iexact H2
  iintro ⟨A2, HX, H2⟩
  iapply (own_run V c 3 rfl rfl (off42_eq (place c)) (off43_eq (place c))) $$ [A3 HX H3]
  · isplitl [A3]; · iexact A3
    isplitl [HX]; · iexact HX
    iexact H3
  iintro ⟨A3, HX, H3⟩
  iapply (if_wand c 0 1 (by decide) rfl (WaitSt V K c (.dma xrS) O) (wait_skip V K c _ O) (by exact Iff.rfl) (by exact fun _ => rfl) (by exact fun _ => rfl)
    (by exact fun _ hj k => recv_op V K c _ hO hj rfl k)) $$ HW
  iintro HW
  iapply (wpc_ret c)
  iapply Hk
  isplitl [HW]; · iexact HW
  isplitl [H1 H2 H3]
  · isplitl [H1]; · iexact H1
    isplitl [H2]; · iexact H2
    iexact H3
  isplitl [HX]; · iexact HX
  isplitl [A0]; · iexact A0
  isplitl [A1]; · iexact A1
  isplitl [A2]; · iexact A2
  iexact A3

/-! ## The last hop -/

/-- The scalars' buffers. -/
def Scl (c : Dev nD) (sx sw : Elt F .f32) : sProp 𝕄 :=
  iprop(owns (c : Thread nD τ) sxM fullShare ((fun _ => sx) : S1.Idx → Elt F .f32) ∗ owns (c : Thread nD τ) swM fullShare ((fun _ => sw) : S1.Idx → Elt F .f32))

/-- The last hop of a lane. -/
theorem end_hop (c : Dev nD) (l : Fin 4) {sem s1 : DmaSem sig} (hsem : sem = lrS l (slot l c 31)) (hs1 : s1 = lsS l)
    {M : Memref sig .tc .vmem S32x128x2048 .fp8e4m3} (hM : M = lnM l)
    {off : Fin 3 → ℕ} {inb : ∀ a, off a + S1x128x2048.size a ≤ S32x128x2048.size a} (hoff : off = ![(slot l c 31).val, 0, 0])
    {src src' : Memref sig .tc .vmem S128x2048 .fp8e4m3} {hsrc hdst hsrc' hdst'} {k : PUnit → Prog (TpuEff nD τ sig (Elt F) Λ₀ .tc) α} :
    (iprop(records V K ∗ levAts L lv ∗ owing c 0 ∗ Lane V l c 30) : sProp 𝕄)
      ⊢ iprop(((owing c 0 ∗ LaneEnd V l c) -∗ wpc c (k ⟨⟩) Φ)
        -∗ wpc c (.op (.waitDma2 sem src
            ((M.slice (Rect.unit (s := S32x128x2048) off S1x128x2048.size inb) (fun _ => rfl)).squeeze S128x2048 squeezes_S1x128x2048_S128x2048) hsrc hdst) fun _ =>
          .op (.waitDma2 s1 src'
            ((M.slice (Rect.unit (s := S32x128x2048) off S1x128x2048.size inb) (fun _ => rfl)).squeeze S128x2048 squeezes_S1x128x2048_S128x2048) hsrc' hdst') k) Φ) := by
  iintro ⟨#HR, #Hlev, HO, HL⟩ Hk
  iapply (get_op V K l c (by decide) (above_zero _) hsem hM hoff) $$ [HO HL]
  · isplitr; · iexact HR
    isplitr; · iexact Hlev
    isplitl [HO]; · iexact HO
    iexact HL
  iintro ⟨HO, HL⟩
  iapply (last_op V K l c hs1 hM _ hoff) $$ [HO HL]
  · isplitr; · iexact HR
    isplitr; · iexact Hlev
    isplitl [HO]; · iexact HO
    iexact HL
  iexact Hk

/-- After the main loop. -/
theorem trips_done (c : Dev nD) : TripSt V c (Scf.trips k0_t2_loop.lb k0_t2_loop.ub k0_t2_loop.st) ⊢
    iprop(owing c 0 ∗ XB V c ∗ (Lane V 0 c 30 ∗ Lane V 1 c 30 ∗ Lane V 2 c 30 ∗ Lane V 3 c 30)
    ∗ owns (c : Thread nD τ) (outQ 0) fullShare (AQ V c 0 30) ∗ owns (c : Thread nD τ) (outQ 1) fullShare (AQ V c 1 30)
    ∗ owns (c : Thread nD τ) (outQ 2) fullShare (AQ V c 2 30) ∗ owns (c : Thread nD τ) (outQ 3) fullShare (AQ V c 3 30)) := by
  have e : TripSt V c (Scf.trips k0_t2_loop.lb k0_t2_loop.ub k0_t2_loop.st) = TripSt V c 30 := congrArg _ trips2
  rw [e]
  unfold TripSt
  rw [OL_done c (fun _ => le_rfl)]

theorem pay34_fin (c : Dev nD) (sx sw : Elt F .f32) :
    k0_pay34 sx sw (AQ V c 0 30) (V.xb c (slot 0 c 31)) (V.at 0 c 31) = fin V (k0_pay33 sx sw) c 0 := rfl

theorem part19 (c : Dev nD) {v2 v147 v158 v178 v186 : BitVec 32} (hv2 : v2 = meW c) (hw1 : k0_chk1 c v147) (hw2 : k0_chk2 v178) (hw3 : k0_chk3 v186)
    (hv : v147 = pw (place c)) (hd : v178 = BitVec.ofNat 32 (nxt c).val) (hd' : v186 = BitVec.ofNat 32 (prv c).val) (sx sw : Elt F .f32)
    {Φ : (Σ' (_ : F .f32), FVec F S128x2048 .f32) → sProp 𝕄} :
    iprop(WaitSt V K c (.dma xrS) (OL c fun _ => 1) 31 ∗ ((Lane V 0 c 0 ∗ Lane V 1 c 0 ∗ Lane V 2 c 0 ∗ Lane V 3 c 0) ∗ ownX V c
        ∗ owns (c : Thread nD τ) (outQ 0) fullShare (AQ V c 0 0) ∗ owns (c : Thread nD τ) (outQ 1) fullShare (AQ V c 1 0)
        ∗ owns (c : Thread nD τ) (outQ 2) fullShare (AQ V c 2 0) ∗ owns (c : Thread nD τ) (outQ 3) fullShare (AQ V c 3 0)) ∗ Scl c sx sw
        ∗ ((owing c 0 ∗ XB V c ∗ (LaneEnd V 0 c ∗ Lane V 1 c 30 ∗ Lane V 2 c 30 ∗ Lane V 3 c 30) ∗ semVal (xrC c) 0
        ∗ (owns (c : Thread nD τ) (outQ 0) fullShare (AQ V c 0 30) ∗ owns (c : Thread nD τ) (outQ 1) fullShare (AQ V c 1 30)
        ∗ owns (c : Thread nD τ) (outQ 2) fullShare (AQ V c 2 30) ∗ owns (c : Thread nD τ) (outQ 3) fullShare (AQ V c 3 30)) ∗ Scl c sx sw)
          -∗ Φ ⟨k0_pay33 sx sw, fin V (k0_pay33 sx sw) c 0⟩))
      ⊢ wpc c (app (k0_part19 (F := F)) c v2 v147 hw1 v158 v178 hw2 v186 hw3 31#32) Φ := by
  subst hv hv2
  rw [k0_part19_eq_skeleton]
  delta app k0_part19_skel
  beta_reduce
  extract_lets
  refine if_step c 31 32 (by decide) rfl (WaitSt V K c (.dma xrS) (OL c fun _ => 1)) (wait_skip V K c _ _) (by exact Iff.rfl) (by exact fun _ => rfl) (by exact fun _ => rfl)
      (by exact fun _ hj k => recv_op V K c _ (above_mono (above_OL c fun _ => le_rfl) (by decide)) hj rfl k) ?_
  unfold WaitSt Scl
  iintro ⟨⟨#HR, #Hlev, HO, HW⟩, ⟨⟨H0, H1, H2, H3⟩, HX, A0, A1, A2, A3⟩, ⟨Hsx, Hsw⟩, Hk⟩
  ihave HE := (wt_end V c (.dma xrS)) $$ HW
  icases HE with ⟨Hz, Hp⟩
  ihave HB := (xb_whole V c) $$ [HX Hp]
  · isplitl [HX]; · iexact HX
    iexact Hp
  iapply (Scf.wp_for_bind (M := 𝕄) (Fr := frame) (wpE := wpE (defs₀ (F := F)) 𝒱₀ (c : Thread nD τ) none) (Es := Set.univ) k0_t2_loop.lb k0_t2_loop.ub k0_t2_loop.st k0_t2_ok ⟨⟩ _
    (fun n _ => iprop(records V K ∗ levAts L lv ∗ TripSt V c n)) (by
      intro t _
      iintro ⟨#HR, #Hlev, HT⟩
      iapply (trip V K c t hw1 hw2 hw3 rfl hd hd')
      isplitr; · iexact HR
      isplitr; · iexact Hlev
      isplitl [HT]; · iexact HT
      iintro HT
      isplitr; · iexact HR
      isplitr; · iexact Hlev
      iexact HT)) $$ [HO H0 H1 H2 H3 HB A0 A1 A2 A3]
  · unfold TripSt
    isplitr; · iexact HR
    isplitr; · iexact Hlev
    isplitl [HO]; · iexact HO
    isplitl [HB]; · iexact HB
    isplitl [H0 H1 H2 H3]
    · isplitl [H0]; · iexact H0
      isplitl [H1]; · iexact H1
      isplitl [H2]; · iexact H2
      iexact H3
    isplitl [A0]; · iexact A0
    isplitl [A1]; · iexact A1
    isplitl [A2]; · iexact A2
    iexact A3
  iintro %a ⟨-, -, HT⟩
  ihave HT := (trips_done V c) $$ HT
  icases HT with ⟨HO, HX, ⟨H0, H1, H2, H3⟩, A0, A1, A2, A3⟩
  iapply (word_load c sx rfl) $$ Hsx
  iintro Hsx
  iapply (word_load c sw rfl) $$ Hsw
  iintro Hsw
  simp only [Prog.lift, Prog.bind_op, Prog.bind_ret, Prog.pure_eq_ret]
  iapply (end_hop V K c 0 (arr0 _ (off52_eq c)) rfl rfl (off53_eq c)) $$ [HO H0]
  · isplitr; · iexact HR
    isplitr; · iexact Hlev
    isplitl [HO]; · iexact HO
    iexact H0
  iintro ⟨HO, H0⟩
  iapply (out_load c 0 rfl) $$ A0
  iintro A0
  iapply (two_loads V c 0 31 (end_open V 0 c) rfl (off54_eq c) (off55_eq c)) $$ [HX H0]
  · isplitl [HX]; · iexact HX
    iexact H0
  iintro ⟨HX, H0⟩
  rw [pay34_fin]
  iapply (wpc_ret c)
  iapply Hk
  isplitl [HO]; · iexact HO
  isplitl [HX]; · iexact HX
  isplitl [H0 H1 H2 H3]
  · isplitl [H0]; · iexact H0
    isplitl [H1]; · iexact H1
    isplitl [H2]; · iexact H2
    iexact H3
  isplitl [Hz]; · iexact Hz
  isplitl [A0 A1 A2 A3]
  · isplitl [A0]; · iexact A0
    isplitl [A1]; · iexact A1
    isplitl [A2]; · iexact A2
    iexact A3
  isplitl [Hsx]; · iexact Hsx
  iexact Hsw

theorem part20 (c : Dev nD) {v147 v158 v178 v186 : BitVec 32} (hw1 : k0_chk1 c v147) (hv : v147 = pw (place c)) (s : F .f32) {Φ : PUnit → sProp 𝕄} :
    iprop(records V K ∗ levAts L lv ∗ (owing c 0 ∗ XB V c ∗ Lane V 1 c 30
        ∗ owns (c : Thread nD τ) (outQ 0) fullShare (AQ V c 0 30) ∗ owns (c : Thread nD τ) (outQ 1) fullShare (AQ V c 1 30))
        ∗ ((owing c 0 ∗ XB V c ∗ LaneEnd V 1 c
        ∗ owns (c : Thread nD τ) (outQ 0) fullShare (fin V s c 0) ∗ owns (c : Thread nD τ) (outQ 1) fullShare (fin V s c 1)) -∗ Φ ⟨⟩))
      ⊢ wpc c (app (k0_part20 (F := F)) c v147 hw1 v158 v178 v186 s (fin V s c 0)) Φ := by
  subst hv
  rw [k0_part20_eq_skeleton]
  delta app k0_part20_skel
  beta_reduce
  simp only [Prog.lift, Prog.bind_op, Prog.bind_ret, Prog.pure_eq_ret]
  iintro ⟨#HR, #Hlev, ⟨HO, HX, H1, A0, A1⟩, Hk⟩
  iapply (out_update c 0 rfl) $$ A0
  iintro A0
  iapply (end_hop V K c 1 (arr1 _ (off52_eq c)) rfl rfl (off53_eq c)) $$ [HO H1]
  · isplitr; · iexact HR
    isplitr; · iexact Hlev
    isplitl [HO]; · iexact HO
    iexact H1
  iintro ⟨HO, H1⟩
  iapply (acc_run V c 1 31 (end_open V 1 c) rfl rfl (off54_eq c) (off55_eq c)) $$ [A1 HX H1]
  · isplitl [A1]; · iexact A1
    isplitl [HX]; · iexact HX
    iexact H1
  iintro ⟨A1, HX, H1⟩
  iapply (wpc_ret c)
  iapply Hk
  isplitl [HO]; · iexact HO
  isplitl [HX]; · iexact HX
  isplitl [H1]; · iexact H1
  isplitl [A0]; · iexact A0
  iexact A1

theorem part21 (c : Dev nD) {v147 v170 v186 : BitVec 32} (hw1 : k0_chk1 c v147) (hv : v147 = pw (place c)) (s : F .f32) {Φ : PUnit → sProp 𝕄} :
    iprop(records V K ∗ levAts L lv ∗ (owing c 0 ∗ XB V c ∗ Lane V 2 c 30 ∗ Lane V 3 c 30 ∗ owns (c : Thread nD τ) (outQ 2) fullShare (AQ V c 2 30))
        ∗ ((owing c 0 ∗ XB V c ∗ LaneEnd V 2 c ∗ LaneR V 3 c 30 ∗ owns (c : Thread nD τ) (outQ 2) fullShare (fin V s c 2)) -∗ Φ ⟨⟩))
      ⊢ wpc c (app (k0_part21 (F := F)) c v147 hw1 v170 v186 s) Φ := by
  subst hv
  rw [k0_part21_eq_skeleton]
  delta app k0_part21_skel
  beta_reduce
  simp only [Prog.lift, Prog.bind_op, Prog.bind_ret, Prog.pure_eq_ret]
  iintro ⟨#HR, #Hlev, ⟨HO, HX, H2, H3, A2⟩, Hk⟩
  iapply (end_hop V K c 2 (arr2 _ (off56_eq c)) rfl rfl (off57_eq c)) $$ [HO H2]
  · isplitr; · iexact HR
    isplitr; · iexact Hlev
    isplitl [HO]; · iexact HO
    iexact H2
  iintro ⟨HO, H2⟩
  iapply (acc_run V c 2 31 (end_open V 2 c) rfl rfl (off58_eq c) (off59_eq c)) $$ [A2 HX H2]
  · isplitl [A2]; · iexact A2
    isplitl [HX]; · iexact HX
    iexact H2
  iintro ⟨A2, HX, H2⟩
  iapply (get_op V K 3 c (by decide) (above_zero _) (arr3 _ (off56_eq c)) rfl (off57_eq c)) $$ [HO H3]
  · isplitr; · iexact HR
    isplitr; · iexact Hlev
    isplitl [HO]; · iexact HO
    iexact H3
  iintro ⟨HO, H3⟩
  iapply (wpc_ret c)
  iapply Hk
  isplitl [HO]; · iexact HO
  isplitl [HX]; · iexact HX
  isplitl [H2]; · iexact H2
  isplitl [H3]; · iexact H3
  iexact A2

theorem part22 (c : Dev nD) {v2 v147 v170 : BitVec 32} (hv2 : v2 = meW c) (hw1 : k0_chk1 c v147) (hv : v147 = pw (place c)) (s : F .f32) {Φ : BitVec 1 → sProp 𝕄} :
    iprop(records V K ∗ levAts L lv ∗ (owing c 0 ∗ XB V c ∗ LaneR V 3 c 30 ∗ owns (c : Thread nD τ) (outQ 3) fullShare (AQ V c 3 30)) ∗ Wt V c (.dma xsS) 0
        ∗ ((WaitSt V K c (.dma xsS) 0 5 ∗ XB V c ∗ LaneEnd V 3 c ∗ owns (c : Thread nD τ) (outQ 3) fullShare (fin V s c 3)) -∗ Φ (Scalar.cmpi .ne v2 5#32)))
      ⊢ wpc c (app (k0_part22 (F := F)) c v2 v147 hw1 v170 s) Φ := by
  subst hv hv2
  rw [k0_part22_eq_skeleton]
  delta app k0_part22_skel
  beta_reduce
  simp -zeta only [Prog.lift, Prog.bind_op, Prog.bind_ret, Prog.pure_eq_ret]
  extract_lets
  iintro ⟨#HR, #Hlev, ⟨HO, HX, H3, A3⟩, HW, Hk⟩
  iapply (last_op V K 3 c rfl rfl _ (off57_eq c)) $$ [HO H3]
  · isplitr; · iexact HR
    isplitr; · iexact Hlev
    isplitl [HO]; · iexact HO
    iexact H3
  iintro ⟨HO, H3⟩
  iapply (acc_run V c 3 31 (end_open V 3 c) rfl rfl (off58_eq c) (off59_eq c)) $$ [A3 HX H3]
  · isplitl [A3]; · iexact A3
    isplitl [HX]; · iexact HX
    iexact H3
  iintro ⟨A3, HX, H3⟩
  beta_reduce
  ihave HS : WaitSt V K c (.dma xsS) 0 0 $$ [HO HW]
  · unfold WaitSt
    isplitr; · iexact HR
    isplitr; · iexact Hlev
    isplitl [HO]; · iexact HO
    iexact HW
  iapply (if_wand c 0 1 (by decide) rfl (WaitSt V K c (.dma xsS) 0) (wait_skip V K c _ 0) (by exact Iff.rfl) (by exact fun _ => rfl) (by exact fun _ => rfl)
    (by exact fun _ hj k => sent_op V K c _ (above_zero _) hj rfl k)) $$ HS
  iintro HS
  iapply (if_wand c 1 2 (by decide) rfl (WaitSt V K c (.dma xsS) 0) (wait_skip V K c _ 0) (by exact Iff.rfl) (by exact fun _ => rfl) (by exact fun _ => rfl)
    (by exact fun _ hj k => sent_op V K c _ (above_zero _) hj rfl k)) $$ HS
  iintro HS
  iapply (if_wand c 2 3 (by decide) rfl (WaitSt V K c (.dma xsS) 0) (wait_skip V K c _ 0) (by exact Iff.rfl) (by exact fun _ => rfl) (by exact fun _ => rfl)
    (by exact fun _ hj k => sent_op V K c _ (above_zero _) hj rfl k)) $$ HS
  iintro HS
  iapply (if_wand c 3 4 (by decide) rfl (WaitSt V K c (.dma xsS) 0) (wait_skip V K c _ 0) (by exact Iff.rfl) (by exact fun _ => rfl) (by exact fun _ => rfl)
    (by exact fun _ hj k => sent_op V K c _ (above_zero _) hj rfl k)) $$ HS
  iintro HS
  iapply (if_wand c 4 5 (by decide) rfl (WaitSt V K c (.dma xsS) 0) (wait_skip V K c _ 0) (by exact Iff.rfl) (by exact fun _ => rfl) (by exact fun _ => rfl)
    (by exact fun _ hj k => sent_op V K c _ (above_zero _) hj rfl k)) $$ HS
  iintro HS
  iapply (wpc_ret c)
  iapply Hk
  isplitl [HS]; · iexact HS
  isplitl [HX]; · iexact HX
  isplitl [H3]; · iexact H3
  iexact A3

end Cert.KernelIdeal.Gather

end
-- ==== Proof.Start.lean ====
/-
# The start of the kernel's body

The words it computes, the signals to every device and the wait for theirs, the copies of the device's blocks into the
scratch buffers, and the first three activation transfers.
-/
module

public import proofs.«01_k».proof.Proof.Ends

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable {α : Type} {Φ : α → sProp (MT nD τ sig Unit (Elt F) ℕ UU ℕ)}

/-! ## What the blocks hold -/

/-- The gather's contents, of the operands each device is handed. -/
def mkV (X : Dev nD → S4096x128.Idx → Elt F .fp8e4m3) (W : Dev nD → S128x8192.Idx → Elt F .fp8e4m3) : Cts F where
  xo c j := fun i => k0_pay18 (X c) ((rowR j).emb i)
  wb l d := k0_pay19 fun i => W d ((cR l).emb i)

variable (X : Dev nD → S4096x128.Idx → Elt F .fp8e4m3) (W : Dev nD → S128x8192.Idx → Elt F .fp8e4m3) (V : Cts F) (K : Dev nD × Fin 135 → ℕ)

/-! ## Rules -/

theorem wpc_device (c : Dev nD) {k : Dev nD → Prog (TpuEff nD τ sig (Elt F) Λ₀ .tc) α} : wpc c (k c) Φ ⊢ wpc c (.op .deviceId k) Φ := by
  show wp _ _ _ (k c) Φ ⊢ wp _ _ _ (.op .deviceId k) Φ
  rw [wp_deviceId]
theorem wpc_assume (c : Dev nD) {P : Prop} {d : Decidable P} {k : PLift P → Prog (TpuEff nD τ sig (Elt F) Λ₀ .tc) α} (h : P) :
    wpc c (k ⟨h⟩) Φ ⊢ wpc c (.op (.assume P d) k) Φ := wp_assume 𝒱₀ (c : Thread nD τ) none Set.univ h

theorem ret_as (c : Dev nD) {a b : α} (h : a = b) : Φ b ⊢ wpc c (.ret a : Prog (TpuEff nD τ sig (Elt F) Λ₀ .tc) α) Φ := by
  subst h; exact wpc_ret c _

theorem win_load (c : Dev nD) (l : Fin 4) {off : Fin 2 → ℕ} {inb : ∀ a, off a + S128x2048.size a ≤ S128x8192.size a} (h : off = ![0, 2048 * l.val]) {hl}
    {k : (S128x2048.Idx → Elt F .fp8e4m3) → Prog (TpuEff nD τ sig (Elt F) Λ₀ .tc) α} {sh : PosShare TreeShare} {Y : S128x8192.Idx → Elt F .fp8e4m3} :
    (owns (c : Thread nD τ) winM sh Y : sProp 𝕄)
      ⊢ iprop((owns (c : Thread nD τ) winM sh Y -∗ wpc c (k fun i => Y ((cR l).emb i)) Φ)
        -∗ wpc c (.op (.load winM (Rect.unit (s := S128x8192) off S128x2048.size inb).toLoadRect hl) k) Φ) := by
  subst h
  exact wp_load_part 𝒱₀ (c : Thread nD τ) none Set.univ winM (cR l) (X := Y)

/-- A quarter of the weights laid into a lane's own slot. -/
theorem lay_own (c : Dev nD) (l : Fin 4) {M : Memref sig .tc .vmem S32x128x2048 .fp8e4m3} (hM : M = lnM l)
    {off : Fin 3 → ℕ} {inb inb' : ∀ a, off a + S1x128x2048.size a ≤ S32x128x2048.size a} (h : off = ![(place c).val, 0, 0])
    {w : S1x128x2048.Idx → Elt F .fp8e4m3} {hl hx hm}
    {k : PUnit → Prog (TpuEff nD τ sig (Elt F) Λ₀ .tc) α} :
    (iprop(∃ Y, owns (c : Thread nD τ) (wM l (place c)) fullShare Y) : sProp 𝕄)
      ⊢ iprop((owns (c : Thread nD τ) (wM l (place c)) fullShare w -∗ wpc c (k ⟨⟩) Φ)
        -∗ wpc c (.op (.load M (Rect.unit (s := S32x128x2048) off S1x128x2048.size inb).toLoadRect hl) fun _ =>
          .op (.store M (Rect.unit (s := S32x128x2048) off S1x128x2048.size inb') w Finset.univ hx hm) k) Φ) := by
  iintro ⟨%Y, H⟩ Hk
  iapply (slot_load c l (place c) hM h) $$ H
  iintro H
  iapply (slot_store c l (place c) hM h) $$ H
  iexact Hk

theorem own_slot (l : Fin 4) (c : Dev nD) : (owns (c : Thread nD τ) (wM l (place c)) fullShare (V.wb l c) : sProp 𝕄) ⊢ slotOwn V fullShare l c 0 := by
  have e : (owns (c : Thread nD τ) (wM l (place c)) fullShare (V.wb l c) : sProp 𝕄)
      = owns (c : Thread nD τ) (wM l (place c)) fullShare (V.wb l (dev (place c))) := by rw [dev_place]
  rw [e]
  unfold slotOwn Cts.at
  rw [slot_zero]

theorem own_put (l : Fin 4) (c : Dev nD) {w : S1x128x2048.Idx → Elt F .fp8e4m3} (h : w = V.wb l c) :
    (owns (c : Thread nD τ) (wM l (place c)) fullShare w : sProp 𝕄) ⊢ slotOwn V fullShare l c 0 := by
  subst h; exact own_slot V l c

/-! ## Words -/

theorem part5 (c : Dev nD) {Φ : (Σ' (_ : Dev nD) (_ : BitVec 32) (_ : IVec S1x32 32) (_ : IVec S1x32 32), IVec S1x32 32) → sProp 𝕄} :
    Φ ⟨c, meW c, iotaW, k0_pay3, k0_pay4⟩ ⊢ wpc c (app (k0_part5 (F := F))) Φ := by
  rw [k0_part5_eq_skeleton]
  delta app k0_part5_skel
  beta_reduce
  simp only [Prog.lift, Prog.bind_op, Prog.bind_ret, Prog.pure_eq_ret]
  iintro H
  iapply (wpc_device c)
  iapply (ret_as c (b := ⟨c, meW c, iotaW, k0_pay3, k0_pay4⟩) (by exact rfl))
  iexact H

theorem part6 (c : Dev nD) {Φ : (Σ' (_ : IVec S1x32 32) (_ : IVec S1x32 32) (_ : BitVec 32), IVec S1x32 32) → sProp 𝕄} :
    Φ ⟨w67, k0_pay6 k0_pay4, Scalar.select (Scalar.cmpi .eq 2#32 0#32) 1#32 2#32, k0_pay7⟩ ⊢ wpc c (app (k0_part6 (F := F)) k0_pay4) Φ := by
  rw [k0_part6_eq_skeleton]
  delta app k0_part6_skel
  beta_reduce
  exact wpc_ret c _

theorem part7 (c : Dev nD) {Φ : (Σ' (_ : IVec S1x32 32) (_ : IVec S1x32 32) (_ : IVec S1x32 32) (_ : IVec S1x32 1), IVec S1x32 32) → sProp 𝕄} :
    Φ ⟨w105, w107, w128, w130, k0_pay12⟩
      ⊢ wpc c (app (k0_part7 (F := F)) k0_pay3 w67 (k0_pay6 k0_pay4) (Scalar.select (Scalar.cmpi .eq 2#32 0#32) 1#32 2#32) k0_pay7) Φ := by
  rw [k0_part7_eq_skeleton]
  delta app k0_part7_skel
  beta_reduce
  exact wpc_ret c _

theorem part8 (c : Dev nD) {Φ : (Σ' (_ : IVec S1x32 32) (v147 : BitVec 32) (_ : k0_chk1 c v147) (_ : BitVec 32) (_ : BitVec 32), IVec S1x32 32) → sProp 𝕄} :
    Φ ⟨w139, placeW c, chk1_ok c, succW (placeW c), predW (placeW c), k0_pay15 (meW c) iotaW w67 w105 w107 w128 w130 k0_pay12⟩
      ⊢ wpc c (app (k0_part8 (F := F)) c (meW c) iotaW w67 w105 w107 w128 w130 k0_pay12) Φ := by
  rw [k0_part8_eq_skeleton]
  delta app k0_part8_skel
  beta_reduce
  simp only [Prog.lift, Prog.bind_op, Prog.bind_ret, Prog.pure_eq_ret]
  have h : k0_chk1 c (extractAt ![0, 0, 0] (k0_pay14 (meW c) iotaW w67 w105 w107 w128 w130 k0_pay12) inpos_S1x1x1_p0_0_0) := chk1_ok c
  iintro H
  iapply (wpc_assume c h)
  iapply (ret_as c (b := ⟨w139, placeW c, chk1_ok c, succW (placeW c), predW (placeW c), k0_pay15 (meW c) iotaW w67 w105 w107 w128 w130 k0_pay12⟩) (by exact rfl))
  iexact H

/-! ## The barrier and the copies -/

/-- The devices from number `n` on. -/
def tail (n : ℕ) : Finset (Dev nD) := Finset.univ.filter fun j => n ≤ j.val
theorem mem_tail {n : ℕ} {j : Dev nD} : j ∈ tail n ↔ n ≤ j.val := by unfold tail; rw [Finset.mem_filter]; exact ⟨fun h => h.2, fun h => ⟨Finset.mem_univ _, h⟩⟩
theorem tail_zero : tail 0 = Finset.univ := Finset.ext fun j => ⟨fun _ => Finset.mem_univ _, fun _ => mem_tail.mpr (Nat.zero_le _)⟩
theorem tail_erase (j : Dev nD) : (tail j.val).erase j = tail (j.val + 1) := by
  ext i; rw [Finset.mem_erase, mem_tail, mem_tail]
  exact ⟨fun h => by have := Fin.val_ne_of_ne h.1; omega, fun h => ⟨fun e => by subst e; omega, by omega⟩⟩
theorem tail_end : tail 32 = ∅ := by
  ext j; rw [mem_tail]; exact ⟨fun h => absurd h (by have := j.isLt; simp only [nD] at this; omega), fun h => absurd h (Finset.notMem_empty j)⟩

/-- The signals to the devices from `n` on to come. -/
def SigSt (c : Dev nD) (O : CellTallies nD τ sig Unit) (n : ℕ) : sProp 𝕄 :=
  iprop(records V K ∗ owing c (OB (tail n) + O) ∗ bigSep (tail n) fun d => iprop(dutyTok ER (barC d) 0 c ∗ barPay d c))

theorem sig_step (c j : Dev nD) (O : CellTallies nD τ sig Unit) {n : Dev nD} (hn : n = j) {k : PUnit → Prog (TpuEff nD τ sig (Elt F) Λ₀ .tc) α} :
    SigSt V K c O j.val ⊢ iprop((SigSt V K c O (j.val + 1) -∗ wpc c (k ⟨⟩) Φ) -∗ wpc c (.op (.semSignal (Dev.tc n : Thread nD τ) barS 1) k) Φ) := by
  unfold SigSt
  rw [← tail_erase, sep_take (mem_tail.mpr le_rfl)]
  iintro ⟨#HR, HO, ⟨Ht, Hp⟩, HS⟩ Hk
  iapply (bar_signal V K c j (mem_tail.mpr le_rfl) O hn) $$ [HO Ht Hp]
  · isplitr; · iexact HR
    isplitl [HO]; · iexact HO
    isplitl [Ht]; · iexact Ht
    iexact Hp
  iintro HO
  iapply Hk
  isplitr; · iexact HR
  isplitl [HO]; · iexact HO
  iexact HS

theorem sig_done (c : Dev nD) (O : CellTallies nD τ sig Unit) : SigSt V K c O (Scf.trips k0_t1_loop.lb k0_t1_loop.ub k0_t1_loop.st) ⊢ owing c O := by
  have e : SigSt V K c O (Scf.trips k0_t1_loop.lb k0_t1_loop.ub k0_t1_loop.st) = SigSt V K c O 32 := congrArg _ trips1
  rw [e]
  unfold SigSt
  rw [tail_end, OB_empty, zero_add]
  iintro ⟨-, HO, -⟩
  iexact HO

/-- A lane's own slot, held at something. -/
abbrev anySlot (l : Fin 4) (c : Dev nD) : sProp 𝕄 := iprop(∃ Y, owns (c : Thread nD τ) (wM l (place c)) fullShare Y)

theorem part9 (c : Dev nD) {O : CellTallies nD τ sig Unit} (hO : Above 1 O) {v139 v171 : IVec S1x32 32} {v170 : BitVec 32} (hw1 : k0_chk1 c (placeW c))
    (h139 : v139 = w139) (h171 : v171 = k0_pay15 (meW c) iotaW w67 w105 w107 w128 w130 k0_pay12) (h170 : v170 = predW (placeW c))
    {Φ : (Σ' (v178 : BitVec 32) (_ : k0_chk2 v178) (v186 : BitVec 32) (_ : k0_chk3 v186) (_ : FVec F S128x2048 .fp8e4m3), Vec F S1x128x2048 .fp8e4m3) → sProp 𝕄} :
    iprop(levAts L lv ∗ (SigSt (mkV X W) K c O 0 ∗ cred (tallyAt (barC c) () 32) ∗ atPos ER (barC c) 0 ∅ 0
          ∗ owns (c : Thread nD τ) xinM fullShare (X c) ∗ owns (c : Thread nD τ) winM fullShare (W c)
          ∗ (∃ Y, owns (c : Thread nD τ) x8M fullShare Y) ∗ anySlot 0 c ∗ anySlot 1 c)
        ∗ (∀ v, (semVal (barC c) 0 ∗ owing c O ∗ (bigSep Finset.univ fun d => barPay c d)
          ∗ owns (c : Thread nD τ) xinM fullShare (X c) ∗ owns (c : Thread nD τ) winM fullShare (W c)
          ∗ owns (c : Thread nD τ) x8M fullShare (k0_pay18 (X c)) ∗ slotOwn (mkV X W) fullShare 0 c 0 ∗ anySlot 1 c)
          -∗ Φ ⟨nxtW c, chk2_ok c, prvW c, chk3_ok c, k0_pay20 fun i => W c ((cR 1).emb i), v⟩))
      ⊢ wpc c (app (k0_part9 (F := F)) c iotaW v139 (placeW c) hw1 v170 v171) Φ := by
  subst h139 h171 h170
  rw [k0_part9_eq_skeleton]
  delta app k0_part9_skel
  beta_reduce
  simp only [semSignalWord, semWaitWord, Prog.lift, Prog.bind_op, Prog.bind_ret, Prog.pure_eq_ret]
  iintro ⟨#Hlev, ⟨HS, Hc, Hat, Hx, Hw, ⟨%Y, H8⟩, S0, ⟨%Y1, S1⟩⟩, Hk⟩
  ihave #HR : records (mkV X W) K $$ [HS]
  · unfold SigSt
    icases HS with ⟨#HR, -⟩
    iexact HR
  iapply (wpc_assume c (chk2_ok c))
  iapply (wpc_assume c (chk3_ok c))
  iapply (Scf.wp_for_bind (M := 𝕄) (Fr := frame) (wpE := wpE (defs₀ (F := F)) 𝒱₀ (c : Thread nD τ) none) (Es := Set.univ) k0_t1_loop.lb k0_t1_loop.ub k0_t1_loop.st k0_t1_ok ⟨⟩ _
    (fun n _ => SigSt (mkV X W) K c O n) (by
      intro t _
      delta k0_t1_body
      beta_reduce
      simp only [semSignalWord, Prog.lift, Prog.bind_op, Prog.bind_ret, Prog.pure_eq_ret]
      iintro HT
      iapply (sig_step (mkV X W) K c (⟨t.val, lt_of_lt_of_le t.isLt (le_of_eq trips1)⟩ : Dev nD) O (Fin.ext (dev1_eq t))) $$ HT
      iintro HT
      iapply (wpc_ret c)
      iexact HT)) $$ HS
  iintro %a HS
  ihave HO := (sig_done (mkV X W) K c O) $$ HS
  iapply (bar_wait (mkV X W) K c hO) $$ [Hc HO Hat]
  · isplitr; · iexact HR
    isplitr; · iexact Hlev
    isplitl [Hc]; · iexact Hc
    isplitl [HO]; · iexact HO
    iexact Hat
  iintro ⟨Hz, HO, Hp⟩
  iapply (x_load c) $$ Hx
  iintro Hx
  iapply (x_load c) $$ H8
  iintro H8
  iapply (x_store c) $$ H8
  iintro H8
  iapply (win_load c 0 rfl) $$ Hw
  iintro Hw
  iapply (lay_own c 0 rfl ((congrArg k0_off1 (placeW_eq c)).trans (off1_eq (place c)))) $$ S0
  iintro S0
  ihave S0 := (own_put (mkV X W) 0 c (w := k0_pay19 fun i => W c ((cR 0).emb i)) rfl) $$ S0
  iapply (win_load c 1 rfl) $$ Hw
  iintro Hw
  iapply (slot_load c 1 (place c) rfl ((congrArg k0_off1 (placeW_eq c)).trans (off1_eq (place c)))) $$ S1
  iintro S1
  iapply (ret_as c (b := ⟨nxtW c, chk2_ok c, prvW c, chk3_ok c, k0_pay20 fun i => W c ((cR 1).emb i), Y1⟩) (by exact rfl))
  iapply Hk
  isplitl [Hz]; · iexact Hz
  isplitl [HO]; · iexact HO
  isplitl [Hp]; · iexact Hp
  isplitl [Hx]; · iexact Hx
  isplitl [Hw]; · iexact Hw
  isplitl [H8]; · iexact H8
  isplitl [S0]; · iexact S0
  iexists Y1; iexact S1

attribute [local irreducible] instDecidableEqBitVec

theorem part10 (c : Dev nD) (O : CellTallies nD τ sig Unit) {v2 v147 : BitVec 32} (hv : v147 = pw (place c)) (hw1 : k0_chk1 c v147) {v : Vec F S1x128x2048 .fp8e4m3} {Φ : PUnit → sProp 𝕄} :
    iprop(SendSt (mkV X W) K c O 0 ∗ (owns (c : Thread nD τ) winM fullShare (W c) ∗ anySlot 1 c ∗ anySlot 2 c ∗ anySlot 3 c
          ∗ owns (c : Thread nD τ) (rowM c) fullShare ((mkV X W).xo c c) ∗ (∃ Y, owns (c : Thread nD τ) (xM (place c)) fullShare Y))
        ∗ ((SendSt (mkV X W) K c O 3 ∗ owns (c : Thread nD τ) winM fullShare (W c)
          ∗ slotOwn (mkV X W) fullShare 1 c 0 ∗ slotOwn (mkV X W) fullShare 2 c 0 ∗ slotOwn (mkV X W) fullShare 3 c 0
          ∗ owns (c : Thread nD τ) (rowM c) fullShare ((mkV X W).xo c c) ∗ ownX (mkV X W) c) -∗ Φ ⟨⟩))
      ⊢ wpc c (app (k0_part10 (F := F)) c v2 v147 hw1 (k0_pay20 fun i => W c ((cR 1).emb i)) v) Φ := by
  subst hv
  rw [k0_part10_eq_skeleton]
  delta app k0_part10_skel
  beta_reduce
  simp -zeta only [Prog.lift, Prog.bind_op, Prog.bind_ret, Prog.pure_eq_ret]
  extract_lets
  iintro ⟨HS, ⟨Hw, ⟨%Y1, S1⟩, S2, S3, Hr, ⟨%Y, Hx⟩⟩, Hk⟩
  iapply (slot_store c 1 (place c) rfl (off1_eq (place c))) $$ S1
  iintro S1
  iapply (win_load c 2 rfl) $$ Hw
  iintro Hw
  iapply (lay_own c 2 rfl (off1_eq (place c))) $$ S2
  iintro S2
  iapply (win_load c 3 rfl) $$ Hw
  iintro Hw
  iapply (lay_own c 3 rfl (off1_eq (place c))) $$ S3
  iintro S3
  iapply (row_load c c (off2_eq c)) $$ Hr
  iintro Hr
  iapply (blk_load c (place c) (off3_eq (place c))) $$ Hx
  iintro Hx
  iapply (blk_store c (place c) (off3_eq (place c))) $$ Hx
  iintro Hx
  ihave S1 := (own_put (mkV X W) 1 c (w := k0_pay21 (k0_pay20 fun i => W c ((cR 1).emb i))) rfl) $$ S1
  ihave S2 := (own_put (mkV X W) 2 c (w := k0_pay22 fun i => W c ((cR 2).emb i)) rfl) $$ S2
  ihave S3 := (own_put (mkV X W) 3 c (w := k0_pay23 fun i => W c ((cR 3).emb i)) rfl) $$ S3
  beta_reduce
  iapply (if_wand c 0 1 (by decide) rfl (SendSt (mkV X W) K c O) (send_skip (mkV X W) K c O) (by exact Iff.rfl) (by exact fun _ => rfl) (by exact fun _ => rfl)
    (by exact fun _ hj k => send_op (mkV X W) K c _ O hj rfl rfl (off_pw (place c)) k)) $$ HS
  iintro HS
  iapply (if_wand c 1 2 (by decide) rfl (SendSt (mkV X W) K c O) (send_skip (mkV X W) K c O) (by exact Iff.rfl) (by exact fun _ => rfl) (by exact fun _ => rfl)
    (by exact fun _ hj k => send_op (mkV X W) K c _ O hj rfl rfl (off_pw (place c)) k)) $$ HS
  iintro HS
  iapply (if_wand c 2 3 (by decide) rfl (SendSt (mkV X W) K c O) (send_skip (mkV X W) K c O) (by exact Iff.rfl) (by exact fun _ => rfl) (by exact fun _ => rfl)
    (by exact fun _ hj k => send_op (mkV X W) K c _ O hj rfl rfl (off_pw (place c)) k)) $$ HS
  iintro HS
  iapply (wpc_ret c)
  iapply Hk
  isplitl [HS]; · iexact HS
  isplitl [Hw]; · iexact Hw
  isplitl [S1]; · iexact S1
  isplitl [S2]; · iexact S2
  isplitl [S3]; · iexact S3
  isplitl [Hr]; · iexact Hr
  unfold ownX Cts.xb
  rw [dev_place]
  iexact Hx

end Cert.KernelIdeal.Gather

end
-- ==== Proof.Hand.lean ====
/-
# Cutting the buffers up, handing the pieces out, and putting them together again
-/
module

public import proofs.«01_k».proof.Proof.Start
public import Idealize.ShloMosaic.Lib.SparseCore.Launch

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Choosing summands -/

theorem emp_drop (P : sProp 𝕄) : (iprop(emp ∗ P) : sProp 𝕄) = P := equiv_iff.mp emp_sep

theorem sep_but {I : Type} [DecidableEq I] [Fintype I] (a : I) (P : I → sProp 𝕄) :
    (bigSep Finset.univ (fun d => if d = a then iprop(emp) else P d) : sProp 𝕄) = bigSep (Finset.univ.erase a) P := by
  rw [sep_take (Finset.mem_univ a), if_pos rfl, emp_drop]
  exact bigSep_congr fun d hd => if_neg (Finset.ne_of_mem_erase hd)
theorem sep_at {I : Type} [DecidableEq I] [Fintype I] (a : I) (P : I → sProp 𝕄) :
    (bigSep Finset.univ (fun d => if d = a then P d else iprop(emp)) : sProp 𝕄) = P a := by
  rw [sep_take (Finset.mem_univ a), if_pos rfl,
    show (bigSep (Finset.univ.erase a) (fun d => if d = a then P d else iprop(emp)) : sProp 𝕄) = bigSep (Finset.univ.erase a) (fun _ => iprop(emp)) from
      bigSep_congr fun d hd => if_neg (Finset.ne_of_mem_erase hd)]
  rw [show (bigSep (Finset.univ.erase a) (fun _ : I => iprop(emp)) : sProp 𝕄) = iprop(emp) from bigSep_emp_const _]
  exact equiv_iff.mp sep_emp

/-- Every slot of a lane: those of thirty-two hops; the device's own and those of the thirty-one receives. -/
theorem slots_all (l : Fin 4) (c : Dev nD) (P : Fin 32 → sProp 𝕄) :
    (bigSep Finset.univ P : sProp 𝕄) = bigSep (Finset.range 32) fun h => P (slot l c h) := by
  have e : (Finset.univ : Finset (Fin 32)) = (Finset.range 32).image (slot l c) := by
    ext q
    rw [Finset.mem_image]
    obtain ⟨h, hh, e⟩ := slot_surj l c q
    exact ⟨fun _ => ⟨h, Finset.mem_range.mpr hh, e⟩, fun _ => Finset.mem_univ _⟩
  rw [e]
  exact SparseCore.bigSep_image_of_injOn (fun a ha b hb e => slot_inj l c (Finset.mem_range.mp ha) (Finset.mem_range.mp hb) e) P
theorem slots_own (l : Fin 4) (c : Dev nD) (P : Fin 32 → sProp 𝕄) :
    (bigSep Finset.univ P : sProp 𝕄) = iprop(P (place c) ∗ bigSep (Finset.range 31) fun h => P (slot l c (h + 1))) := by
  have e : (Finset.univ : Finset (Fin 32)).erase (place c) = (Finset.range 31).image (fun h => slot l c (h + 1)) := by
    ext q
    rw [Finset.mem_image, Finset.mem_erase]
    constructor
    · rintro ⟨hq, -⟩
      obtain ⟨h, hh, e⟩ := slot_surj l c q
      have h0 : h ≠ 0 := fun h0 => hq (by rw [← e, h0, slot_zero])
      exact ⟨h - 1, Finset.mem_range.mpr (by omega), by rw [Nat.sub_add_cancel (Nat.pos_of_ne_zero h0)]; exact e⟩
    · rintro ⟨h, hh, e⟩
      exact ⟨e ▸ slot_succ_ne l c (Finset.mem_range.mp hh), Finset.mem_univ _⟩
  rw [sep_take (Finset.mem_univ (place c)), e]
  exact congrArg (fun R : sProp 𝕄 => iprop(P (place c) ∗ R)) (SparseCore.bigSep_image_of_injOn (fun a ha b hb e => by
    have := slot_inj l c (by have := Finset.mem_range.mp ha; omega) (by have := Finset.mem_range.mp hb; omega) e
    omega) P)
/-- Slots, by the devices at their places. -/
theorem slots_dev (P : Fin 32 → sProp 𝕄) : (bigSep Finset.univ P : sProp 𝕄) = bigSep Finset.univ fun d : Dev nD => P (place d) :=
  bigSep_univ_equiv (⟨place, dev, dev_place, place_dev⟩ : Dev nD ≃ Fin 32) P

/-! ## The barrier's payloads -/

/-- The slots of its own lanes that a device does not fill itself. -/
def laneIn (c : Dev nD) (l : Fin 4) : sProp 𝕄 :=
  bigSep (Finset.range 31) fun h => iprop(∃ Y, owns (c : Thread nD τ) (wM l (slot l c (h + 1))) fullShare Y)

theorem laneOut_frm (c : Dev nD) (l : Fin 4) : laneOut (F := F) (frm l c) l = laneIn c l := by
  unfold laneOut laneIn
  refine bigSep_congr fun h _ => ?_
  rw [← slot_tgt l (frm l c) h, tgt_frm]

theorem bar_out (c : Dev nD) :
    (bigSep Finset.univ (fun d => barPay d c) : sProp 𝕄)
      = iprop((bigSep (Finset.univ.erase c) fun d : Dev nD => iprop(∃ Y, owns (c : Thread nD τ) (xM (place d)) fullShare Y)) ∗ bigSep Finset.univ (laneIn c)) := by
  unfold barPay
  rw [sep_both]
  congr 1
  · rw [← sep_but c]
    exact bigSep_congr fun d _ => if_congr eq_comm rfl rfl
  · rw [show (bigSep Finset.univ (fun d : Dev nD => bigSep Finset.univ fun l : Fin 4 => if c = tgt l d then laneOut d l else iprop(emp)) : sProp 𝕄)
        = bigSep Finset.univ fun l : Fin 4 => bigSep Finset.univ fun d : Dev nD => if c = tgt l d then laneOut d l else iprop(emp) from BI.bigSep_univ_comm _]
    refine bigSep_congr fun l _ => ?_
    rw [← laneOut_frm, ← sep_at (frm l c) fun d => laneOut d l]
    exact bigSep_congr fun d _ => if_congr ⟨fun e => by rw [e, frm_tgt], fun e => by rw [e, tgt_frm]⟩ rfl rfl

theorem bar_in (c : Dev nD) :
    (bigSep Finset.univ (fun d => barPay c d) : sProp 𝕄)
      = iprop((bigSep (Finset.univ.erase c) fun d : Dev nD => iprop(∃ Y, owns (d : Thread nD τ) (xM (place c)) fullShare Y)) ∗ bigSep Finset.univ (laneOut c)) := by
  unfold barPay
  rw [sep_both, sep_but c]
  congr 1
  rw [show (bigSep Finset.univ (fun d : Dev nD => bigSep Finset.univ fun l : Fin 4 => if d = tgt l c then laneOut c l else iprop(emp)) : sProp 𝕄)
        = bigSep Finset.univ fun l : Fin 4 => bigSep Finset.univ fun d : Dev nD => if d = tgt l c then laneOut c l else iprop(emp) from BI.bigSep_univ_comm _]
  exact bigSep_congr fun l _ => sep_at (tgt l c) fun _ => laneOut c l

/-! ## Buffers cut and rejoined -/

theorem x_cut (c : Dev nD) :
    (iprop(∃ Y, owns (c : Thread nD τ) xbM fullShare Y) : sProp 𝕄)
      ⊢ iprop((∃ Y, owns (c : Thread nD τ) (xM (place c)) fullShare Y) ∗ bigSep (Finset.univ.erase c) fun d : Dev nD => iprop(∃ Y, owns (c : Thread nD τ) (xM (place d)) fullShare Y)) := by
  refine (owns_cut (c : Thread nD τ) xbM xR (fun _ _ => rfl) xR_disjoint xR_cover).trans (Entails.of_eq ?_)
  exact (slots_dev fun q => iprop(∃ Y, owns (c : Thread nD τ) (xM q) fullShare Y)).trans (sep_take (Finset.mem_univ c) _)
theorem w_cut (c : Dev nD) (l : Fin 4) :
    (iprop(∃ Y, owns (c : Thread nD τ) (lnM l) fullShare Y) : sProp 𝕄) ⊢ iprop(anySlot l c ∗ laneIn c l) := by
  refine (owns_cut (c : Thread nD τ) (lnM l) wR (fun _ _ => rfl) wR_disjoint wR_cover).trans (Entails.of_eq ?_)
  exact slots_own l c fun q => iprop(∃ Y, owns (c : Thread nD τ) (wM l q) fullShare Y)
theorem w_cuts (c : Dev nD) :
    (bigSep Finset.univ (fun l => iprop(∃ Y, owns (c : Thread nD τ) (lnM l) fullShare Y)) : sProp 𝕄)
      ⊢ iprop((anySlot 0 c ∗ anySlot 1 c ∗ anySlot 2 c ∗ anySlot 3 c) ∗ bigSep Finset.univ (laneIn c)) := by
  rw [← sep_four fun l => anySlot l c, ← sep_both]
  exact BI.bigSep_mono fun l _ => w_cut c l

variable (X : Dev nD → S4096x128.Idx → Elt F .fp8e4m3) (W : Dev nD → S128x8192.Idx → Elt F .fp8e4m3) (V : Cts F)

theorem rows_cut (c : Dev nD) :
    (owns (c : Thread nD τ) x8M fullShare (k0_pay18 (X c)) : sProp 𝕄)
      ⊢ iprop(owns (c : Thread nD τ) (rowM c) fullShare ((mkV X W).xo c c) ∗ bigSep (Finset.univ.erase c) fun j : Dev nD => owns (c : Thread nD τ) (rowM j) fullShare ((mkV X W).xo c j)) := by
  refine (owns_rects (c : Thread nD τ) x8M fullShare rowR (fun _ _ => rfl) rowR_disjoint rowR_cover (Val := Elt F) (k0_pay18 (X c))).trans (Entails.of_eq ?_)
  exact sep_take (Finset.mem_univ c) fun j : Dev nD => owns (c : Thread nD τ) (rowM j) fullShare ((mkV X W).xo c j)
theorem rows_back (c : Dev nD) :
    (iprop(owns (c : Thread nD τ) (rowM c) fullShare (V.xo c c) ∗ bigSep (Finset.univ.erase c) fun j : Dev nD => owns (c : Thread nD τ) (rowM j) fullShare (V.xo c j)) : sProp 𝕄)
      ⊢ iprop(∃ Y, owns (c : Thread nD τ) x8M fullShare Y) := by
  refine (Entails.of_eq (sep_take (Finset.mem_univ c) fun j : Dev nD => owns (c : Thread nD τ) (rowM j) fullShare (V.xo c j)).symm).trans ?_
  refine .trans ?_ (owns_gather (c : Thread nD τ) x8M rowR (fun _ _ => rfl) rowR_disjoint rowR_cover)
  exact BI.bigSep_mono fun j _ => owns_some _ _ _ _
theorem xb_back (c : Dev nD) : XB V c ⊢ (iprop(∃ Y, owns (c : Thread nD τ) xbM fullShare Y) : sProp 𝕄) := by
  refine .trans ?_ (owns_gather (c : Thread nD τ) xbM xR (fun _ _ => rfl) xR_disjoint xR_cover)
  exact BI.bigSep_mono fun j _ => owns_some _ _ _ _
theorem lane_whole (c : Dev nD) (l : Fin 4) :
    (bigSep (Finset.range 32) (slotOwn V fullShare l c) : sProp 𝕄) ⊢ iprop(∃ Y, owns (c : Thread nD τ) (lnM l) fullShare Y) := by
  refine .trans ?_ (owns_gather (c : Thread nD τ) (lnM l) wR (fun _ _ => rfl) wR_disjoint wR_cover)
  rw [slots_all l c]
  exact BI.bigSep_mono fun j _ => owns_some _ _ _ _

/-- The result a device ends with. -/
def outV (s : F .f32) (c : Dev nD) : S128x8192.Idx → Elt F .f32 := Rect.glue cR cR_cover fun l => fin V s c l
theorem outV_emb (s : F .f32) (c : Dev nD) (l : Fin 4) (y : (cR l).shape.Idx) : outV V s c ((cR l).emb y) = fin V s c l y := by
  unfold outV
  exact Rect.glue_emb cR cR_cover cR_disjoint _ l y

theorem out_cut (c : Dev nD) (A : S128x8192.Idx → Elt F .f32) :
    (owns (c : Thread nD τ) outM fullShare A : sProp 𝕄)
      ⊢ iprop(owns (c : Thread nD τ) (outQ 0) fullShare (fun i => A ((cR 0).emb i)) ∗ owns (c : Thread nD τ) (outQ 1) fullShare (fun i => A ((cR 1).emb i))
        ∗ owns (c : Thread nD τ) (outQ 2) fullShare (fun i => A ((cR 2).emb i)) ∗ owns (c : Thread nD τ) (outQ 3) fullShare (fun i => A ((cR 3).emb i))) := by
  refine (owns_rects (c : Thread nD τ) outM fullShare cR (fun _ _ => rfl) cR_disjoint cR_cover A).trans (Entails.of_eq ?_)
  exact sep_four fun l => owns (c : Thread nD τ) (outQ l) fullShare fun i => A ((cR l).emb i)
theorem out_back (c : Dev nD) (s : F .f32) :
    (iprop(owns (c : Thread nD τ) (outQ 0) fullShare (fin V s c 0) ∗ owns (c : Thread nD τ) (outQ 1) fullShare (fin V s c 1)
        ∗ owns (c : Thread nD τ) (outQ 2) fullShare (fin V s c 2) ∗ owns (c : Thread nD τ) (outQ 3) fullShare (fin V s c 3)) : sProp 𝕄)
      ⊢ owns (c : Thread nD τ) outM fullShare (outV V s c) := by
  refine (Entails.of_eq (sep_four fun l => owns (c : Thread nD τ) (outQ l) fullShare (fin V s c l)).symm).trans ?_
  refine .trans (Q := bigSep Finset.univ fun l => owns (c : Thread nD τ) (outM.slice (cR l) (fun _ => rfl)) fullShare fun j => outV V s c ((cR l).emb j)) ?_
    (owns_of_rects (c : Thread nD τ) outM fullShare cR (fun _ _ => rfl) cR_disjoint cR_cover (outV V s c))
  refine BI.bigSep_mono fun l _ => ?_
  rw [show (fun j => outV V s c ((cR l).emb j)) = fin V s c l from funext fun y => outV_emb V s c l y]
  exact .refl _

end Cert.KernelIdeal.Gather

end
-- ==== Proof.Body.lean ====
/-
# The body, whole

What a device is handed at launch, how it becomes the state each piece of the body starts from, and the pieces run one
after another.
-/
module

public import proofs.«01_k».proof.Proof.Hand

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (X : Dev nD → S4096x128.Idx → Elt F .fp8e4m3) (W : Dev nD → S128x8192.Idx → Elt F .fp8e4m3) (V : Cts F) (K : Dev nD × Fin 135 → ℕ)

/-! ## What a device starts from -/

/-- A family over the transfer cells. -/
def tcells (P : SemLoc sig → sProp 𝕄) : sProp 𝕄 :=
  iprop(P (.dma xsS) ∗ P (.dma xrS) ∗ bigSep Finset.univ fun l : Fin 4 => iprop(P (.dma (lsS l)) ∗ bigSep Finset.univ fun q : Fin 32 => P (.dma (lrS l q))))

/-- The tokens of the duties a device pays. -/
def toks (c : Dev nD) : sProp 𝕄 :=
  iprop((bigSep Finset.univ fun d : Dev nD => dutyTok ER (barC d) 0 c) ∗ (bigSep (Finset.univ.erase c) fun j : Dev nD => dutyTok ER (xsC c) 0 j)
    ∗ (bigSep (Finset.univ.erase c) fun j : Dev nD => dutyTok ER (xrC j) 0 c)
    ∗ (bigSep Finset.univ fun l : Fin 4 => bigSep (Finset.range 31) fun h => dutyTok ER (lrC l (tgt l c) (slot l c h)) 0 0)
    ∗ bigSep Finset.univ fun l : Fin 4 => bigSep (Finset.range 31) fun h => dutyTok ER (lsC l c) h 0)

/-- The credits others owe it. -/
def creds (c : Dev nD) : sProp 𝕄 :=
  iprop(cred (tallyAt (barC c) () 32) ∗ (bigSep (Finset.univ.erase c) fun _ : Dev nD => cred (tallyAt (xrC c) () NX))
    ∗ bigSep Finset.univ fun l : Fin 4 => bigSep (Finset.range 31) fun h => cred (tallyAt (lrC l c (slot l c (h + 1))) () NW))

def spots (c : Dev nD) : sProp 𝕄 := iprop(atPos ER (barC c) 0 ∅ 0 ∗ tcells fun sm => atPos ER ((c : Thread nD τ), sm) 0 ∅ 0)

/-- The scratch buffers, at something. -/
def scratch (c : Dev nD) : sProp 𝕄 :=
  iprop((∃ Y, owns (c : Thread nD τ) x8M fullShare Y) ∗ (∃ Y, owns (c : Thread nD τ) xbM fullShare Y)
    ∗ bigSep Finset.univ fun l : Fin 4 => iprop(∃ Y, owns (c : Thread nD τ) (lnM l) fullShare Y))

/-! ## From stage to stage -/

theorem to_signals (c : Dev nD) :
    (iprop(records V K ∗ owing c (O₀ c) ∗ (bigSep Finset.univ fun d : Dev nD => dutyTok ER (barC d) 0 c) ∗ (∃ Y, owns (c : Thread nD τ) xbM fullShare Y)
        ∗ bigSep Finset.univ fun l : Fin 4 => iprop(∃ Y, owns (c : Thread nD τ) (lnM l) fullShare Y)) : sProp 𝕄)
      ⊢ iprop(SigSt V K c (OX (rem c 0) + OL c fun _ => 0) 0 ∗ (∃ Y, owns (c : Thread nD τ) (xM (place c)) fullShare Y)
        ∗ anySlot 0 c ∗ anySlot 1 c ∗ anySlot 2 c ∗ anySlot 3 c) := by
  unfold SigSt O₀
  rw [tail_zero, rem_zero, sep_both, bar_out]
  iintro ⟨HR, HO, Ht, Hx, Hl⟩
  ihave ⟨Hx, Hxs⟩ := (x_cut c) $$ Hx
  ihave ⟨Hl, Hls⟩ := (w_cuts c) $$ Hl
  isplitl [HR HO Ht Hxs Hls]
  · isplitl [HR]; · iexact HR
    isplitl [HO]; · iexact HO
    isplitl [Ht]; · iexact Ht
    isplitl [Hxs]; · iexact Hxs
    iexact Hls
  isplitl [Hx]; · iexact Hx
  iexact Hl

theorem to_sends (c : Dev nD) :
    (iprop(records (mkV X W) K ∗ owing c (OX (rem c 0) + OL c fun _ => 0) ∗ (bigSep Finset.univ fun d => barPay c d)
        ∗ (bigSep (Finset.univ.erase c) fun j : Dev nD => dutyTok ER (xsC c) 0 j)
        ∗ (bigSep (Finset.univ.erase c) fun j : Dev nD => dutyTok ER (xrC j) 0 c) ∗ owns (c : Thread nD τ) x8M fullShare (k0_pay18 (X c))) : sProp 𝕄)
      ⊢ iprop(SendSt (mkV X W) K c (OL c fun _ => 0) 0 ∗ owns (c : Thread nD τ) (rowM c) fullShare ((mkV X W).xo c c) ∗ bigSep Finset.univ (laneOut c)) := by
  unfold SendSt XSt xTodo
  rw [bar_in, don_zero, sep_nil, sep_both, sep_both, sep_both, rem_zero]
  iintro ⟨HR, HO, ⟨Hd, Hl⟩, Hts, Htr, H8⟩
  ihave ⟨Hr, Hrs⟩ := (rows_cut X W c) $$ H8
  isplitl [HR HO Hd Hts Htr Hrs]
  · isplitl [HR]; · iexact HR
    isplitl [HO]; · iexact HO
    isplitl [Hrs Hd Hts Htr]
    · isplitl [Hrs]; · iexact Hrs
      isplitl [Hd]; · iexact Hd
      isplitl [Hts]; · iexact Hts
      iexact Htr
    iempintro
  isplitl [Hr]; · iexact Hr
  iexact Hl

theorem to_hops (c : Dev nD) (O : CellTallies nD τ sig Unit) :
    iprop(SendSt V K c O 32 ∗ atPos ER (xsC c) 0 ∅ 0) ⊢ iprop(owing c O ∗ Wt V c (.dma xsS) 0) := by
  unfold SendSt XSt Wt
  rw [rem_end, OX_empty, zero_add, don_end, sep_nil]
  iintro ⟨⟨-, HO, -, Hc⟩, Hat⟩
  isplitl [HO]; · iexact HO
  isplitl [Hat]
  · iapply (cnt_start V c (.dma xsS)); iexact Hat
  iexact Hc

theorem to_lane (l : Fin 4) (c : Dev nD) :
    iprop(slotOwn V fullShare l c 0 ∗ atPos ER (lsC l c) 0 ∅ 0 ∗ (bigSep (Finset.range 31) fun h => atPos ER (lrC l c (slot l c (h + 1))) 0 ∅ 0)
        ∗ (bigSep (Finset.range 31) fun h => cred (tallyAt (lrC l c (slot l c (h + 1))) () NW)) ∗ laneOut c l
        ∗ (bigSep (Finset.range 31) fun h => dutyTok ER (lrC l (tgt l c) (slot l c h)) 0 0) ∗ bigSep (Finset.range 31) fun h => dutyTok ER (lsC l c) h 0)
      ⊢ Lane0 V l c := by
  unfold Lane0 lRcv lTodo laneOut
  rw [← Finset.range_eq_Ico, sep_both, sep_both, sep_both]
  iintro ⟨H, Hs, Hr, Hc, Ho, Htr, Hts⟩
  isplitl [H]; · iexact H
  isplitl [Hs]; · iexact Hs
  isplitl [Hr Hc]
  · isplitl [Hc]; · iexact Hc
    iexact Hr
  isplitl [Ho]; · iexact Ho
  isplitl [Htr]; · iexact Htr
  iexact Hts

/-- The cells the ring leaves alone: each lane's cell of the device's own slot. -/
abbrev idle (l : Fin 4) (c : Dev nD) : sProp 𝕄 := atPos ER (lrC l c (place c)) 0 ∅ 0

theorem to_lane_idle (l : Fin 4) (c : Dev nD) :
    iprop(slotOwn V fullShare l c 0 ∗ (atPos ER (lsC l c) 0 ∅ 0 ∗ bigSep Finset.univ fun q : Fin 32 => atPos ER (lrC l c q) 0 ∅ 0)
        ∗ (bigSep (Finset.range 31) fun h => cred (tallyAt (lrC l c (slot l c (h + 1))) () NW)) ∗ laneOut c l
        ∗ (bigSep (Finset.range 31) fun h => dutyTok ER (lrC l (tgt l c) (slot l c h)) 0 0) ∗ bigSep (Finset.range 31) fun h => dutyTok ER (lsC l c) h 0)
      ⊢ iprop(Lane0 V l c ∗ idle l c) := by
  rw [slots_own l c fun q => atPos ER (lrC l c q) 0 ∅ 0]
  iintro ⟨H, ⟨Hs, Hi, Hr⟩, Hc, Ho, Htr, Hts⟩
  isplitr [Hi]
  · iapply (to_lane V l c)
    isplitl [H]; · iexact H
    isplitl [Hs]; · iexact Hs
    isplitl [Hr]; · iexact Hr
    isplitl [Hc]; · iexact Hc
    isplitl [Ho]; · iexact Ho
    isplitl [Htr]; · iexact Htr
    iexact Hts
  iexact Hi

theorem to_lanes (c : Dev nD) :
    iprop((slotOwn V fullShare 0 c 0 ∗ slotOwn V fullShare 1 c 0 ∗ slotOwn V fullShare 2 c 0 ∗ slotOwn V fullShare 3 c 0)
        ∗ (bigSep Finset.univ fun l : Fin 4 => iprop(atPos ER (lsC l c) 0 ∅ 0 ∗ bigSep Finset.univ fun q : Fin 32 => atPos ER (lrC l c q) 0 ∅ 0))
        ∗ (bigSep Finset.univ fun l : Fin 4 => bigSep (Finset.range 31) fun h => cred (tallyAt (lrC l c (slot l c (h + 1))) () NW)) ∗ bigSep Finset.univ (laneOut c)
        ∗ (bigSep Finset.univ fun l : Fin 4 => bigSep (Finset.range 31) fun h => dutyTok ER (lrC l (tgt l c) (slot l c h)) 0 0)
        ∗ bigSep Finset.univ fun l : Fin 4 => bigSep (Finset.range 31) fun h => dutyTok ER (lsC l c) h 0)
      ⊢ iprop((Lane0 V 0 c ∗ Lane0 V 1 c ∗ Lane0 V 2 c ∗ Lane0 V 3 c) ∗ bigSep Finset.univ fun l => idle l c) := by
  rw [← sep_four fun l => slotOwn V fullShare l c 0, ← sep_four fun l => Lane0 V l c, ← sep_both, ← sep_both, ← sep_both, ← sep_both, ← sep_both, ← sep_both]
  exact BI.bigSep_mono fun l _ => to_lane_idle V l c

theorem to_recvs (c : Dev nD) :
    iprop(atPos ER (xrC c) 0 ∅ 0 ∗ bigSep (Finset.univ.erase c) fun _ : Dev nD => cred (tallyAt (xrC c) () NX)) ⊢ Wt V c (.dma xrS) 0 := by
  unfold Wt
  rw [rem_zero]
  iintro ⟨Hat, Hc⟩
  isplitl [Hat]
  · iapply (cnt_start V c (.dma xrS)); iexact Hat
  iexact Hc

/-- An idle cell closes at zero. -/
theorem idle_close (l : Fin 4) (c : Dev nD) : iprop(records V K ∗ idle l c) ⊢ iprop(|={Set.univ}=> semVal (lrC l c (place c)) 0) := by
  iintro ⟨#HR, H⟩
  ihave HI := (record_lr V K l c (place c)) $$ HR
  icases HI with ⟨%κ, #HI, -⟩
  iapply (cell_close ER (Rd V) (Set.mem_univ κ) (fun h => h) (R := 0) (g := lrC l c (place c)) fun r _ => by rw [duties_lr, if_neg fun h => h.2 rfl])
  isplitr; · iexact HI
  iexact H

theorem from_lane (l : Fin 4) (c : Dev nD) :
    iprop(LaneEnd V l c ∗ semVal (lrC l c (place c)) 0)
      ⊢ iprop((∃ Y, owns (c : Thread nD τ) (lnM l) fullShare Y) ∗ (semVal (lsC l c) 0 ∗ bigSep Finset.univ fun q : Fin 32 => semVal (lrC l c q) 0)) := by
  rw [slots_own l c fun q => semVal (lrC l c q) 0]
  unfold LaneEnd
  iintro ⟨⟨Hb, Hr, Hs⟩, Hi⟩
  isplitl [Hb]
  · iapply (lane_whole V c l); iexact Hb
  isplitl [Hs]; · iexact Hs
  isplitl [Hi]; · iexact Hi
  iexact Hr

/-- The ends of the lanes: the buffers back, the cells at zero. -/
theorem from_lanes (c : Dev nD) :
    iprop((LaneEnd V 0 c ∗ LaneEnd V 1 c ∗ LaneEnd V 2 c ∗ LaneEnd V 3 c)
        ∗ (semVal (lrC 0 c (place c)) 0 ∗ semVal (lrC 1 c (place c)) 0 ∗ semVal (lrC 2 c (place c)) 0 ∗ semVal (lrC 3 c (place c)) 0))
      ⊢ iprop((bigSep Finset.univ fun l : Fin 4 => iprop(∃ Y, owns (c : Thread nD τ) (lnM l) fullShare Y))
        ∗ bigSep Finset.univ fun l : Fin 4 => iprop(semVal (lsC l c) 0 ∗ bigSep Finset.univ fun q : Fin 32 => semVal (lrC l c q) 0)) := by
  rw [← sep_four fun l => LaneEnd V l c, ← sep_four fun l => semVal (lrC l c (place c)) 0, ← sep_both, ← sep_both]
  exact BI.bigSep_mono fun l _ => from_lane V l c

attribute [local irreducible] instDecidableEqBitVec

/-- What the body leaves: nothing owed, every cell at zero, the buffers, and the result. -/
def done (c : Dev nD) (sx sw : Elt F .f32) : sProp 𝕄 :=
  iprop(owing c 0 ∗ (semVal (barC c) 0 ∗ tcells fun sm => semVal ((c : Thread nD τ), sm) 0) ∗ scratch c
    ∗ owns (c : Thread nD τ) xinM fullShare (X c) ∗ owns (c : Thread nD τ) winM fullShare (W c) ∗ Scl c sx sw
    ∗ owns (c : Thread nD τ) outM fullShare (outV (mkV X W) (k0_pay33 sx sw) c))

theorem finish (c : Dev nD) (sx sw : Elt F .f32) :
    iprop(WaitSt (mkV X W) K c (.dma xsS) 0 32 ∗ XB (mkV X W) c
        ∗ (LaneEnd (mkV X W) 0 c ∗ LaneEnd (mkV X W) 1 c ∗ LaneEnd (mkV X W) 2 c ∗ LaneEnd (mkV X W) 3 c)
        ∗ (bigSep Finset.univ fun l => semVal (lrC l c (place c)) 0) ∗ semVal (barC c) 0 ∗ semVal (xrC c) 0
        ∗ owns (c : Thread nD τ) (rowM c) fullShare ((mkV X W).xo c c)
        ∗ owns (c : Thread nD τ) xinM fullShare (X c) ∗ owns (c : Thread nD τ) winM fullShare (W c) ∗ Scl c sx sw
        ∗ (owns (c : Thread nD τ) (outQ 0) fullShare (fin (mkV X W) (k0_pay33 sx sw) c 0) ∗ owns (c : Thread nD τ) (outQ 1) fullShare (fin (mkV X W) (k0_pay33 sx sw) c 1)
        ∗ owns (c : Thread nD τ) (outQ 2) fullShare (fin (mkV X W) (k0_pay33 sx sw) c 2) ∗ owns (c : Thread nD τ) (outQ 3) fullShare (fin (mkV X W) (k0_pay33 sx sw) c 3)))
      ⊢ done X W c sx sw := by
  unfold done scratch tcells WaitSt
  rw [sep_four fun l => semVal (lrC l c (place c)) 0]
  iintro ⟨⟨-, -, HO, HW⟩, HX, HL, Hi, Hb, Hr, Hrow, Hx, Hw, HS, HA⟩
  ihave ⟨Hs, Hrows⟩ := (wt_end (mkV X W) c (.dma xsS)) $$ HW
  ihave ⟨Hl, Hc⟩ := (from_lanes (mkV X W) c) $$ [HL Hi]
  · isplitl [HL]; · iexact HL
    iexact Hi
  ihave H8 := (rows_back (mkV X W) c) $$ [Hrow Hrows]
  · isplitl [Hrow]; · iexact Hrow
    iexact Hrows
  ihave HX := (xb_back (mkV X W) c) $$ HX
  ihave HA := (out_back (mkV X W) c (k0_pay33 sx sw)) $$ HA
  isplitl [HO]; · iexact HO
  isplitl [Hb Hs Hr Hc]
  · isplitl [Hb]; · iexact Hb
    isplitl [Hs]; · iexact Hs
    isplitl [Hr]; · iexact Hr
    iexact Hc
  isplitl [H8 HX Hl]
  · isplitl [H8]; · iexact H8
    isplitl [HX]; · iexact HX
    iexact Hl
  isplitl [Hx]; · iexact Hx
  isplitl [Hw]; · iexact Hw
  isplitl [HS]; · iexact HS
  iexact HA

theorem idles_close (c : Dev nD) : iprop(records V K ∗ bigSep Finset.univ fun l => idle l c) ⊢ iprop(|={Set.univ}=> bigSep Finset.univ fun l => semVal (lrC l c (place c)) 0) := by
  rw [sep_four fun l => idle l c, sep_four fun l => semVal (lrC l c (place c)) 0]
  iintro ⟨#HR, H0, H1, H2, H3⟩
  imod (idle_close V K 0 c) $$ [H0] with H0
  · isplitr; · iexact HR
    iexact H0
  imod (idle_close V K 1 c) $$ [H1] with H1
  · isplitr; · iexact HR
    iexact H1
  imod (idle_close V K 2 c) $$ [H2] with H2
  · isplitr; · iexact HR
    iexact H2
  imod (idle_close V K 3 c) $$ [H3] with H3
  · isplitr; · iexact HR
    iexact H3
  imodintro
  isplitl [H0]; · iexact H0
  isplitl [H1]; · iexact H1
  isplitl [H2]; · iexact H2
  iexact H3

theorem body (c : Dev nD) (sx sw : Elt F .f32) (A : S128x8192.Idx → Elt F .f32) {Φ : PUnit → sProp 𝕄} :
    iprop(records (mkV X W) K ∗ levAts L lv ∗ owing c (O₀ c) ∗ (spots c ∗ toks c ∗ creds c) ∗ scratch c
        ∗ owns (c : Thread nD τ) xinM fullShare (X c) ∗ owns (c : Thread nD τ) winM fullShare (W c) ∗ Scl c sx sw ∗ owns (c : Thread nD τ) outM fullShare A
        ∗ (done X W c sx sw -∗ Φ ⟨⟩))
      ⊢ wpc c (app (k0_part25 (F := F))) Φ := by
  rw [k0_part25_eq_skeleton]
  delta app k0_part25_skel
  beta_reduce
  unfold spots toks creds scratch tcells
  iintro ⟨#HR, #Hlev, HO, ⟨⟨HaB, HaS, HaR, HaL⟩, ⟨HtB, HtS, HtR, HtL, HtH⟩, ⟨HcB, HcR, HcL⟩⟩, ⟨H8, Hxb, Hln⟩, Hx, Hw, HSc, HA, Hk⟩
  ihave ⟨HS, Hxo, S0, S1, S2, S3⟩ := (to_signals (mkV X W) K c) $$ [HO HtB Hxb Hln]
  · isplitr; · iexact HR
    isplitl [HO]; · iexact HO
    isplitl [HtB]; · iexact HtB
    isplitl [Hxb]; · iexact Hxb
    iexact Hln
  iapply (wpc_bind c)
  iapply (part5 c)
  iapply (wpc_bind c)
  iapply (part6 c)
  iapply (wpc_bind c)
  iapply (part7 c)
  iapply (wpc_bind c)
  iapply (part8 c)
  iapply (wpc_bind c)
  iapply (part9 X W K c (O := OX (rem c 0) + OL c fun _ => 0) (above_add (above_OX _) (above_mono (above_OL c fun _ => Nat.zero_le _) (by decide))) (chk1_ok c) rfl rfl rfl)
  isplitr; · iexact Hlev
  isplitl [HS HcB HaB Hx Hw H8 S0 S1]
  · isplitl [HS]; · iexact HS
    isplitl [HcB]; · iexact HcB
    isplitl [HaB]; · iexact HaB
    isplitl [Hx]; · iexact Hx
    isplitl [Hw]; · iexact Hw
    isplitl [H8]; · iexact H8
    isplitl [S0]; · iexact S0
    iexact S1
  iintro %v ⟨HzB, HO, Hp, Hx, Hw, H8, S0, S1⟩
  ihave ⟨HS, Hrow, Hlo⟩ := (to_sends X W K c) $$ [HO Hp HtS HtR H8]
  · isplitr; · iexact HR
    isplitl [HO]; · iexact HO
    isplitl [Hp]; · iexact Hp
    isplitl [HtS]; · iexact HtS
    isplitl [HtR]; · iexact HtR
    iexact H8
  iapply (wpc_bind c)
  iapply (part10 X W K c (OL c fun _ => 0) (placeW_eq c) (chk1_ok c))
  isplitl [HS]; · iexact HS
  isplitl [Hw S1 S2 S3 Hrow Hxo]
  · isplitl [Hw]; · iexact Hw
    isplitl [S1]; · iexact S1
    isplitl [S2]; · iexact S2
    isplitl [S3]; · iexact S3
    isplitl [Hrow]; · iexact Hrow
    iexact Hxo
  iintro ⟨HS, Hw, S1, S2, S3, Hrow, Hxo⟩
  iapply (wpc_bind c)
  iapply (part11 (mkV X W) K c (OL c fun _ => 0) (placeW_eq c) (chk1_ok c))
  isplitl [HS]; · iexact HS
  iintro HS
  iapply (wpc_bind c)
  iapply (part12 (mkV X W) K c (OL c fun _ => 0) (placeW_eq c) (chk1_ok c))
  isplitl [HS]; · iexact HS
  iintro HS
  iapply (wpc_bind c)
  iapply (part13 (mkV X W) K c (OL c fun _ => 0) (placeW_eq c) (chk1_ok c))
  isplitl [HS]; · iexact HS
  iintro HS
  ihave ⟨HO, HWs⟩ := (to_hops (mkV X W) K c (OL c fun _ => 0)) $$ [HS HaS]
  · isplitl [HS]; · iexact HS
    iexact HaS
  ihave ⟨HL, Hi⟩ := (to_lanes (mkV X W) c) $$ [S0 S1 S2 S3 HaL HcL Hlo HtL HtH]
  · isplitl [S0 S1 S2 S3]
    · isplitl [S0]; · iexact S0
      isplitl [S1]; · iexact S1
      isplitl [S2]; · iexact S2
      iexact S3
    isplitl [HaL]; · iexact HaL
    isplitl [HcL]; · iexact HcL
    isplitl [Hlo]; · iexact Hlo
    isplitl [HtL]; · iexact HtL
    iexact HtH
  iapply (wpc_bind c)
  iapply (part14 (mkV X W) K c (chk1_ok c) (chk2_ok c) (chk3_ok c) (placeW_eq c) (nxtW_eq c) (prvW_eq c))
  isplitr; · iexact HR
  isplitl [HO HL Hxo]
  · isplitl [HO]; · iexact HO
    isplitl [HL]; · iexact HL
    iexact Hxo
  iintro ⟨HO, ⟨L0, L1, L2, L3⟩, Hxo⟩
  ihave HWr := (to_recvs (mkV X W) c) $$ [HaR HcR]
  · isplitl [HaR]; · iexact HaR
    iexact HcR
  ihave ⟨A0, A1, A2, A3⟩ := (out_cut c A) $$ HA
  iapply (wpc_bind c)
  iapply (part15 (mkV X W) K c (O := OL c fun _ => 1) (above_mono (above_OL c fun _ => le_rfl) (by decide)) rfl (chk1_ok c) (placeW_eq c))
  isplitl [HO HWr]
  · unfold WaitSt
    isplitr; · iexact HR
    isplitr; · iexact Hlev
    isplitl [HO]; · iexact HO
    iexact HWr
  isplitl [L1 L2 L3 Hxo A0 A1 A2 A3]
  · isplitl [L1 L2 L3]
    · isplitl [L1]; · iexact L1
      isplitl [L2]; · iexact L2
      iexact L3
    isplitl [Hxo]; · iexact Hxo
    isplitl [A0]; · iexact A0
    isplitl [A1]; · iexact A1
    isplitl [A2]; · iexact A2
    iexact A3
  iintro ⟨HW, ⟨L1, L2, L3⟩, Hxo, HA⟩
  iapply (wpc_bind c)
  iapply (part16 (mkV X W) K c (O := OL c fun _ => 1) (above_mono (above_OL c fun _ => le_rfl) (by decide)) rfl)
  isplitl [HW]; · iexact HW
  iintro HW
  iapply (wpc_bind c)
  iapply (part17 (mkV X W) K c (O := OL c fun _ => 1) (above_mono (above_OL c fun _ => le_rfl) (by decide)) rfl)
  isplitl [HW]; · iexact HW
  iintro HW
  iapply (wpc_bind c)
  iapply (part18 (mkV X W) K c (O := OL c fun _ => 1) (above_mono (above_OL c fun _ => le_rfl) (by decide)) rfl)
  isplitl [HW]; · iexact HW
  iintro HW
  iapply (wpc_bind c)
  iapply (part19 (mkV X W) K c rfl (chk1_ok c) (chk2_ok c) (chk3_ok c) (placeW_eq c) (nxtW_eq c) (prvW_eq c) sx sw)
  isplitl [HW]; · iexact HW
  isplitl [L0 L1 L2 L3 Hxo HA]
  · isplitl [L0 L1 L2 L3]
    · isplitl [L0]; · iexact L0
      isplitl [L1]; · iexact L1
      isplitl [L2]; · iexact L2
      iexact L3
    isplitl [Hxo]; · iexact Hxo
    iexact HA
  isplitl [HSc]; · iexact HSc
  iintro ⟨HO, HX, ⟨L0, L1, L2, L3⟩, HzR, ⟨A0, A1, A2, A3⟩, HSc⟩
  iapply (wpc_bind c)
  iapply (part20 (mkV X W) K c (chk1_ok c) (placeW_eq c) (k0_pay33 sx sw))
  isplitr; · iexact HR
  isplitr; · iexact Hlev
  isplitl [HO HX L1 A0 A1]
  · isplitl [HO]; · iexact HO
    isplitl [HX]; · iexact HX
    isplitl [L1]; · iexact L1
    isplitl [A0]; · iexact A0
    iexact A1
  iintro ⟨HO, HX, L1, A0, A1⟩
  iapply (wpc_bind c)
  iapply (part21 (mkV X W) K c (chk1_ok c) (placeW_eq c) (k0_pay33 sx sw))
  isplitr; · iexact HR
  isplitr; · iexact Hlev
  isplitl [HO HX L2 L3 A2]
  · isplitl [HO]; · iexact HO
    isplitl [HX]; · iexact HX
    isplitl [L2]; · iexact L2
    isplitl [L3]; · iexact L3
    iexact A2
  iintro ⟨HO, HX, L2, L3, A2⟩
  iapply (wpc_bind c)
  iapply (part22 (mkV X W) K c rfl (chk1_ok c) (placeW_eq c) (k0_pay33 sx sw))
  isplitr; · iexact HR
  isplitr; · iexact Hlev
  isplitl [HO HX L3 A3]
  · isplitl [HO]; · iexact HO
    isplitl [HX]; · iexact HX
    isplitl [L3]; · iexact L3
    iexact A3
  isplitl [HWs]; · iexact HWs
  iintro ⟨HW, HX, L3, A3⟩
  iapply (wpc_bind c)
  iapply (part23 (mkV X W) K c (above_zero _) (placeW_eq c) (chk1_ok c))
  isplitl [HW]; · iexact HW
  iintro HW
  iapply (wpc_bind c)
  iapply (part24 (mkV X W) K c (above_zero _) (placeW_eq c) (chk1_ok c))
  isplitl [HW]; · iexact HW
  iintro HW
  simp -zeta only [Prog.lift, Prog.bind_op, Prog.bind_ret, Prog.pure_eq_ret]
  extract_lets
  beta_reduce
  iapply (if_wand c 25 26 (by decide) rfl (WaitSt (mkV X W) K c (.dma xsS) 0) (wait_skip (mkV X W) K c _ 0) (by exact Iff.rfl) (by exact fun _ => rfl) (by exact fun _ => rfl)
    (by exact fun _ hj k => sent_op (mkV X W) K c _ (above_zero _) hj rfl k)) $$ HW
  iintro HW
  iapply (if_wand c 26 27 (by decide) rfl (WaitSt (mkV X W) K c (.dma xsS) 0) (wait_skip (mkV X W) K c _ 0) (by exact Iff.rfl) (by exact fun _ => rfl) (by exact fun _ => rfl)
    (by exact fun _ hj k => sent_op (mkV X W) K c _ (above_zero _) hj rfl k)) $$ HW
  iintro HW
  iapply (if_wand c 27 28 (by decide) rfl (WaitSt (mkV X W) K c (.dma xsS) 0) (wait_skip (mkV X W) K c _ 0) (by exact Iff.rfl) (by exact fun _ => rfl) (by exact fun _ => rfl)
    (by exact fun _ hj k => sent_op (mkV X W) K c _ (above_zero _) hj rfl k)) $$ HW
  iintro HW
  iapply (if_wand c 28 29 (by decide) rfl (WaitSt (mkV X W) K c (.dma xsS) 0) (wait_skip (mkV X W) K c _ 0) (by exact Iff.rfl) (by exact fun _ => rfl) (by exact fun _ => rfl)
    (by exact fun _ hj k => sent_op (mkV X W) K c _ (above_zero _) hj rfl k)) $$ HW
  iintro HW
  iapply (if_wand c 29 30 (by decide) rfl (WaitSt (mkV X W) K c (.dma xsS) 0) (wait_skip (mkV X W) K c _ 0) (by exact Iff.rfl) (by exact fun _ => rfl) (by exact fun _ => rfl)
    (by exact fun _ hj k => sent_op (mkV X W) K c _ (above_zero _) hj rfl k)) $$ HW
  iintro HW
  iapply (if_wand c 30 31 (by decide) rfl (WaitSt (mkV X W) K c (.dma xsS) 0) (wait_skip (mkV X W) K c _ 0) (by exact Iff.rfl) (by exact fun _ => rfl) (by exact fun _ => rfl)
    (by exact fun _ hj k => sent_op (mkV X W) K c _ (above_zero _) hj rfl k)) $$ HW
  iintro HW
  iapply (if_wand c 31 32 (by decide) rfl (WaitSt (mkV X W) K c (.dma xsS) 0) (wait_skip (mkV X W) K c _ 0) (by exact Iff.rfl) (by exact fun _ => rfl) (by exact fun _ => rfl)
    (by exact fun _ hj k => sent_op (mkV X W) K c _ (above_zero _) hj rfl k)) $$ HW
  iintro HW
  imod (idles_close (mkV X W) K c) $$ [Hi] with Hi
  · isplitr; · iexact HR
    iexact Hi
  iapply (wpc_ret c)
  iapply Hk
  iapply (finish X W K c sx sw)
  isplitl [HW]; · iexact HW
  isplitl [HX]; · iexact HX
  isplitl [L0 L1 L2 L3]
  · isplitl [L0]; · iexact L0
    isplitl [L1]; · iexact L1
    isplitl [L2]; · iexact L2
    iexact L3
  isplitl [Hi]; · iexact Hi
  isplitl [HzB]; · iexact HzB
  isplitl [HzR]; · iexact HzR
  isplitl [Hrow]; · iexact Hrow
  isplitl [Hx]; · iexact Hx
  isplitl [Hw]; · iexact Hw
  isplitl [HSc]; · iexact HSc
  isplitl [A0]; · iexact A0
  isplitl [A1]; · iexact A1
  isplitl [A2]; · iexact A2
  iexact A3

end Cert.KernelIdeal.Gather

end
-- ==== Proof.Deal.lean ====
/-
# What the launch deals each device

The cells of every device brought up, the tokens of the duties dealt to the devices that pay them, and the credits for
what the others owe.
-/
module

public import proofs.«01_k».proof.Proof.Body

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (V : Cts F)

/-! ## The cells, kind by kind -/

theorem sep_succ {n : ℕ} (P : Fin (n + 1) → sProp 𝕄) : (bigSep Finset.univ P : sProp 𝕄) = iprop(P 0 ∗ bigSep Finset.univ fun i : Fin n => P i.succ) := by
  rw [sep_take (Finset.mem_univ 0), show (bigSep Finset.univ (fun i : Fin n => P i.succ) : sProp 𝕄) = bigSep (Finset.univ.map (Fin.succEmb n)) P from (BI.bigSep_map (Fin.succEmb n)).symm]
  refine congrArg (fun S => iprop(P 0 ∗ bigSep S P)) (Finset.ext fun i => ?_)
  simp only [Finset.mem_erase, Finset.mem_univ, and_true, Finset.mem_map, true_and, Fin.coe_succEmb]
  exact ⟨fun h => ⟨i.pred h, Fin.succ_pred i h⟩, fun ⟨j, e⟩ => e ▸ Fin.succ_ne_zero j⟩

/-- The transfer semaphores of the kernel. -/
def osem (i : Fin 134) : SemLoc sig := .dma (⟨5 + i.val, by omega⟩ : Fin 139)

theorem csem_zero : csem 0 = .reg barS := rfl
theorem csem_succ (i : Fin 134) : csem i.succ = osem i := by
  unfold csem osem
  rw [if_neg (by rw [Fin.val_succ]; omega)]
  exact congrArg SemLoc.dma (Fin.ext (by simp only [Fin.val_succ]; omega))

theorem sep_osem (P : SemLoc sig → sProp 𝕄) : (bigSep Finset.univ (fun i => P (osem i)) : sProp 𝕄) = tcells P := by
  unfold tcells
  rw [sep_succ (n := 133), sep_succ (n := 132), bigSep_univ_equiv (finProdFinEquiv : Fin 4 × Fin 33 ≃ Fin 132), BI.bigSep_univ_prod]
  refine congrArg (fun R : sProp 𝕄 => iprop(P (.dma xsS) ∗ P (.dma xrS) ∗ R)) (bigSep_congr fun l _ => ?_)
  rw [sep_succ (n := 32)]
  refine congrArg₂ (fun R R' : sProp 𝕄 => iprop(R ∗ R')) ?_ (bigSep_congr fun q _ => ?_)
  · exact congrArg P (congrArg SemLoc.dma (Fin.ext (by simp only [finProdFinEquiv, Equiv.coe_fn_mk, Fin.val_succ, Fin.val_zero]; omega)))
  · exact congrArg P (congrArg SemLoc.dma (Fin.ext (by simp only [finProdFinEquiv, Equiv.coe_fn_mk, Fin.val_succ]; omega)))

theorem sep_csem (P : SemLoc sig → sProp 𝕄) : (bigSep Finset.univ (fun i => P (csem i)) : sProp 𝕄) = iprop(P (.reg barS) ∗ tcells P) := by
  rw [sep_succ (n := 134), ← sep_osem]
  exact congrArg (fun R : sProp 𝕄 => iprop(P (.reg barS) ∗ R)) (bigSep_congr fun i _ => by rw [csem_succ])

theorem tcells_mono {P P' : SemLoc sig → sProp 𝕄} (h : ∀ sm, P sm ⊢ P' sm) : (tcells P : sProp 𝕄) ⊢ tcells P' := by
  rw [← sep_osem, ← sep_osem]
  exact BI.bigSep_mono fun i _ => h _

theorem osem_inj : Function.Injective osem := fun i j e => Fin.ext (by
  have h : (⟨5 + i.val, by omega⟩ : Fin 139) = ⟨5 + j.val, by omega⟩ := SemLoc.dma.inj e
  have := congrArg Fin.val h; simp only at this; omega)
theorem csem_inj : Function.Injective csem := fun i j e => by
  rcases Fin.eq_zero_or_eq_succ i with rfl | ⟨i, rfl⟩ <;> rcases Fin.eq_zero_or_eq_succ j with rfl | ⟨j, rfl⟩
  · rfl
  · rw [csem_zero, csem_succ] at e; exact nomatch e
  · rw [csem_zero, csem_succ] at e; exact nomatch e
  · rw [csem_succ, csem_succ] at e; rw [osem_inj e]
theorem kcell_inj : Function.Injective kcell := fun ⟨c, i⟩ ⟨d, j⟩ e => by
  have h1 : c = d := congrArg (fun g : GSem nD τ sig => g.1.1) e
  have h2 : i = j := csem_inj (congrArg Prod.snd e)
  rw [h1, h2]
def cells : Finset (GSem nD τ sig) := Finset.univ.map ⟨kcell, kcell_inj⟩

/-! ## The tokens, by the device that pays -/

abbrev Pays : Type := Dev nD ⊕ Dev nD ⊕ Dev nD ⊕ (Fin 4 × Fin 31) ⊕ (Fin 4 × Fin 31)
def tokOf (x : Dev nD × Pays) : GSem nD τ sig × ℕ × Dev nD := match x.2 with
  | .inl d => (barC d, 0, x.1)
  | .inr (.inl j) => (xsC x.1, 0, j)
  | .inr (.inr (.inl j)) => (xrC j, 0, x.1)
  | .inr (.inr (.inr (.inl (l, h)))) => (lrC l (tgt l x.1) (slot l x.1 h.val), 0, 0)
  | .inr (.inr (.inr (.inr (l, h)))) => (lsC l x.1, h.val, 0)

def kindOf (g : GSem nD τ sig) : Kd := match g.2 with
  | .reg _ => .st
  | .dma n => kdN n.val
theorem kind_ls (l : Fin 4) (c : Dev nD) : kindOf (lsC l c) = .ls l := kd_ls l
theorem kind_lr (l : Fin 4) (c : Dev nD) (q : Fin 32) : kindOf (lrC l c q) = .lr l q := kd_lr l q

theorem tokOf_inj : Function.Injective tokOf := by
  rintro ⟨c, x⟩ ⟨d, y⟩ e
  have hk : kindOf (tokOf (c, x)).1 = kindOf (tokOf (d, y)).1 := congrArg (fun t => kindOf t.1) e
  have hd : (tokOf (c, x)).1.1.1 = (tokOf (d, y)).1.1.1 := congrArg (fun t : GSem nD τ sig × ℕ × Dev nD => t.1.1.1) e
  have hr : (tokOf (c, x)).2 = (tokOf (d, y)).2 := congrArg Prod.snd e
  rcases x with x | x | x | ⟨l, h⟩ | ⟨l, h⟩ <;> rcases y with y | y | y | ⟨l', h'⟩ | ⟨l', h'⟩ <;>
    simp only [tokOf, kind_ls, kind_lr] at hk hd hr <;> first | exact Kd.noConfusion hk | skip
  · rw [show x = y from hd, (Prod.mk.inj hr).2]
  · rw [show c = d from hd, (Prod.mk.inj hr).2]
  · rw [show x = y from hd, (Prod.mk.inj hr).2]
  · obtain ⟨hl, hs⟩ := Kd.lr.inj hk
    subst hl
    have hc : c = d := by rw [← frm_tgt l c, ← frm_tgt l d]; exact congrArg (frm l) hd
    subst hc
    rw [Fin.ext (slot_inj l c (by omega) (by omega) hs)]
  · rw [show c = d from hd, Kd.ls.inj hk, Fin.ext (Prod.mk.inj hr).1]
def tokens : Finset (GSem nD τ sig × ℕ × Dev nD) := Finset.univ.map ⟨tokOf, tokOf_inj⟩

theorem sep_range31 (P : ℕ → sProp 𝕄) : (bigSep (Finset.range 31) P : sProp 𝕄) = bigSep Finset.univ fun h : Fin 31 => P h.val := by
  rw [show Finset.range 31 = Finset.univ.map (Fin.valEmbedding (n := 31)) from by decide, BI.bigSep_map]; rfl

theorem sep_tokens : (bigSep tokens (fun x => dutyTok ER x.1 x.2.1 x.2.2) : sProp 𝕄) ⊢ bigSep Finset.univ toks := by
  unfold tokens
  rw [BI.bigSep_map, BI.bigSep_univ_prod]
  refine BI.bigSep_mono fun c _ => ?_
  rw [BI.bigSep_univ_sum, BI.bigSep_univ_sum, BI.bigSep_univ_sum, BI.bigSep_univ_sum, BI.bigSep_univ_prod, BI.bigSep_univ_prod]
  unfold toks
  simp only [sep_range31]
  exact BI.sep_mono (BI.Entails.refl _) (BI.sep_mono (BI.bigSep_subset (Finset.erase_subset _ _)) (BI.sep_mono (BI.bigSep_subset (Finset.erase_subset _ _)) (BI.Entails.refl _)))

/-! ## Bringing the cells up -/

/-- What the launch element deals device `c`: its cells' states and marks, its positions, and its tokens. -/
def dealt (c : Dev nD) : sProp 𝕄 :=
  iprop((bigSep Finset.univ fun i => roundState ER (Rd V) (kcell (c, i)) 0) ∗ (bigSep Finset.univ fun i => reached ER (kcell (c, i)) 0) ∗ spots c ∗ toks c)

theorem sep_cells (P : GSem nD τ sig → sProp 𝕄) : (bigSep cells P : sProp 𝕄) = bigSep Finset.univ fun c => bigSep Finset.univ fun i => P (kcell (c, i)) := by
  unfold cells
  rw [BI.bigSep_map, BI.bigSep_univ_prod]; rfl

theorem deal : BI.own (ER (initOf cells tokens)) ⊢ (|==> bigSep Finset.univ (dealt V) : sProp 𝕄) := by
  have hs (c : Dev nD) : (bigSep Finset.univ (fun i => atPos ER (kcell (c, i)) 0 ∅ 0) : sProp 𝕄) = spots c :=
    sep_csem fun sm => atPos ER ((c : Thread nD τ), sm) 0 ∅ 0
  iintro HX
  imod (Rounds.fund ER (Rd V) cells tokens) $$ HX with ⟨Hst, Hr, Hat, Htok⟩
  imodintro
  ihave Hst := (Entails.of_eq (sep_cells fun g => roundState ER (Rd V) g 0)) $$ Hst
  ihave Hat := (Entails.of_eq ((sep_cells fun g => atPos ER g 0 ∅ 0).trans (bigSep_congr fun c _ => hs c))) $$ Hat
  ihave Hr := (Entails.of_eq (sep_cells fun g => reached ER g 0)) $$ Hr
  ihave Htok := (sep_tokens (F := F)) $$ Htok
  unfold dealt
  rw [sep_both, sep_both, sep_both]
  isplitl [Hst]; · iexact Hst
  isplitl [Hr]; · iexact Hr
  isplitl [Hat]; · iexact Hat
  iexact Htok

/-- What a device goes in with: the shared records, its positions and its tokens. -/
def ready (c : Dev nD) : sProp 𝕄 := iprop(∃ K, records V K ∗ spots c ∗ toks c)

abbrev ownS (c : Dev nD) : sProp 𝕄 := Pipeline.ownSems0 (Ix := Unit) (Name := ℕ) (U := UU) (Lvl := ℕ) (Val := Elt F) (τ := τ) osem c

theorem ownS_eq (c : Dev nD) : (ownS c : sProp 𝕄) = tcells fun sm => semVal ((c : Thread nD τ), sm) 0 :=
  sep_osem fun sm => semVal ((c : Thread nD τ), sm) 0
theorem unscoped_eq (c : Dev nD) : (unscopedSems0 c : sProp 𝕄) = semVal (barC c) 0 := by
  unfold unscopedSems0; rw [bigSep_eq_bigSepL_of_eq [SemLoc.reg barS] (by decide +kernel) (by decide)]; rfl

theorem bring_up (c : Dev nD) : (iprop(ownS c ∗ unscopedSems0 c ∗ dealt V c) : sProp 𝕄)
    ⊢ |={Set.univ}=> iprop((bigSep Finset.univ fun i => iprop(∃ κ : ℕ, cellInv ER (Rd V) κ (kcell (c, i)))) ∗ (bigSep Finset.univ fun i => reached ER (kcell (c, i)) 0)
        ∗ spots c ∗ toks c) := by
  have hv : iprop(semVal (barC c) 0 ∗ tcells fun sm => semVal ((c : Thread nD τ), sm) 0) = (bigSep Finset.univ (fun i => semVal (kcell (c, i)) 0) : sProp 𝕄) :=
    (sep_csem fun sm => semVal ((c : Thread nD τ), sm) 0).symm
  rw [ownS_eq, unscoped_eq]
  unfold dealt
  iintro ⟨Ho, Hu, Hst, Hr, Hat, Htok⟩
  ihave Hv := (Entails.of_eq hv) $$ [Ho Hu]
  · isplitl [Hu]; · iexact Hu
    iexact Ho
  imod (show iprop((bigSep Finset.univ fun i => semVal (kcell (c, i)) 0) ∗ bigSep Finset.univ fun i => roundState ER (Rd V) (kcell (c, i)) 0)
      ⊢ (|={Set.univ}=> bigSep Finset.univ fun i => iprop(∃ κ : ℕ, cellInv ER (Rd V) κ (kcell (c, i))) : sProp 𝕄) from by
        rw [← sep_both]
        exact (BI.bigSep_mono fun i _ => (Rounds.body_intro ER (Rd V) (kcell (c, i))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  iexact Htok

theorem ready_of (K : Dev nD × Fin 135 → ℕ) (c : Dev nD) : iprop(records V K ∗ spots c ∗ toks c) ⊢ ready V c := by
  unfold ready
  iintro H
  iexists K; iexact H

theorem share_out : (bigSep Finset.univ fun c : Dev nD => iprop((bigSep Finset.univ fun i => iprop(∃ κ : ℕ, cellInv ER (Rd V) κ (kcell (c, i))))
      ∗ (bigSep Finset.univ fun i => reached ER (kcell (c, i)) 0) ∗ spots c ∗ toks c) : sProp 𝕄) ⊢ bigSep Finset.univ (ready V) := by
  rw [sep_both, sep_both, ← BI.bigSep_univ_prod (fun ck : Dev nD × Fin 135 => iprop(∃ κ : ℕ, cellInv ER (Rd V) κ (kcell ck))),
    ← BI.bigSep_univ_prod (fun ck : Dev nD × Fin 135 => (reached ER (kcell ck) 0 : sProp 𝕄))]
  iintro ⟨HI, #HR, Hl⟩
  ihave HK := (BI.bigSep_exists_pi Finset.univ (fun (ck : Dev nD × Fin 135) (κ : ℕ) => (cellInv ER (Rd V) κ (kcell ck) : sProp 𝕄))) $$ HI
  icases HK with ⟨%K, #HI⟩
  iapply (show iprop(records V K ∗ bigSep Finset.univ fun c => iprop(spots c ∗ toks c)) ⊢ bigSep Finset.univ (ready V) from
    (sep_mono_left (BI.bigSep_of_persistent Finset.univ (records V K))).trans
      (by rw [← sep_both]; exact BI.bigSep_mono fun c _ => ready_of V K c))
  isplitr
  · unfold records; rw [sep_both]
    isplitl; · iexact HI
    iexact HR
  iexact Hl

theorem all_up : (bigSep Finset.univ fun c => iprop(ownS c ∗ unscopedSems0 c ∗ dealt V c) : sProp 𝕄) ⊢ |={Set.univ}=> bigSep Finset.univ (ready V) :=
  ((BI.bigSep_mono fun c _ => bring_up V c).trans (bigSep_fupd _ _)).trans (BI.fupd_mono (share_out V))

/-! ## The credits -/

/-- What every device owes on one device's cells comes to that device as credit. -/
theorem launch_on {D : Dev nD → CellTallies nD τ sig Unit} {c : Dev nD} (h : ∀ d g, D d g ≠ 0 → g.1 = (c : Thread nD τ)) :
    (Pipeline.launchCred D c : sProp 𝕄) = bigSep Finset.univ fun d => cred (D d) := by
  rw [← Pipeline.cred_finsetSum, Pipeline.cred_core (c := c) (T := ∑ d, D d) (fun g hg => by
    by_contra hn
    exact hg (by rw [Finset.sum_apply]; exact Finset.sum_eq_zero fun d _ => by by_contra hd; exact hn (h d g hd)))]
  unfold Pipeline.launchCred
  exact bigSep_congr fun sm _ => by rw [Pipeline.tallyOn_launchCredit_owing]

theorem launch_pick {D : Dev nD → CellTallies nD τ sig Unit} {c : Dev nD} (e : Dev nD) (h : ∀ g, D e g ≠ 0 → g.1 = (c : Thread nD τ)) :
    (Pipeline.launchCred D c : sProp 𝕄) ⊢ cred (D e) := by
  have hD : D = fun d => ∑ x, if x = d then D x else 0 := funext fun d => by rw [Finset.sum_ite_eq' Finset.univ d D, if_pos (Finset.mem_univ _)]
  have h1 : (Pipeline.launchCred D c : sProp 𝕄) ⊢ Pipeline.launchCred (fun d => if e = d then D e else 0) c := by
    rw [hD, Pipeline.launchCred_sum Finset.univ (fun x d => if x = d then D x else 0), ← hD]
    exact BI.bigSep_elim (Finset.mem_univ e)
  refine h1.trans ?_
  rw [launch_on (c := c) (D := fun d => if e = d then D e else 0) fun d g hg => by
    by_cases hd : e = d
    · rw [if_pos hd] at hg; exact h g hg
    · rw [if_neg hd] at hg; exact absurd rfl hg]
  refine (BI.bigSep_elim (Finset.mem_univ e)).trans ?_
  rw [if_pos rfl]; exact BI.Entails.refl _

theorem tally_on {c d : Dev nD} {sm : SemLoc sig} {k : ℕ} (e : d = c) (g : GSem nD τ sig) (h : tallyAt ((d : Thread nD τ), sm) () k g ≠ 0) : g.1 = (c : Thread nD τ) := by
  subst e
  by_contra hn
  exact h (tallyAt_ne_cell (fun hg => hn (by rw [hg])) () k)

theorem cred_bar (c : Dev nD) : (Pipeline.launchCred (fun _ => OB Finset.univ) c : sProp 𝕄) ⊢ cred (tallyAt (barC c) () 32) := by
  unfold OB
  rw [Pipeline.launchCred_sum Finset.univ (fun e _ => tallyAt (barC e) () 1)]
  refine (BI.bigSep_elim (Finset.mem_univ c)).trans ?_
  rw [launch_on (c := c) fun d g hg => tally_on rfl g hg, ← Pipeline.cred_finsetSum]
  have h (S : Finset (Dev nD)) : (∑ _d ∈ S, tallyAt (barC c) () 1 : CellTallies nD τ sig Unit) = tallyAt (barC c) () S.card := by
    induction S using Finset.induction_on with
    | empty => rw [Finset.sum_empty, Finset.card_empty, tallyAt_zero]
    | insert d S hd ih => rw [Finset.sum_insert hd, ih, tallyAt_add, Finset.card_insert_of_notMem hd, Nat.add_comm]
  rw [h, Finset.card_univ, Fintype.card_fin]
  exact BI.Entails.refl _

theorem cred_x (c : Dev nD) :
    (Pipeline.launchCred (fun d => OX (Finset.univ.erase d)) c : sProp 𝕄) ⊢ bigSep (Finset.univ.erase c) fun _ : Dev nD => cred (tallyAt (xrC c) () NX) := by
  have hO : (fun d : Dev nD => OX (Finset.univ.erase d)) = fun d => ∑ e, if e = d then 0 else tallyAt (xrC e) () NX := funext fun d => by
    unfold OX
    rw [← Finset.add_sum_erase _ _ (Finset.mem_univ d), if_pos rfl, zero_add]
    exact Finset.sum_congr rfl fun e he => (if_neg (Finset.ne_of_mem_erase he)).symm
  rw [hO, Pipeline.launchCred_sum Finset.univ (fun e d => if e = d then 0 else tallyAt (xrC e) () NX)]
  refine (BI.bigSep_elim (Finset.mem_univ c)).trans ?_
  rw [launch_on (c := c) fun d g hg => by
    by_cases hd : c = d
    · rw [if_pos hd] at hg; exact absurd rfl hg
    · rw [if_neg hd] at hg; exact tally_on rfl g hg]
  refine (BI.bigSep_subset (Finset.erase_subset c _)).trans ?_
  exact BI.bigSep_mono fun d hd => by rw [if_neg (Finset.ne_of_mem_erase hd).symm]; exact BI.Entails.refl _

theorem cred_l (c : Dev nD) : (Pipeline.launchCred (fun d => OL d fun _ => 0) c : sProp 𝕄)
    ⊢ bigSep Finset.univ fun l : Fin 4 => bigSep (Finset.range 31) fun h => cred (tallyAt (lrC l c (slot l c (h + 1))) () NW) := by
  unfold OL
  rw [Pipeline.launchCred_sum Finset.univ fun (l : Fin 4) d => ∑ h ∈ Finset.Ico 0 31, tallyAt (lrC l (tgt l d) (slot l d h)) () NW]
  refine BI.bigSep_mono fun l _ => ?_
  rw [Pipeline.launchCred_sum (Finset.Ico 0 31) fun h d => tallyAt (lrC l (tgt l d) (slot l d h)) () NW, ← Finset.range_eq_Ico]
  refine BI.bigSep_mono fun h _ => ?_
  refine (launch_pick (frm l c) fun g hg => tally_on (tgt_frm l c) g hg).trans ?_
  rw [tgt_frm, ← slot_tgt l (frm l c) h, tgt_frm]

theorem credits (c : Dev nD) : (Pipeline.launchCred O₀ c : sProp 𝕄) ⊢ creds c := by
  unfold O₀ creds
  rw [Pipeline.launchCred_add (fun _ => OB Finset.univ) fun d => OX (Finset.univ.erase d) + OL d fun _ => 0,
    Pipeline.launchCred_add (fun d => OX (Finset.univ.erase d)) fun d => OL d fun _ => 0]
  exact BI.sep_mono (cred_bar c) (BI.sep_mono (cred_x c) (cred_l c))

end Cert.KernelIdeal.Gather

end
-- ==== Proof.Run.lean ====
/-
# The run

The body at the contents the launch stages, the launch itself, and what every final state holds.
-/
module

public import proofs.«01_k».proof.Proof.Deal
public import proofs.«01_k».proof.Proof.Gen.KernelIdeal.Launch
public import proofs.«01_k».proof.Proof.Gen.KernelIdeal.Points
public import Idealize.ShloMosaic.Adequacy
public import Idealize.ShloMosaic.Init
public import Idealize.ShloMosaic.Lib.Pipeline.CollectiveSegs

@[expose] public section

noncomputable section

namespace Cert.KernelIdeal.Gather

open Cert.KernelIdeal Cert.KernelIdeal.Gen Cert.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ

variable (m : (ℓ : Loc nD τ sig) → Buf (Elt F) ℓ) (ρ : Dev nD → PrngReg)

/-! ## Contents -/

/-- What the launch stages on a device: the activations, the weights, the two scales. -/
def stX (c : Dev nD) : S4096x128.Idx → Elt F .fp8e4m3 := (win0_0.blk (0 : Fin 1)).view.read (Elt F) (m ((c : Thread nD τ).loc main_arg0))
def stW (c : Dev nD) : S128x8192.Idx → Elt F .fp8e4m3 := (win0_1.blk (0 : Fin 1)).view.read (Elt F) (m ((c : Thread nD τ).loc main_arg1))
def stA (c : Dev nD) : S1.Idx → Elt F .f32 := (win0_2.blk (0 : Fin 1)).view.read (Elt F) (m ((c : Thread nD τ).loc main_arg2))
def stB (c : Dev nD) : S1.Idx → Elt F .f32 := (win0_3.blk (0 : Fin 1)).view.read (Elt F) (m ((c : Thread nD τ).loc main_arg3))
def one0 : S1.Idx := fun a => ⟨0, by fin_cases a; decide⟩
theorem one_eq (i : S1.Idx) : i = one0 := funext fun a => by
  fin_cases a; exact Fin.ext (by have := (i 0).isLt; show (i 0).val = 0; have h : S1.size 0 = 1 := rfl; omega)
theorem const_one {β : Type} (f : S1.Idx → β) : (fun _ => f one0) = f := funext fun i => by rw [one_eq i]

abbrev stV : Cts F := mkV (stX m) (stW m)
/-- What a device ends with. -/
def outR (c : Dev nD) : S128x8192.Idx → Elt F .f32 := outV (stV m) (k0_pay33 (stA m c one0) (stB m c one0)) c

/-! ## The launch's view of the body -/

def start (c : Dev nD) : sProp 𝕄 := iprop(ready (stV m) c ∗ creds c ∗ levAts L lv)
def zeros (c : Dev nD) : sProp 𝕄 := iprop(semVal (barC c) 0 ∗ tcells fun sm => semVal ((c : Thread nD τ), sm) 0)

def dats (_ : Fin 1) (c : Dev nD) : Dat τ (Elt F) Unit ℕ UU ℕ cfg0 c where
  A w := m ((cfg0.win w).arr.view.loc (c : Thread nD τ))
  after w _ := match w with
    | ⟨0, _⟩ => stX m c
    | ⟨1, _⟩ => stW m c
    | ⟨2, _⟩ => stA m c
    | ⟨3, _⟩ => stB m c
    | ⟨4, _⟩ => outR m c
  Φ t := match t with
    | ⟨0, _⟩ => iprop(start m c ∗ scratch c)
    | ⟨_ + 1, _⟩ => iprop(zeros c ∗ scratch c)
  q _ := fullShare
  owed t := match t with
    | ⟨0, _⟩ => O₀ c
    | ⟨_ + 1, _⟩ => 0

def stBefore (c : Dev nD) : sProp 𝕄 :=
  iprop((start m c ∗ scratch c) ∗ (dats m 0 c).owesAt () t0_0.castSucc
    ∗ (∃ d, owns (c : Thread nD τ) xinM fullShare ((dats m 0 c).before (0 : Fin 5) t0_0 d)) ∗ (∃ d, owns (c : Thread nD τ) winM fullShare ((dats m 0 c).before (1 : Fin 5) t0_0 d))
    ∗ (∃ d, owns (c : Thread nD τ) sxM fullShare ((dats m 0 c).before (2 : Fin 5) t0_0 d)) ∗ (∃ d, owns (c : Thread nD τ) swM fullShare ((dats m 0 c).before (3 : Fin 5) t0_0 d))
    ∗ (∃ d, owns (c : Thread nD τ) outM fullShare ((dats m 0 c).before (4 : Fin 5) t0_0 d)))
def stAfter (c : Dev nD) : sProp 𝕄 :=
  iprop((zeros c ∗ scratch c) ∗ (dats m 0 c).owesAt () t0_0.succ
    ∗ owns (c : Thread nD τ) xinM fullShare (stX m c) ∗ owns (c : Thread nD τ) winM fullShare (stW m c)
    ∗ owns (c : Thread nD τ) sxM fullShare (stA m c) ∗ owns (c : Thread nD τ) swM fullShare (stB m c)
    ∗ owns (c : Thread nD τ) outM fullShare (outR m c))

theorem before_x (c : Dev nD) (d) : (dats m 0 c).before (0 : Fin 5) t0_0 d = stX m c := by unfold Dat.before; rw [if_pos (fetch0_0 t0_0)]; rfl
theorem before_w (c : Dev nD) (d) : (dats m 0 c).before (1 : Fin 5) t0_0 d = stW m c := by unfold Dat.before; rw [if_pos (fetch0_1 t0_0)]; rfl
theorem before_a (c : Dev nD) (d) : (dats m 0 c).before (2 : Fin 5) t0_0 d = stA m c := by unfold Dat.before; rw [if_pos (fetch0_2 t0_0)]; rfl
theorem before_b (c : Dev nD) (d) : (dats m 0 c).before (3 : Fin 5) t0_0 d = stB m c := by unfold Dat.before; rw [if_pos (fetch0_3 t0_0)]; rfl

theorem owing_in (c : Dev nD) : (dats m 0 c).owesAt () t0_0.castSucc ⊢ (owing c (O₀ c) : sProp 𝕄) := by
  unfold Dat.owesAt Pipeline.owesWithin owing
  iintro ⟨%W, %hW, HO⟩
  iexists W; iexact HO
theorem owing_out (c : Dev nD) : (owing c 0 : sProp 𝕄) ⊢ (dats m 0 c).owesAt () t0_0.succ := by
  unfold Dat.owesAt Pipeline.owesWithin owing
  iintro ⟨%W, HO⟩
  iexists W
  isplitr; · ipureintro; exact fun _ _ => Or.inl trivial
  iexact HO

theorem scl_eq (c : Dev nD) : (Scl c (stA m c one0) (stB m c one0) : sProp 𝕄)
    = iprop(owns (c : Thread nD τ) sxM fullShare (stA m c) ∗ owns (c : Thread nD τ) swM fullShare (stB m c)) := by
  unfold Scl; rw [const_one, const_one]

theorem done_after (c : Dev nD) : done (stX m) (stW m) c (stA m c one0) (stB m c one0) ⊢ stAfter m c := by
  unfold done stAfter zeros
  rw [scl_eq]
  iintro ⟨HO, Hz, Hs, Hx, Hw, ⟨Ha, Hb⟩, HA⟩
  isplitl [Hz Hs]
  · isplitl [Hz]; · iexact Hz
    iexact Hs
  isplitl [HO]; · iapply (owing_out m c); iexact HO
  isplitl [Hx]; · iexact Hx
  isplitl [Hw]; · iexact Hw
  isplitl [Ha]; · iexact Ha
  isplitl [Hb]; · iexact Hb
  iexact HA

theorem staged_body (c : Dev nD) (Ψ : PUnit → sProp 𝕄) : iprop(stBefore m c ∗ (stAfter m c -∗ Ψ ⟨⟩)) ⊢ wpc c (app (k0_part25 (F := F))) Ψ := by
  unfold stBefore start ready
  simp only [before_x, before_w, before_a, before_b]
  iintro ⟨⟨⟨⟨⟨%K, HR, Hsp, Ht⟩, Hc, Hl⟩, Hs⟩, HO, ⟨%d0, Hx⟩, ⟨%d1, Hw⟩, ⟨%d2, Ha⟩, ⟨%d3, Hb⟩, ⟨%d4, HA⟩⟩, Hk⟩
  ihave HO := (owing_in m c) $$ HO
  iapply (body (stX m) (stW m) K c (stA m c one0) (stB m c one0) _)
  rw [scl_eq]
  isplitl [HR]; · iexact HR
  isplitl [Hl]; · iexact Hl
  isplitl [HO]; · iexact HO
  isplitl [Hsp Ht Hc]
  · isplitl [Hsp]; · iexact Hsp
    isplitl [Ht]; · iexact Ht
    iexact Hc
  isplitl [Hs]; · iexact Hs
  isplitl [Hx]; · iexact Hx
  isplitl [Hw]; · iexact Hw
  isplitl [Ha Hb]
  · isplitl [Ha]; · iexact Ha
    iexact Hb
  isplitl [HA]; · iexact HA
  iintro H
  iapply Hk
  iapply (done_after m c); iexact H

theorem whole_body (c : Dev nD) : stBefore m c ⊢ wpc c (app (cc0_body (F := F))) fun _ => stAfter m c := by
  rw [cc0_body_eq_skeleton]
  delta app cc0_body_skel
  beta_reduce
  iintro H
  iapply (wpc_bind c)
  iapply (staged_body m c _)
  isplitl [H]; · iexact H
  iintro H
  iapply (wpc_ret c); iexact H

set_option maxRecDepth 4000 in
theorem body_ok (c : Dev nD) : BodyObligation (dats (F := F) m 0 c) (defs₀ (F := F)) 𝒱₀ () Set.univ := fun t => by
  rw [fin_N0 t, bigSep_W0, bigSep_W0]
  exact whole_body m c

/-! ## The launch -/

theorem stage_small : ∀ (w : Fin 5) (s : Fin (spec0 w).nbuf), ((spec0 w).sem s).val < 5 := by decide

theorem own_facts : Pipeline.OwnSemFacts cfg0.spec osem where
  isScoped := by decide +kernel
  inj := osem_inj
  disj k w s e := by
    have h : (⟨5 + k.val, by omega⟩ : Fin 139) = (cfg0.spec w).sem s := SemLoc.dma.inj e
    have h2 : 5 + k.val = ((cfg0.spec w).sem s).val := congrArg Fin.val h
    have h3 : ((cfg0.spec w).sem s).val < 5 := stage_small w s
    omega

theorem whole_to (c : Dev nD) (b : Ref sig .tc) :
    (iprop(∃ f : Buf (Elt F) ((c : Thread nD τ).loc b), ((c : Thread nD τ).loc b) ↦{fullShare} f) : sProp 𝕄)
      ⊢ iprop(∃ Y, owns (c : Thread nD τ) (Memref.whole b) fullShare Y) := by
  unfold owns
  simp only [Memref.view_whole, View.read_whole, View.set_whole]
  iintro ⟨%f, H⟩
  iexists f, f
  isplitr; · (ipureintro; rfl)
  iexact H
theorem whole_from (c : Dev nD) (b : Ref sig .tc) :
    (iprop(∃ Y, owns (c : Thread nD τ) (Memref.whole b) fullShare Y) : sProp 𝕄)
      ⊢ iprop(∃ f : Buf (Elt F) ((c : Thread nD τ).loc b), ((c : Thread nD τ).loc b) ↦{fullShare} f) := by
  unfold owns
  simp only [Memref.view_whole, View.read_whole, View.set_whole]
  iintro ⟨%Y, %f, %hf, H⟩
  iexists f; iexact H
theorem any_whole (c : Dev nD) (b : Ref sig .tc) :
    (iprop(∃ f : Buf (Elt F) ((c : Thread nD τ).loc b), ((c : Thread nD τ).loc b) ↦{fullShare} f) : sProp 𝕄)
      = iprop(∃ Y, owns (c : Thread nD τ) (Memref.whole b) fullShare Y) := BI.Entails.antisymm (whole_to c b) (whole_from c b)

theorem rest_eq (c : Dev nD) : (Pipeline.scopedRest (Ix := Unit) (Name := ℕ) (U := UU) (Lvl := ℕ) (Val := Elt F) (τ := τ) spec0 c : sProp 𝕄) = scratch c := by
  rw [scopedRest0_eq]
  unfold scratch
  rw [sep_four]
  simp only [any_whole]
  rfl

theorem start_in (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (stV m) c) ⊢ |={Set.univ}=> iprop(start m c ∗ emp) := by
  iintro ⟨-, Hl, Hc, -, HG⟩
  ihave Hc := (credits (F := F) c) $$ Hc
  imodintro
  unfold start
  isplitl
  · isplitl [HG]; · iexact HG
    isplitl [Hc]; · iexact Hc
    iexact Hl
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, rest_eq]
  iintro ⟨Hs, -, Hr⟩
  isplitl [Hs]; · iexact Hs
  iexact Hr

theorem leave (c : Dev nD) :
    (dats m 0 c).Φ (Fin.last cfg0.N) ⊢ iprop(unscopedSems0 c ∗ ownS c ∗ Pipeline.scopedRest cfg0.spec c) := by
  rw [show (dats m 0 c).Φ (Fin.last cfg0.N) = iprop(zeros c ∗ scratch c) from rfl, rest_eq, ownS_eq, unscoped_eq]
  unfold zeros
  iintro ⟨⟨Hb, Ht⟩, Hr⟩
  isplitl [Hb]; · iexact Hb
  isplitl [Ht]; · iexact Ht
  iexact Hr

theorem above_O₀ (c : Dev nD) : Above 0 (O₀ c) :=
  above_add (above_OB _) (above_add (above_mono (above_OX _) (Nat.zero_le 1)) (above_mono (above_OL c fun _ => Nat.zero_le _) (Nat.zero_le 3)))

theorem stage_level (c : Dev nD) (w : Fin 5) (s : Fin (cfg0.win w).nbuf) : lv ((c : Thread nD τ), .dma ((cfg0.win w).sem s)) () = 0 := by
  fin_cases w <;> fin_cases s <;> rfl

theorem stage_waits (c : Dev nD) : (levAts L lv : sProp 𝕄) ⊢ Pipeline.cellsWaits cfgs (dats m) () 0 c :=
  Pipeline.cellsWaits_intro cfgs (dats m) () 0 c fun w s t =>
    mayWait_above (by
      rw [stage_level c w s]
      rcases t with ⟨_ | _, ht⟩
      · exact above_O₀ c
      · exact above_zero 0)

def launched : UU := (initOf (Pipeline.cells cfgs cellOf_inj) (Pipeline.launchToks cfgs cellOf_inj), initOf cells tokens)

/-- An array after the run. -/
def finalA (c : Dev nD) (w : Fin cfg0.W) : Buf (Elt F) ((cfg0.win w).arr.view.loc (c : Thread nD τ)) := (dats m 0 c).arrAt w cfg0.N

set_option maxRecDepth 8000 in
/-- From any memory with zero counters every weakly fair execution ends, with each device's arrays at `finalA` and every
    counter at zero. -/
theorem run_main : θ_run (defs (F := F)) (onTc (τ := τ) (main (F := F))) ⟨m, fun _ => 0, ρ⟩
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_ok m) (hne := block_pos0) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := stage_waits m)
    (G := dealt (stV m)) (G' := ready (stV m)) (u₀ := launched)
    (hu₀ := by
      unfold launched
      iintro Hu
      ihave H := (ownU_pair _ _) $$ Hu
      icases H with ⟨HP, HX⟩
      imod (deal (stV m)) $$ HX with HG
      imodintro
      isplitl [HP]; · iexact HP
      iexact HG)
    (hglob := all_up (stV m))
    (hA := fun _ _ => rfl) (hpf := fun _ k => k.elim0)
    (X := start m) (Y := fun c => unscopedSems0 c) (Z := fun _ => iprop(emp))
    (hX := start_in m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-! ## The arrays afterwards -/

theorem kept0 (c : Dev nD) : finalA m c (0 : Fin 5) = m ((c : Thread nD τ).loc main_arg0) := (dats m 0 c).arrAt_in (0 : Fin 5) rfl _
theorem kept1 (c : Dev nD) : finalA m c (1 : Fin 5) = m ((c : Thread nD τ).loc main_arg1) := (dats m 0 c).arrAt_in (1 : Fin 5) rfl _
theorem kept2 (c : Dev nD) : finalA m c (2 : Fin 5) = m ((c : Thread nD τ).loc main_arg2) := (dats m 0 c).arrAt_in (2 : Fin 5) rfl _
theorem kept3 (c : Dev nD) : finalA m c (3 : Fin 5) = m ((c : Thread nD τ).loc main_arg3) := (dats m 0 c).arrAt_in (3 : Fin 5) rfl _

/-- The four arguments are as before. -/
def Kept (s : MemSt nD τ sig (Elt F)) (c : Dev nD) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)

theorem kept_of (s : MemSt nD τ sig (Elt F)) (c : Dev nD) (h : ∀ (w : Fin cfg0.W), s.mem ((cfg0.win w).arr.view.loc (c : Thread nD τ)) = finalA m c w) :
    Kept m s c :=
  ⟨(h (0 : Fin 5)).trans (kept0 m c), (h (1 : Fin 5)).trans (kept1 m c), (h (2 : Fin 5)).trans (kept2 m c), (h (3 : Fin 5)).trans (kept3 m c)⟩

theorem run_kept : θ_run (defs (F := F)) (onTc (τ := τ) (main (F := F))) ⟨m, fun _ => 0, ρ⟩
    (fun r => (∀ c : Dev nD, Kept m r.2 c) ∧ r.2.sem = fun _ => 0) :=
  (θ_run defs _ _).mono (fun r h => ⟨fun c => kept_of m r.2 c (h.1 c), h.2⟩) (run_main m ρ)

end Cert.KernelIdeal.Gather

end
-- ==== Proof.Sum.lean ====
/-
# The sum over the devices

Over the reals a device's result is the product of its rows of the whole matrix by the other whole matrix: each of the
thirty-two partial products is one device's share of the contracted axis, and the ring passes every device once.
-/
module

public import proofs.«01_k».proof.Proof.Run
public import Idealize.ShloMosaic.Lib.Pipeline.ValueKit
public import Idealize.ShloMosaic.Lib.Pointwise

@[expose] public section

set_option maxRecDepth 16384

noncomputable section

namespace Cert.KernelIdeal.Gather

open Cert.KernelIdeal Cert.KernelIdeal.Gen Idealize.ShloMosaic Idealize.ShloMosaic.TcCoe Idealize.ShloMosaic.Tactic Idealize.SL.Sem

/-! ## One device's result, from the staged blocks -/

section
variable (V : Cts Ideal) (s : EReal) (c : Dev nD) (l : Fin 4)

/-- The partial product of hop `h`. -/
def part (h : ℕ) (r : Fin 128) (j : Fin 2048) : EReal := ∑ k : Fin 128, V.xb c (slot l c h) (ix3 0 r k) * V.at l c h (ix3 0 k j)

theorem acc_sum (n : ℕ) (r : Fin 128) (j : Fin 2048) : AQ V c l n (ix2 r j) = ∑ h ∈ Finset.range (n + 1), part V c l h r j := by
  induction n with
  | zero =>
    rw [Finset.sum_range_one]
    show k0_pay28 (V.xb c (slot l c 0)) (V.at l c 0) (ix2 r j) = part V c l 0 r j
    generalize hx : V.xb c (slot l c 0) = x
    generalize hw : V.at l c 0 = w
    unfold part
    rw [hx, hw]
    pointwise [k0_pay28]
  | succ n ih =>
    rw [Finset.sum_range_succ, ← ih]
    show k0_pay1 (AQ V c l n) (V.xb c (slot l c (n + 1))) (V.at l c (n + 1)) (ix2 r j) = AQ V c l n (ix2 r j) + part V c l (n + 1) r j
    generalize hx : V.xb c (slot l c (n + 1)) = x
    generalize hw : V.at l c (n + 1) = w
    generalize AQ V c l n = a
    unfold part
    rw [hx, hw]
    pointwise [k0_pay1]

theorem fin_sum (r : Fin 128) (j : Fin 2048) : fin V s c l (ix2 r j) = (∑ h ∈ Finset.range 32, part V c l h r j) * s := by
  rw [Finset.sum_range_succ, ← acc_sum V c l 30]
  unfold fin part
  generalize AQ V c l 30 = a
  generalize V.xb c (slot l c 31) = x
  generalize V.at l c 31 = w
  pointwise [k0_pay35]

end

/-- A sum over the hops is a sum over the devices. -/
theorem sum_hops (l : Fin 4) (c : Dev nD) (G : Dev nD → EReal) : (∑ h ∈ Finset.range 32, G (dev (slot l c h))) = ∑ d, G d :=
  Finset.sum_bij (fun h _ => dev (slot l c h)) (fun _ _ => Finset.mem_univ _)
    (fun h hh h' hh' e => slot_inj l c (Finset.mem_range.1 hh) (Finset.mem_range.1 hh') (by rw [← place_dev (slot l c h), e, place_dev]))
    (fun d _ => by
      obtain ⟨h, hh, e⟩ := slot_surj l c (place d)
      exact ⟨h, Finset.mem_range.2 hh, by rw [e, dev_place]⟩)
    (fun _ _ => rfl)

/-- A sum over the contracted axis is a sum over the devices of the sums over their shares. -/
theorem sum_shares (f : Fin 4096 → EReal) : (∑ k, f k) = ∑ d : Fin 32, ∑ k : Fin 128, f ⟨d.val * 128 + k.val, by omega⟩ := by
  rw [← Fintype.sum_prod_type', ← Equiv.sum_comp (finProdFinEquiv (m := 32) (n := 128)) f]
  refine Finset.sum_congr rfl fun p _ => congrArg f (Fin.ext ?_)
  show p.2.val + 128 * p.1.val = p.1.val * 128 + p.2.val
  omega

/-- Row `r` of device `c`'s rows, and column `j` of lane `l`'s columns, in the whole. -/
def rowOf (c : Dev nD) (r : Fin 128) : Fin 4096 := ⟨c.val * 128 + r.val, by have h : c.val < 32 := c.isLt; omega⟩
def colOf (l : Fin 4) (j : Fin 2048) : Fin 8192 := ⟨2048 * l.val + j.val, by omega⟩

section
variable (X : Dev nD → S4096x128.Idx → EReal) (W : Dev nD → S128x8192.Idx → EReal)

/-- Device `d`'s share of an element of device `c`'s result. -/
def share (c : Dev nD) (r : Fin 128) (j : Fin 8192) (d : Dev nD) : EReal := ∑ k : Fin 128, X d (ix2 (rowOf c r) k) * W d (ix2 k j)

theorem xb_at (c : Dev nD) (q : Fin 32) (r k : Fin 128) : (mkV (F := Ideal) X W).xb c q (ix3 0 r k) = X (dev q) (ix2 (rowOf c r) k) := by
  unfold Cts.xb mkV
  pointwise [k0_pay24, k0_pay18]
  refine congrArg _ (funext fun a => Fin.ext ?_)
  fin_cases a
  · show 128 * c.val + 1 * r.val = c.val * 128 + r.val
    omega
  · show 0 + 1 * k.val = k.val
    omega
theorem wb_at (l : Fin 4) (d : Dev nD) (k : Fin 128) (j : Fin 2048) : (mkV (F := Ideal) X W).wb l d (ix3 0 k j) = W d (ix2 k (colOf l j)) := by
  unfold mkV
  pointwise [k0_pay19]
  refine congrArg _ (funext fun a => Fin.ext ?_)
  fin_cases a
  · show 0 + 1 * k.val = k.val
    omega
  · show 2048 * l.val + 1 * j.val = 2048 * l.val + j.val
    omega

theorem part_share (c : Dev nD) (l : Fin 4) (h : ℕ) (r : Fin 128) (j : Fin 2048) :
    part (mkV (F := Ideal) X W) c l h r j = share X W c r (colOf l j) (dev (slot l c h)) :=
  Finset.sum_congr rfl fun k _ => congrArg₂ (· * ·) (xb_at X W c (slot l c h) r k) (wb_at X W l (dev (slot l c h)) k j)

theorem fin_devices (s : EReal) (c : Dev nD) (l : Fin 4) (r : Fin 128) (j : Fin 2048) :
    fin (mkV (F := Ideal) X W) s c l (ix2 r j) = (∑ d, share X W c r (colOf l j) d) * s := by
  rw [fin_sum, ← sum_hops l c (share X W c r (colOf l j))]
  simp only [part_share]

theorem out_devices (s : EReal) (c : Dev nD) (r : Fin 128) (j : Fin 8192) :
    outV (mkV (F := Ideal) X W) s c (ix2 r j) = (∑ d, share X W c r j d) * s := by
  have hl : j.val / 2048 < 4 := by omega
  have hj : j.val % 2048 < 2048 := Nat.mod_lt _ (by decide)
  have e : (ix2 r j : S128x8192.Idx) = (cR ⟨j.val / 2048, hl⟩).emb (ix2 r (⟨j.val % 2048, hj⟩ : Fin 2048)) := by
    refine funext fun a => Fin.ext ?_
    fin_cases a
    · show r.val = 0 + 1 * r.val
      omega
    · show j.val = 2048 * (j.val / 2048) + 1 * (j.val % 2048)
      omega
  have ej : colOf ⟨j.val / 2048, hl⟩ ⟨j.val % 2048, hj⟩ = j := Fin.ext (by show 2048 * (j.val / 2048) + j.val % 2048 = j.val; omega)
  rw [e, outV_emb]
  refine (fin_devices X W s c ⟨j.val / 2048, hl⟩ r ⟨j.val % 2048, hj⟩).trans ?_
  rw [ej]

end

end Cert.KernelIdeal.Gather

end
-- ==== Proof.Ref.lean ====
/-
# The reference's result

The reference runs its body once over the whole arrays; its result is the body's one stored value, at the arguments.
-/
module

public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.ReferenceIdeal.Whole

open Cert.ReferenceIdeal Cert.ReferenceIdeal.Gen Idealize.ShloMosaic Idealize.ShloMosaic.TcCoe Idealize.ShloMosaic.Tactic Idealize.SL.Sem

variable (m : (ℓ : Loc nD τ sig) → Buf (Elt Ideal) ℓ) (ρ : Dev nD → PrngReg)

def aX (c : Dev nD) : S4096x4096.Idx → EReal := m ((c : Thread nD τ).loc main_arg0)
def aW (c : Dev nD) : S4096x8192.Idx → EReal := m ((c : Thread nD τ).loc main_arg1)
def aA (c : Dev nD) : S1.Idx → EReal := m ((c : Thread nD τ).loc main_arg2)
def aB (c : Dev nD) : S1.Idx → EReal := m ((c : Thread nD τ).loc main_arg3)

/-- The reference's result: the product of the two matrices times the product of the two scales. -/
def whole (c : Dev nD) : S4096x8192.Idx → EReal := fun i =>
  (∑ k : Fin 4096, aX m c (ix2 (i 0) k) * aW m c (ix2 k (i 1))) * (aA m c (ix1 0) * aB m c (ix1 0))

theorem emb0 (y : S4096x4096.Idx) : (win0_0.blk t0_0).view.emb y = y := by
  refine funext fun a => Fin.ext ?_
  fin_cases a <;> exact (Nat.zero_add _).trans (Nat.one_mul _)
theorem emb1 (y : S4096x8192.Idx) : (win0_1.blk t0_0).view.emb y = y := by
  refine funext fun a => Fin.ext ?_
  fin_cases a <;> exact (Nat.zero_add _).trans (Nat.one_mul _)
theorem one_first (y : S1.Idx) : y = ix1 0 := by idx_vars y; exact congrArg ix1 (Subsingleton.elim _ _)

theorem stagedX (c : Dev nD) : iblk m c 0 t0_0 = aX m c := by
  unfold iblk; funext y; blk_simp; exact congrArg _ (emb0 y)
theorem stagedW (c : Dev nD) : iblk m c 1 t0_0 = aW m c := by
  unfold iblk; funext y; blk_simp; exact congrArg _ (emb1 y)
theorem stagedA (c : Dev nD) (y : S1.Idx) : iblk m c 2 t0_0 y = aA m c (ix1 0) := by
  unfold iblk; blk_simp; exact congrArg _ (one_first _)
theorem stagedB (c : Dev nD) (y : S1.Idx) : iblk m c 3 t0_0 y = aB m c (ix1 0) := by
  unfold iblk; blk_simp; exact congrArg _ (one_first _)

theorem result (c : Dev nD) : (dats m 0 c).arrAt 4 cfg0.N = whole m c := by
  refine (dats m 0 c).arrAt_eq_of_after_last 4 t0_0 (by decide +kernel) _ fun j => ?_
  blk_simp
  rw [after0_4, outsAt0]
  frame_out
  erw [Memref.IsWhole.read_unread, Memref.IsWhole.read_unread, Memref.IsWhole.read_unread, Memref.IsWhole.read_unread]
  idx_vars j
  pointwise [k0_pay1]
  rw [stagedX, stagedW, stagedA, stagedB]
  rfl

/-- From any memory with zero counters the reference ends with its result at `whole`, its arguments unchanged. -/
theorem run_whole : θ_run (defs (F := Ideal)) (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result m c), (h c).2⟩) (Value.run_blocks m ρ)

end Cert.ReferenceIdeal.Whole

end
-- ==== Proof.Value.lean ====
/-
# The value claim

Device `c`'s result is block `c` of the reference's, over the reals.
-/
module

public import proofs.«01_k».proof.Defs
public import proofs.«01_k».proof.Proof.Sum
public import proofs.«01_k».proof.Proof.Ref

@[expose] public section

set_option maxRecDepth 16384

noncomputable section

namespace Cert.KernelIdeal.Gather

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ)

/-! ## The staged blocks are the arguments -/

theorem embX (y : S4096x128.Idx) : (win0_0.blk t0_0).view.emb y = y := by
  refine funext fun a => Fin.ext ?_
  fin_cases a <;> exact (Nat.zero_add _).trans (Nat.one_mul _)
theorem embW (y : S128x8192.Idx) : (win0_1.blk t0_0).view.emb y = y := by
  refine funext fun a => Fin.ext ?_
  fin_cases a <;> exact (Nat.zero_add _).trans (Nat.one_mul _)
theorem at_one0 (y : S1.Idx) : y = ix1 0 := (one_eq y).trans (one_eq (ix1 0)).symm

theorem stX_eq (c : Dev nD) : stX m c = m ((c : Thread nD τ).loc main_arg0) := funext fun y => congrArg (m ((c : Thread nD τ).loc main_arg0)) (embX y)
theorem stW_eq (c : Dev nD) : stW m c = m ((c : Thread nD τ).loc main_arg1) := funext fun y => congrArg (m ((c : Thread nD τ).loc main_arg1)) (embW y)
theorem stA_eq (c : Dev nD) (y : S1.Idx) : stA m c y = m ((c : Thread nD τ).loc main_arg2) (ix1 0) := congrArg (m ((c : Thread nD τ).loc main_arg2)) (at_one0 _)
theorem stB_eq (c : Dev nD) (y : S1.Idx) : stB m c y = m ((c : Thread nD τ).loc main_arg3) (ix1 0) := congrArg (m ((c : Thread nD τ).loc main_arg3)) (at_one0 _)

/-- The result array after the run. -/
theorem result_is (c : Dev nD) : finalA m c (4 : Fin 5) = outR m c := by
  refine (dats m 0 c).arrAt_eq_of_after_last 4 t0_0 (by decide +kernel) _ fun j => ?_
  blk_simp
  rfl

/-! ## Blocks -/

variable (m' : (ℓ : Loc Cert.ReferenceIdeal.nD Cert.ReferenceIdeal.τ Cert.ReferenceIdeal.sig) → Buf (Elt Ideal) ℓ)

theorem colsX (c : Dev nD) (v : (⟨2, ![4096, 4096]⟩ : Shape).Idx → EReal) (i : Fin 4096) (k : Fin 128) :
    Layout.block ⟨2, ![4096, 128]⟩ ⟨2, ![4096, 4096]⟩ 1 32 c v (by decide) (ix2 i k) = v (ix2 i (rowOf c k)) := by
  rw [Layout.block_apply]
  refine congrArg v (funext fun a => Fin.ext ?_)
  rw [Layout.Tiles.idx_val]
  fin_cases a <;> rfl
theorem rowsW (c : Dev nD) (v : (⟨2, ![4096, 8192]⟩ : Shape).Idx → EReal) (k : Fin 128) (j : Fin 8192) :
    Layout.block ⟨2, ![128, 8192]⟩ ⟨2, ![4096, 8192]⟩ 0 32 c v (by decide) (ix2 k j) = v (ix2 (rowOf c k) j) := by
  rw [Layout.block_apply]
  refine congrArg v (funext fun a => Fin.ext ?_)
  rw [Layout.Tiles.idx_val]
  fin_cases a <;> rfl

open Cert.ReferenceIdeal.Whole (aX aW aA aB whole)

theorem out_block (c : Dev nD)
    (hX : ∀ d : Dev nD, m ((d : Thread nD τ).loc main_arg0) = Layout.block ⟨2, ![4096, 128]⟩ ⟨2, ![4096, 4096]⟩ 1 32 d (aX m' 0))
    (hW : ∀ d : Dev nD, m ((d : Thread nD τ).loc main_arg1) = Layout.block ⟨2, ![128, 8192]⟩ ⟨2, ![4096, 8192]⟩ 0 32 d (aW m' 0))
    (hA : m ((c : Thread nD τ).loc main_arg2) = aA m' 0) (hB : m ((c : Thread nD τ).loc main_arg3) = aB m' 0) :
    outR m c = Layout.block ⟨2, ![128, 8192]⟩ ⟨2, ![4096, 8192]⟩ 0 32 c (whole m' 0) := by
  funext i
  obtain ⟨r, j, rfl⟩ : ∃ (r : Fin 128) (j : Fin 8192), i = ix2 r j := ⟨i 0, i 1, eq_ix2 i⟩
  refine Eq.trans ?_ (rowsW c (whole m' 0) r j).symm
  refine (out_devices (stX m) (stW m) (k0_pay33 (F := Ideal) (stA m c one0) (stB m c one0)) c r j).trans ?_
  refine congrArg₂ (· * ·) ?_ ?_
  · refine Eq.trans ?_ (sum_shares fun k => aX m' 0 (ix2 (rowOf c r) k) * aW m' 0 (ix2 k j)).symm
    refine Finset.sum_congr rfl fun d _ => Finset.sum_congr rfl fun k _ => congrArg₂ (· * ·) ?_ ?_
    · rw [stX_eq, hX d]; exact colsX d (aX m' 0) (rowOf c r) k
    · rw [stW_eq, hW d]; exact rowsW d (aW m' 0) k j
  · refine congrArg₂ (· * ·) ?_ ?_
    · rw [stA_eq, hA]
    · rw [stB_eq, hB]

end Cert.KernelIdeal.Gather

namespace Cert.Value

open Idealize.ShloMosaic Idealize.ShloMosaic.TcCoe Idealize.SL.Sem

theorem algebraic : Cert.algebraic_KernelIdeal_ReferenceIdeal (hKernelIdeal := Cert.KernelIdeal.Gen.facts) (hReferenceIdeal := Cert.ReferenceIdeal.Gen.facts) :=
  fun m ρ m' ρ' _ h =>
    ⟨Cert.ReferenceIdeal.Whole.whole m' 0,
      (θ_run Cert.KernelIdeal.defs _ _).mono (fun r hr c =>
          ⟨((hr.1 c (4 : Fin 5)).trans (Cert.KernelIdeal.Gather.result_is m c)).trans
              (Cert.KernelIdeal.Gather.out_block m m' c (fun d => (h d).1) (fun d => (h d).2.1) (h c).2.2.1 (h c).2.2.2),
            Cert.KernelIdeal.Gather.kept_of m r.2 c (hr.1 c)⟩)
        (Cert.KernelIdeal.Gather.run_main (F := Ideal) m ρ),
      (θ_run Cert.ReferenceIdeal.defs _ _).mono (fun _ hr => hr 0) (Cert.ReferenceIdeal.Whole.run_whole m' ρ')⟩

end Cert.Value

end
-- ==== Proof.lean ====
/-
# The claims

The frames of the kernel, of its idealization and of the reference, the empty preservation claim, and the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Run
public import proofs.«01_k».proof.Proof.Value
public import Idealize.ShloMosaic.Lib.Tactic

@[expose] public section

noncomputable section

namespace Cert.Proof

open Idealize.ShloMosaic Idealize.ShloMosaic.Tactic Idealize.SL.Sem

/-- The kernel's text is the idealization's, and so is its run at the words of the machine. -/
theorem defs_same : Cert.Kernel.defs (F := Bits) = Cert.KernelIdeal.defs (F := Bits) := by sl_kernel_rfl

theorem frame_kernel : Cert.quiescent_Kernel (hKernel := Cert.Kernel.Gen.facts) := fun m ρ _ => by
  rw [defs_same]
  exact Cert.KernelIdeal.Gather.run_kept (F := Bits) m ρ

theorem frame_ideal : Cert.quiescent_KernelIdeal (hKernelIdeal := Cert.KernelIdeal.Gen.facts) := fun m ρ _ =>
  Cert.KernelIdeal.Gather.run_kept (F := Ideal) m ρ

theorem frame_reference : Cert.quiescent_ReferenceIdeal (hReferenceIdeal := Cert.ReferenceIdeal.Gen.facts) := fun m ρ _ =>
  Cert.ReferenceIdeal.Gen.frame m ρ

theorem claim : Cert.Claim :=
  ⟨Cert.Kernel.Gen.facts, Cert.KernelIdeal.Gen.facts, Cert.ReferenceIdeal.Gen.facts, frame_kernel, frame_ideal, frame_reference, trivial, Cert.Value.algebraic⟩

end Cert.Proof

end
